-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x768x13x13 : Shape := ⟨4, ![1024, 768, 13, 13]⟩
abbrev S13x13x1024x768 : Shape := ⟨4, ![13, 13, 1024, 768]⟩
abbrev S169x1024x768 : Shape := ⟨3, ![169, 1024, 768]⟩
abbrev S49x1024x768 : Shape := ⟨3, ![49, 1024, 768]⟩
abbrev S2x169x256 : Shape := ⟨3, ![2, 169, 256]⟩
abbrev S2x49x256 : Shape := ⟨3, ![2, 49, 256]⟩
abbrev S2 : Shape := ⟨1, ![2]⟩
abbrev S16 : Shape := ⟨1, ![16]⟩
abbrev S1x1x16 : Shape := ⟨3, ![1, 1, 16]⟩
abbrev S1x169x256 : Shape := ⟨3, ![1, 169, 256]⟩
abbrev S169x256 : Shape := ⟨2, ![169, 256]⟩
abbrev S169x1x256 : Shape := ⟨3, ![169, 1, 256]⟩
abbrev S1 : Shape := ⟨1, ![1]⟩
abbrev S_ : Shape := ⟨0, ![]⟩
abbrev S1x49x256 : Shape := ⟨3, ![1, 49, 256]⟩
abbrev S49x256 : Shape := ⟨2, ![49, 256]⟩
abbrev S49x1x256 : Shape := ⟨3, ![49, 1, 256]⟩
abbrev S7x7x1024x768 : Shape := ⟨4, ![7, 7, 1024, 768]⟩
abbrev S1024x768x7x7 : Shape := ⟨4, ![1024, 768, 7, 7]⟩

abbrev nBuf : Table → Nat
  | .hbm => 6
  | .local .scVector .vmem => 2
  | _ => 0

abbrev bufTy : (tb : Table) → Fin (nBuf tb) → BufTy
  | .hbm, ⟨0, _⟩ => ⟨S1024x768x13x13, .f32⟩
  | .hbm, ⟨1, _⟩ => ⟨S13x13x1024x768, .f32⟩
  | .hbm, ⟨2, _⟩ => ⟨S169x1024x768, .f32⟩
  | .hbm, ⟨3, _⟩ => ⟨S49x1024x768, .f32⟩
  | .hbm, ⟨4, _⟩ => ⟨S7x7x1024x768, .f32⟩
  | .hbm, ⟨5, _⟩ => ⟨S1024x768x7x7, .f32⟩
  | .local .scVector .vmem, ⟨0, _⟩ => ⟨S2x169x256, .f32⟩
  | .local .scVector .vmem, ⟨1, _⟩ => ⟨S2x49x256, .f32⟩
  | _, _ => ⟨S1024x768x13x13, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32 : BitVec 32 := 24576#32
  let v1539 : BitVec 32 := Scalar.muli v1 c24576_i32
  let c0_i32_1504 : BitVec 32 := 0#32
  let v1540 : BitVec 32 := Scalar.addi v1539 c0_i32_1504
  let c768_i32_1511 : BitVec 32 := 768#32
  let c0_i32_1512 : BitVec 32 := 0#32
  let v1558 : BitVec 1 := Scalar.cmpi .eq c768_i32_1511 c0_i32_1512
  let c1_i32_1513 : BitVec 32 := 1#32
  let v1559 : BitVec 32 := Scalar.select v1558 c1_i32_1513 c768_i32_1511
  let v1560 : BitVec 32 := Scalar.remsi v1540 v1559
  let c0_i32_1515 : BitVec 32 := 0#32
  let v1562 : BitVec 1 := Scalar.cmpi .slt v1560 c0_i32_1515
  let c0_i32_1516 : BitVec 32 := 0#32
  let v1563 : BitVec 1 := Scalar.cmpi .slt v1559 c0_i32_1516
  let v1564 : BitVec 1 := Scalar.xori v1562 v1563
  let c0_i32_1514 : BitVec 32 := 0#32
  let v1561 : BitVec 1 := Scalar.cmpi .ne v1560 c0_i32_1514
  let v1565 : BitVec 1 := Scalar.andi v1564 v1561
  let v1566 : BitVec 32 := Scalar.addi v1560 v1559
  let v1567 : BitVec 32 := Scalar.select v1565 v1566 v1560
  v1567
def k0_off1 (i : grid0.Coords) : Fin 3 → Nat :=
  let c0_i32_1521 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32 : BitVec 32 := 24576#32
  let v1539 : BitVec 32 := Scalar.muli v1 c24576_i32
  let c0_i32_1504 : BitVec 32 := 0#32
  let v1540 : BitVec 32 := Scalar.addi v1539 c0_i32_1504
  let c0_i32_1505 : BitVec 32 := 0#32
  let v1542 : BitVec 1 := Scalar.cmpi .sgt v1540 c0_i32_1505
  let v1543 : BitVec 32 := Scalar.extui v1542
  let c0_i32_1506 : BitVec 32 := 0#32
  let v1544 : BitVec 1 := Scalar.cmpi .slt v1540 c0_i32_1506
  let v1545 : BitVec 32 := Scalar.extui v1544
  let v1546 : BitVec 32 := Scalar.subi v1543 v1545
  let c768_i32 : BitVec 32 := 768#32
  let c0_i32_1507 : BitVec 32 := 0#32
  let v1547 : BitVec 1 := Scalar.cmpi .sgt c768_i32 c0_i32_1507
  let v1548 : BitVec 32 := Scalar.extui v1547
  let c0_i32_1508 : BitVec 32 := 0#32
  let v1549 : BitVec 1 := Scalar.cmpi .slt c768_i32 c0_i32_1508
  let v1550 : BitVec 32 := Scalar.extui v1549
  let v1551 : BitVec 32 := Scalar.subi v1548 v1550
  let v1552 : BitVec 1 := Scalar.cmpi .ne v1546 v1551
  let v1553 : BitVec 32 := Scalar.remsi v1540 c768_i32
  let c0_i32_1509 : BitVec 32 := 0#32
  let v1554 : BitVec 1 := Scalar.cmpi .ne v1553 c0_i32_1509
  let v1555 : BitVec 1 := Scalar.andi v1552 v1554
  let v1541 : BitVec 32 := Scalar.divsi v1540 c768_i32
  let c1_i32_1510 : BitVec 32 := 1#32
  let v1556 : BitVec 32 := Scalar.subi v1541 c1_i32_1510
  let v1557 : BitVec 32 := Scalar.select v1555 v1556 v1541
  let c768_i32_1511 : BitVec 32 := 768#32
  let c0_i32_1512 : BitVec 32 := 0#32
  let v1558 : BitVec 1 := Scalar.cmpi .eq c768_i32_1511 c0_i32_1512
  let c1_i32_1513 : BitVec 32 := 1#32
  let v1559 : BitVec 32 := Scalar.select v1558 c1_i32_1513 c768_i32_1511
  let v1560 : BitVec 32 := Scalar.remsi v1540 v1559
  let c0_i32_1515 : BitVec 32 := 0#32
  let v1562 : BitVec 1 := Scalar.cmpi .slt v1560 c0_i32_1515
  let c0_i32_1516 : BitVec 32 := 0#32
  let v1563 : BitVec 1 := Scalar.cmpi .slt v1559 c0_i32_1516
  let v1564 : BitVec 1 := Scalar.xori v1562 v1563
  let c0_i32_1514 : BitVec 32 := 0#32
  let v1561 : BitVec 1 := Scalar.cmpi .ne v1560 c0_i32_1514
  let v1565 : BitVec 1 := Scalar.andi v1564 v1561
  let v1566 : BitVec 32 := Scalar.addi v1560 v1559
  let v1567 : BitVec 32 := Scalar.select v1565 v1566 v1560
  let v1568 : BitVec 32 := v1567
  ![0, v1557.toNat, v1568.toNat]
@[reducible] def k0_t1_loop : Scf.Loop 32 :=
  let c0_i32_1526 : BitVec 32 := 0#32
  let c48_i32_1527 : BitVec 32 := 48#32
  let v1579 : BitVec 32 := Scalar.addi c0_i32_1526 c48_i32_1527
  let c1_i32_1528 : BitVec 32 := 1#32
  ⟨c0_i32_1526, v1579, c1_i32_1528⟩
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1576 : BitVec 32 := 24576#32
  let v1662 : BitVec 32 := Scalar.muli v1 c24576_i32_1576
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c256_i32 : BitVec 32 := 256#32
  let v1663 : BitVec 32 := Scalar.muli v1661 c256_i32
  let v1664 : BitVec 32 := Scalar.addi v1662 v1663
  let c768_i32_1584 : BitVec 32 := 768#32
  let c0_i32_1585 : BitVec 32 := 0#32
  let v1682 : BitVec 1 := Scalar.cmpi .eq c768_i32_1584 c0_i32_1585
  let c1_i32_1586 : BitVec 32 := 1#32
  let v1683 : BitVec 32 := Scalar.select v1682 c1_i32_1586 c768_i32_1584
  let v1684 : BitVec 32 := Scalar.remsi v1664 v1683
  let c0_i32_1588 : BitVec 32 := 0#32
  let v1686 : BitVec 1 := Scalar.cmpi .slt v1684 c0_i32_1588
  let c0_i32_1589 : BitVec 32 := 0#32
  let v1687 : BitVec 1 := Scalar.cmpi .slt v1683 c0_i32_1589
  let v1688 : BitVec 1 := Scalar.xori v1686 v1687
  let c0_i32_1587 : BitVec 32 := 0#32
  let v1685 : BitVec 1 := Scalar.cmpi .ne v1684 c0_i32_1587
  let v1689 : BitVec 1 := Scalar.andi v1688 v1685
  let v1690 : BitVec 32 := Scalar.addi v1684 v1683
  let v1691 : BitVec 32 := Scalar.select v1689 v1690 v1684
  v1691
def k0_cond1 (k0_t1 : Fin k0_t1_loop.trips) : BitVec 1 :=
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c1_i32_1590 : BitVec 32 := 1#32
  let v1693 : BitVec 32 := Scalar.addi v1661 c1_i32_1590
  let c96_i32 : BitVec 32 := 96#32
  let v1694 : BitVec 1 := Scalar.cmpi .slt v1693 c96_i32
  let v1695 : BitVec 32 := Scalar.extui v1694
  let c0_i32_1591 : BitVec 32 := 0#32
  let v1696 : BitVec 1 := Scalar.cmpi .ne v1695 c0_i32_1591
  v1696

def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c1_i32_1655 : BitVec 32 := 1#32
  let v1782 : BitVec 32 := Scalar.addi v1661 c1_i32_1655
  let c256_i32_1657 : BitVec 32 := 256#32
  let v1784 : BitVec 32 := Scalar.muli v1782 c256_i32_1657
  let v1785 : BitVec 32 := Scalar.addi v1783 v1784
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  v1812
def k0_off2 (i : grid0.Coords) (k0_t1 : Fin k0_t1_loop.trips) : Fin 3 → Nat :=
  let c0_i32_1675 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c1_i32_1655 : BitVec 32 := 1#32
  let v1782 : BitVec 32 := Scalar.addi v1661 c1_i32_1655
  let c256_i32_1657 : BitVec 32 := 256#32
  let v1784 : BitVec 32 := Scalar.muli v1782 c256_i32_1657
  let v1785 : BitVec 32 := Scalar.addi v1783 v1784
  let c0_i32_1659 : BitVec 32 := 0#32
  let v1787 : BitVec 1 := Scalar.cmpi .sgt v1785 c0_i32_1659
  let v1788 : BitVec 32 := Scalar.extui v1787
  let c0_i32_1660 : BitVec 32 := 0#32
  let v1789 : BitVec 1 := Scalar.cmpi .slt v1785 c0_i32_1660
  let v1790 : BitVec 32 := Scalar.extui v1789
  let v1791 : BitVec 32 := Scalar.subi v1788 v1790
  let c768_i32_1658 : BitVec 32 := 768#32
  let c0_i32_1661 : BitVec 32 := 0#32
  let v1792 : BitVec 1 := Scalar.cmpi .sgt c768_i32_1658 c0_i32_1661
  let v1793 : BitVec 32 := Scalar.extui v1792
  let c0_i32_1662 : BitVec 32 := 0#32
  let v1794 : BitVec 1 := Scalar.cmpi .slt c768_i32_1658 c0_i32_1662
  let v1795 : BitVec 32 := Scalar.extui v1794
  let v1796 : BitVec 32 := Scalar.subi v1793 v1795
  let v1797 : BitVec 1 := Scalar.cmpi .ne v1791 v1796
  let v1798 : BitVec 32 := Scalar.remsi v1785 c768_i32_1658
  let c0_i32_1663 : BitVec 32 := 0#32
  let v1799 : BitVec 1 := Scalar.cmpi .ne v1798 c0_i32_1663
  let v1800 : BitVec 1 := Scalar.andi v1797 v1799
  let v1786 : BitVec 32 := Scalar.divsi v1785 c768_i32_1658
  let c1_i32_1664 : BitVec 32 := 1#32
  let v1801 : BitVec 32 := Scalar.subi v1786 c1_i32_1664
  let v1802 : BitVec 32 := Scalar.select v1800 v1801 v1786
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  let v1813 : BitVec 32 := v1812
  ![0, v1802.toNat, v1813.toNat]
def k0_cond2 (k0_t1 : Fin k0_t1_loop.trips) : BitVec 1 :=
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c2_i32_1592 : BitVec 32 := 2#32
  let v1697 : BitVec 1 := Scalar.cmpi .sge v1661 c2_i32_1592
  let v1698 : BitVec 32 := Scalar.extui v1697
  let c0_i32_1593 : BitVec 32 := 0#32
  let v1699 : BitVec 1 := Scalar.cmpi .ne v1698 c0_i32_1593
  v1699

def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c2_i32_1655 : BitVec 32 := 2#32
  let v1782 : BitVec 32 := Scalar.subi v1661 c2_i32_1655
  let c256_i32_1657 : BitVec 32 := 256#32
  let v1784 : BitVec 32 := Scalar.muli v1782 c256_i32_1657
  let v1785 : BitVec 32 := Scalar.addi v1783 v1784
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  v1812
def k0_off3 (i : grid0.Coords) (k0_t1 : Fin k0_t1_loop.trips) : Fin 3 → Nat :=
  let c0_i32_1675 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let c0_i32_1575 : BitVec 32 := 0#32
  let v1661 : BitVec 32 := Scalar.addi v1660 c0_i32_1575
  let c2_i32_1655 : BitVec 32 := 2#32
  let v1782 : BitVec 32 := Scalar.subi v1661 c2_i32_1655
  let c256_i32_1657 : BitVec 32 := 256#32
  let v1784 : BitVec 32 := Scalar.muli v1782 c256_i32_1657
  let v1785 : BitVec 32 := Scalar.addi v1783 v1784
  let c0_i32_1659 : BitVec 32 := 0#32
  let v1787 : BitVec 1 := Scalar.cmpi .sgt v1785 c0_i32_1659
  let v1788 : BitVec 32 := Scalar.extui v1787
  let c0_i32_1660 : BitVec 32 := 0#32
  let v1789 : BitVec 1 := Scalar.cmpi .slt v1785 c0_i32_1660
  let v1790 : BitVec 32 := Scalar.extui v1789
  let v1791 : BitVec 32 := Scalar.subi v1788 v1790
  let c768_i32_1658 : BitVec 32 := 768#32
  let c0_i32_1661 : BitVec 32 := 0#32
  let v1792 : BitVec 1 := Scalar.cmpi .sgt c768_i32_1658 c0_i32_1661
  let v1793 : BitVec 32 := Scalar.extui v1792
  let c0_i32_1662 : BitVec 32 := 0#32
  let v1794 : BitVec 1 := Scalar.cmpi .slt c768_i32_1658 c0_i32_1662
  let v1795 : BitVec 32 := Scalar.extui v1794
  let v1796 : BitVec 32 := Scalar.subi v1793 v1795
  let v1797 : BitVec 1 := Scalar.cmpi .ne v1791 v1796
  let v1798 : BitVec 32 := Scalar.remsi v1785 c768_i32_1658
  let c0_i32_1663 : BitVec 32 := 0#32
  let v1799 : BitVec 1 := Scalar.cmpi .ne v1798 c0_i32_1663
  let v1800 : BitVec 1 := Scalar.andi v1797 v1799
  let v1786 : BitVec 32 := Scalar.divsi v1785 c768_i32_1658
  let c1_i32_1664 : BitVec 32 := 1#32
  let v1801 : BitVec 32 := Scalar.subi v1786 c1_i32_1664
  let v1802 : BitVec 32 := Scalar.select v1800 v1801 v1786
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  let v1813 : BitVec 32 := v1812
  ![0, v1802.toNat, v1813.toNat]
def k0_off4 (i : grid0.Coords) (k0_t1 : Fin k0_t1_loop.trips) (c0_i32_1575 : BitVec 32) : Fin 3 → Nat :=
  let c0_i32_1598 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1576 : BitVec 32 := 24576#32
  let v1662 : BitVec 32 := Scalar.muli v1 c24576_i32_1576
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let v1661 : BitVec 32 := Scalar.addi v1660 c0_i32_1575
  let c256_i32 : BitVec 32 := 256#32
  let v1663 : BitVec 32 := Scalar.muli v1661 c256_i32
  let v1664 : BitVec 32 := Scalar.addi v1662 v1663
  let c0_i32_1578 : BitVec 32 := 0#32
  let v1666 : BitVec 1 := Scalar.cmpi .sgt v1664 c0_i32_1578
  let v1667 : BitVec 32 := Scalar.extui v1666
  let c0_i32_1579 : BitVec 32 := 0#32
  let v1668 : BitVec 1 := Scalar.cmpi .slt v1664 c0_i32_1579
  let v1669 : BitVec 32 := Scalar.extui v1668
  let v1670 : BitVec 32 := Scalar.subi v1667 v1669
  let c768_i32_1577 : BitVec 32 := 768#32
  let c0_i32_1580 : BitVec 32 := 0#32
  let v1671 : BitVec 1 := Scalar.cmpi .sgt c768_i32_1577 c0_i32_1580
  let v1672 : BitVec 32 := Scalar.extui v1671
  let c0_i32_1581 : BitVec 32 := 0#32
  let v1673 : BitVec 1 := Scalar.cmpi .slt c768_i32_1577 c0_i32_1581
  let v1674 : BitVec 32 := Scalar.extui v1673
  let v1675 : BitVec 32 := Scalar.subi v1672 v1674
  let v1676 : BitVec 1 := Scalar.cmpi .ne v1670 v1675
  let v1677 : BitVec 32 := Scalar.remsi v1664 c768_i32_1577
  let c0_i32_1582 : BitVec 32 := 0#32
  let v1678 : BitVec 1 := Scalar.cmpi .ne v1677 c0_i32_1582
  let v1679 : BitVec 1 := Scalar.andi v1676 v1678
  let v1665 : BitVec 32 := Scalar.divsi v1664 c768_i32_1577
  let c1_i32_1583 : BitVec 32 := 1#32
  let v1680 : BitVec 32 := Scalar.subi v1665 c1_i32_1583
  let v1681 : BitVec 32 := Scalar.select v1679 v1680 v1665
  let c768_i32_1584 : BitVec 32 := 768#32
  let c0_i32_1585 : BitVec 32 := 0#32
  let v1682 : BitVec 1 := Scalar.cmpi .eq c768_i32_1584 c0_i32_1585
  let c1_i32_1586 : BitVec 32 := 1#32
  let v1683 : BitVec 32 := Scalar.select v1682 c1_i32_1586 c768_i32_1584
  let v1684 : BitVec 32 := Scalar.remsi v1664 v1683
  let c0_i32_1588 : BitVec 32 := 0#32
  let v1686 : BitVec 1 := Scalar.cmpi .slt v1684 c0_i32_1588
  let c0_i32_1589 : BitVec 32 := 0#32
  let v1687 : BitVec 1 := Scalar.cmpi .slt v1683 c0_i32_1589
  let v1688 : BitVec 1 := Scalar.xori v1686 v1687
  let c0_i32_1587 : BitVec 32 := 0#32
  let v1685 : BitVec 1 := Scalar.cmpi .ne v1684 c0_i32_1587
  let v1689 : BitVec 1 := Scalar.andi v1688 v1685
  let v1690 : BitVec 32 := Scalar.addi v1684 v1683
  let v1691 : BitVec 32 := Scalar.select v1689 v1690 v1684
  let v1692 : BitVec 32 := v1691
  ![0, v1681.toNat, v1692.toNat]
@[reducible] def k0_t2_loop : Scf.Loop 32 :=
  let c0_i32_1602 : BitVec 32 := 0#32
  let c16_i32 : BitVec 32 := 16#32
  let v1710 : BitVec 32 := Scalar.addi c0_i32_1602 c16_i32
  let c1_i32_1603 : BitVec 32 := 1#32
  ⟨c0_i32_1602, v1710, c1_i32_1603⟩
def k0_off5 (k0_t2 : Fin k0_t2_loop.trips) : Fin 3 → Nat :=
  let c0_i32_1658 : BitVec 32 := 0#32
  let v1785 : Index := Scalar.indexCast c0_i32_1658
  let c13_i32_1659 : BitVec 32 := 13#32
  let v1786 : Index := Scalar.indexCast c13_i32_1659
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1787 : Index := Scalar.indexCast v1784
  ![0, 13, v1787.toNat]
def k0_off6 (k0_t2 : Fin k0_t2_loop.trips) : Fin 3 → Nat :=
  let c0_i32_1660 : BitVec 32 := 0#32
  let v1789 : Index := Scalar.indexCast c0_i32_1660
  let c0_i32_1661 : BitVec 32 := 0#32
  let v1790 : Index := Scalar.indexCast c0_i32_1661
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1791 : Index := Scalar.indexCast v1784
  ![0, 0, v1791.toNat]
def k0_off7 (k0_t2 : Fin k0_t2_loop.trips) : Fin 3 → Nat :=
  let c0_i32_1662 : BitVec 32 := 0#32
  let v1793 : Index := Scalar.indexCast c0_i32_1662
  let c26_i32 : BitVec 32 := 26#32
  let v1794 : Index := Scalar.indexCast c26_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1795 : Index := Scalar.indexCast v1784
  ![0, 26, v1795.toNat]
def k0_off8 (k0_t2 : Fin k0_t2_loop.trips) : Fin 3 → Nat :=
  let c0_i32_1663 : BitVec 32 := 0#32
  let v1797 : Index := Scalar.indexCast c0_i32_1663
  let c14_i32 : BitVec 32 := 14#32
  let v1798 : Index := Scalar.indexCast c14_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1799 : Index := Scalar.indexCast v1784
  ![0, 14, v1799.toNat]
def k0_off9 (k0_t2 : Fin k0_t2_loop.trips) : Fin 3 → Nat :=
  let c0_i32_1664 : BitVec 32 := 0#32
  let v1801 : Index := Scalar.indexCast c0_i32_1664
  let c1_i32_1665 : BitVec 32 := 1#32
  let v1802 : Index := Scalar.indexCast c1_i32_1665
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1803 : Index := Scalar.indexCast v1784
  ![0, 1, v1803.toNat]
def k0_off10 (k0_t2 : Fin k0_t2_loop.trips) : Fin 3 → Nat :=
  let c0_i32_1667 : BitVec 32 := 0#32
  let v1813 : Index := Scalar.indexCast c0_i32_1667
  let c7_i32 : BitVec 32 := 7#32
  let v1814 : Index := Scalar.indexCast c7_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1815 : Index := Scalar.indexCast v1784
  ![0, 7, v1815.toNat]
def k0_off11 (k0_t2 : Fin k0_t2_loop.trips) : Fin 3 → Nat :=
  let c0_i32_1668 : BitVec 32 := 0#32
  let v1817 : Index := Scalar.indexCast c0_i32_1668
  let c39_i32 : BitVec 32 := 39#32
  let v1818 : Index := Scalar.indexCast c39_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1819 : Index := Scalar.indexCast v1784
  ![0, 39, v1819.toNat]
def k0_off12 (k0_t2 : Fin k0_t2_loop.trips) : Fin 3 → Nat :=
  let c0_i32_1669 : BitVec 32 := 0#32
  let v1821 : Index := Scalar.indexCast c0_i32_1669
  let c52_i32 : BitVec 32 := 52#32
  let v1822 : Index := Scalar.indexCast c52_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1823 : Index := Scalar.indexCast v1784
  ![0, 52, v1823.toNat]
def k0_off13 (k0_t2 : Fin k0_t2_loop.trips) : Fin 3 → Nat :=
  let c0_i32_1670 : BitVec 32 := 0#32
  let v1825 : Index := Scalar.indexCast c0_i32_1670
  let c40_i32_1671 : BitVec 32 := 40#32
  let v1826 : Index := Scalar.indexCast c40_i32_1671
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1827 : Index := Scalar.indexCast v1784
  ![0, 40, v1827.toNat]
def k0_off14 (k0_t2 : Fin k0_t2_loop.trips) : Fin 3 → Nat :=
  let c0_i32_1672 : BitVec 32 := 0#32
  let v1829 : Index := Scalar.indexCast c0_i32_1672
  let c27_i32 : BitVec 32 := 27#32
  let v1830 : Index := Scalar.indexCast c27_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1831 : Index := Scalar.indexCast v1784
  ![0, 27, v1831.toNat]
def k0_off15 (k0_t2 : Fin k0_t2_loop.trips) : Fin 3 → Nat :=
  let c0_i32_1674 : BitVec 32 := 0#32
  let v1841 : Index := Scalar.indexCast c0_i32_1674
  let c14_i32_1675 : BitVec 32 := 14#32
  let v1842 : Index := Scalar.indexCast c14_i32_1675
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1843 : Index := Scalar.indexCast v1784
  ![0, 14, v1843.toNat]
def k0_off16 (k0_t2 : Fin k0_t2_loop.trips) : Fin 3 → Nat :=
  let c0_i32_1676 : BitVec 32 := 0#32
  let v1845 : Index := Scalar.indexCast c0_i32_1676
  let c65_i32 : BitVec 32 := 65#32
  let v1846 : Index := Scalar.indexCast c65_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1847 : Index := Scalar.indexCast v1784
  ![0, 65, v1847.toNat]
def k0_off17 (k0_t2 : Fin k0_t2_loop.trips) : Fin 3 → Nat :=
  let c0_i32_1677 : BitVec 32 := 0#32
  let v1849 : Index := Scalar.indexCast c0_i32_1677
  let c78_i32 : BitVec 32 := 78#32
  let v1850 : Index := Scalar.indexCast c78_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1851 : Index := Scalar.indexCast v1784
  ![0, 78, v1851.toNat]
def k0_off18 (k0_t2 : Fin k0_t2_loop.trips) : Fin 3 → Nat :=
  let c0_i32_1678 : BitVec 32 := 0#32
  let v1853 : Index := Scalar.indexCast c0_i32_1678
  let c66_i32 : BitVec 32 := 66#32
  let v1854 : Index := Scalar.indexCast c66_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1855 : Index := Scalar.indexCast v1784
  ![0, 66, v1855.toNat]
def k0_off19 (k0_t2 : Fin k0_t2_loop.trips) : Fin 3 → Nat :=
  let c0_i32_1679 : BitVec 32 := 0#32
  let v1857 : Index := Scalar.indexCast c0_i32_1679
  let c53_i32 : BitVec 32 := 53#32
  let v1858 : Index := Scalar.indexCast c53_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1859 : Index := Scalar.indexCast v1784
  ![0, 53, v1859.toNat]
def k0_off20 (k0_t2 : Fin k0_t2_loop.trips) : Fin 3 → Nat :=
  let c0_i32_1681 : BitVec 32 := 0#32
  let v1869 : Index := Scalar.indexCast c0_i32_1681
  let c21_i32 : BitVec 32 := 21#32
  let v1870 : Index := Scalar.indexCast c21_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1871 : Index := Scalar.indexCast v1784
  ![0, 21, v1871.toNat]
def k0_off21 (k0_t2 : Fin k0_t2_loop.trips) : Fin 3 → Nat :=
  let c0_i32_1682 : BitVec 32 := 0#32
  let v1873 : Index := Scalar.indexCast c0_i32_1682
  let c91_i32 : BitVec 32 := 91#32
  let v1874 : Index := Scalar.indexCast c91_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1875 : Index := Scalar.indexCast v1784
  ![0, 91, v1875.toNat]
def k0_off22 (k0_t2 : Fin k0_t2_loop.trips) : Fin 3 → Nat :=
  let c0_i32_1683 : BitVec 32 := 0#32
  let v1877 : Index := Scalar.indexCast c0_i32_1683
  let c104_i32 : BitVec 32 := 104#32
  let v1878 : Index := Scalar.indexCast c104_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1879 : Index := Scalar.indexCast v1784
  ![0, 104, v1879.toNat]
def k0_off23 (k0_t2 : Fin k0_t2_loop.trips) : Fin 3 → Nat :=
  let c0_i32_1684 : BitVec 32 := 0#32
  let v1881 : Index := Scalar.indexCast c0_i32_1684
  let c92_i32 : BitVec 32 := 92#32
  let v1882 : Index := Scalar.indexCast c92_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1883 : Index := Scalar.indexCast v1784
  ![0, 92, v1883.toNat]
def k0_off24 (k0_t2 : Fin k0_t2_loop.trips) : Fin 3 → Nat :=
  let c0_i32_1685 : BitVec 32 := 0#32
  let v1885 : Index := Scalar.indexCast c0_i32_1685
  let c79_i32 : BitVec 32 := 79#32
  let v1886 : Index := Scalar.indexCast c79_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1887 : Index := Scalar.indexCast v1784
  ![0, 79, v1887.toNat]
def k0_off25 (k0_t2 : Fin k0_t2_loop.trips) : Fin 3 → Nat :=
  let c0_i32_1687 : BitVec 32 := 0#32
  let v1897 : Index := Scalar.indexCast c0_i32_1687
  let c28_i32 : BitVec 32 := 28#32
  let v1898 : Index := Scalar.indexCast c28_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1899 : Index := Scalar.indexCast v1784
  ![0, 28, v1899.toNat]
def k0_off26 (k0_t2 : Fin k0_t2_loop.trips) : Fin 3 → Nat :=
  let c0_i32_1688 : BitVec 32 := 0#32
  let v1901 : Index := Scalar.indexCast c0_i32_1688
  let c117_i32 : BitVec 32 := 117#32
  let v1902 : Index := Scalar.indexCast c117_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1903 : Index := Scalar.indexCast v1784
  ![0, 117, v1903.toNat]
def k0_off27 (k0_t2 : Fin k0_t2_loop.trips) : Fin 3 → Nat :=
  let c0_i32_1689 : BitVec 32 := 0#32
  let v1905 : Index := Scalar.indexCast c0_i32_1689
  let c130_i32 : BitVec 32 := 130#32
  let v1906 : Index := Scalar.indexCast c130_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1907 : Index := Scalar.indexCast v1784
  ![0, 130, v1907.toNat]
def k0_off28 (k0_t2 : Fin k0_t2_loop.trips) : Fin 3 → Nat :=
  let c0_i32_1690 : BitVec 32 := 0#32
  let v1909 : Index := Scalar.indexCast c0_i32_1690
  let c118_i32 : BitVec 32 := 118#32
  let v1910 : Index := Scalar.indexCast c118_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1911 : Index := Scalar.indexCast v1784
  ![0, 118, v1911.toNat]
def k0_off29 (k0_t2 : Fin k0_t2_loop.trips) : Fin 3 → Nat :=
  let c0_i32_1691 : BitVec 32 := 0#32
  let v1913 : Index := Scalar.indexCast c0_i32_1691
  let c105_i32 : BitVec 32 := 105#32
  let v1914 : Index := Scalar.indexCast c105_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1915 : Index := Scalar.indexCast v1784
  ![0, 105, v1915.toNat]
def k0_off30 (k0_t2 : Fin k0_t2_loop.trips) : Fin 3 → Nat :=
  let c0_i32_1693 : BitVec 32 := 0#32
  let v1925 : Index := Scalar.indexCast c0_i32_1693
  let c35_i32 : BitVec 32 := 35#32
  let v1926 : Index := Scalar.indexCast c35_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1927 : Index := Scalar.indexCast v1784
  ![0, 35, v1927.toNat]
def k0_off31 (k0_t2 : Fin k0_t2_loop.trips) : Fin 3 → Nat :=
  let c0_i32_1694 : BitVec 32 := 0#32
  let v1929 : Index := Scalar.indexCast c0_i32_1694
  let c143_i32 : BitVec 32 := 143#32
  let v1930 : Index := Scalar.indexCast c143_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1931 : Index := Scalar.indexCast v1784
  ![0, 143, v1931.toNat]
def k0_off32 (k0_t2 : Fin k0_t2_loop.trips) : Fin 3 → Nat :=
  let c0_i32_1695 : BitVec 32 := 0#32
  let v1933 : Index := Scalar.indexCast c0_i32_1695
  let c156_i32 : BitVec 32 := 156#32
  let v1934 : Index := Scalar.indexCast c156_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1935 : Index := Scalar.indexCast v1784
  ![0, 156, v1935.toNat]
def k0_off33 (k0_t2 : Fin k0_t2_loop.trips) : Fin 3 → Nat :=
  let c0_i32_1696 : BitVec 32 := 0#32
  let v1937 : Index := Scalar.indexCast c0_i32_1696
  let c144_i32 : BitVec 32 := 144#32
  let v1938 : Index := Scalar.indexCast c144_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1939 : Index := Scalar.indexCast v1784
  ![0, 144, v1939.toNat]
def k0_off34 (k0_t2 : Fin k0_t2_loop.trips) : Fin 3 → Nat :=
  let c0_i32_1697 : BitVec 32 := 0#32
  let v1941 : Index := Scalar.indexCast c0_i32_1697
  let c131_i32 : BitVec 32 := 131#32
  let v1942 : Index := Scalar.indexCast c131_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1943 : Index := Scalar.indexCast v1784
  ![0, 131, v1943.toNat]
def k0_off35 (k0_t2 : Fin k0_t2_loop.trips) : Fin 3 → Nat :=
  let c0_i32_1699 : BitVec 32 := 0#32
  let v1953 : Index := Scalar.indexCast c0_i32_1699
  let c42_i32 : BitVec 32 := 42#32
  let v1954 : Index := Scalar.indexCast c42_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1955 : Index := Scalar.indexCast v1784
  ![0, 42, v1955.toNat]
def k0_off36 (k0_t2 : Fin k0_t2_loop.trips) : Fin 3 → Nat :=
  let c0_i32_1700 : BitVec 32 := 0#32
  let v1957 : Index := Scalar.indexCast c0_i32_1700
  let c2_i32_1701 : BitVec 32 := 2#32
  let v1958 : Index := Scalar.indexCast c2_i32_1701
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1959 : Index := Scalar.indexCast v1784
  ![0, 2, v1959.toNat]
def k0_off37 (k0_t2 : Fin k0_t2_loop.trips) : Fin 3 → Nat :=
  let c0_i32_1702 : BitVec 32 := 0#32
  let v1961 : Index := Scalar.indexCast c0_i32_1702
  let c15_i32 : BitVec 32 := 15#32
  let v1962 : Index := Scalar.indexCast c15_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1963 : Index := Scalar.indexCast v1784
  ![0, 15, v1963.toNat]
def k0_off38 (k0_t2 : Fin k0_t2_loop.trips) : Fin 3 → Nat :=
  let c0_i32_1703 : BitVec 32 := 0#32
  let v1965 : Index := Scalar.indexCast c0_i32_1703
  let c3_i32_1704 : BitVec 32 := 3#32
  let v1966 : Index := Scalar.indexCast c3_i32_1704
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1967 : Index := Scalar.indexCast v1784
  ![0, 3, v1967.toNat]
def k0_off39 (k0_t2 : Fin k0_t2_loop.trips) : Fin 3 → Nat :=
  let c0_i32_1706 : BitVec 32 := 0#32
  let v1977 : Index := Scalar.indexCast c0_i32_1706
  let c1_i32_1707 : BitVec 32 := 1#32
  let v1978 : Index := Scalar.indexCast c1_i32_1707
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1979 : Index := Scalar.indexCast v1784
  ![0, 1, v1979.toNat]
def k0_off40 (k0_t2 : Fin k0_t2_loop.trips) : Fin 3 → Nat :=
  let c0_i32_1708 : BitVec 32 := 0#32
  let v1981 : Index := Scalar.indexCast c0_i32_1708
  let c28_i32_1709 : BitVec 32 := 28#32
  let v1982 : Index := Scalar.indexCast c28_i32_1709
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1983 : Index := Scalar.indexCast v1784
  ![0, 28, v1983.toNat]
def k0_off41 (k0_t2 : Fin k0_t2_loop.trips) : Fin 3 → Nat :=
  let c0_i32_1710 : BitVec 32 := 0#32
  let v1985 : Index := Scalar.indexCast c0_i32_1710
  let c41_i32_1711 : BitVec 32 := 41#32
  let v1986 : Index := Scalar.indexCast c41_i32_1711
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1987 : Index := Scalar.indexCast v1784
  ![0, 41, v1987.toNat]
def k0_off42 (k0_t2 : Fin k0_t2_loop.trips) : Fin 3 → Nat :=
  let c0_i32_1712 : BitVec 32 := 0#32
  let v1989 : Index := Scalar.indexCast c0_i32_1712
  let c29_i32 : BitVec 32 := 29#32
  let v1990 : Index := Scalar.indexCast c29_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1991 : Index := Scalar.indexCast v1784
  ![0, 29, v1991.toNat]
def k0_off43 (k0_t2 : Fin k0_t2_loop.trips) : Fin 3 → Nat :=
  let c0_i32_1713 : BitVec 32 := 0#32
  let v1993 : Index := Scalar.indexCast c0_i32_1713
  let c16_i32_1714 : BitVec 32 := 16#32
  let v1994 : Index := Scalar.indexCast c16_i32_1714
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1995 : Index := Scalar.indexCast v1784
  ![0, 16, v1995.toNat]
def k0_off44 (k0_t2 : Fin k0_t2_loop.trips) : Fin 3 → Nat :=
  let c0_i32_1716 : BitVec 32 := 0#32
  let v2005 : Index := Scalar.indexCast c0_i32_1716
  let c8_i32 : BitVec 32 := 8#32
  let v2006 : Index := Scalar.indexCast c8_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2007 : Index := Scalar.indexCast v1784
  ![0, 8, v2007.toNat]
def k0_off45 (k0_t2 : Fin k0_t2_loop.trips) : Fin 3 → Nat :=
  let c0_i32_1717 : BitVec 32 := 0#32
  let v2009 : Index := Scalar.indexCast c0_i32_1717
  let c54_i32 : BitVec 32 := 54#32
  let v2010 : Index := Scalar.indexCast c54_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2011 : Index := Scalar.indexCast v1784
  ![0, 54, v2011.toNat]
def k0_off46 (k0_t2 : Fin k0_t2_loop.trips) : Fin 3 → Nat :=
  let c0_i32_1718 : BitVec 32 := 0#32
  let v2013 : Index := Scalar.indexCast c0_i32_1718
  let c67_i32 : BitVec 32 := 67#32
  let v2014 : Index := Scalar.indexCast c67_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2015 : Index := Scalar.indexCast v1784
  ![0, 67, v2015.toNat]
def k0_off47 (k0_t2 : Fin k0_t2_loop.trips) : Fin 3 → Nat :=
  let c0_i32_1719 : BitVec 32 := 0#32
  let v2017 : Index := Scalar.indexCast c0_i32_1719
  let c55_i32 : BitVec 32 := 55#32
  let v2018 : Index := Scalar.indexCast c55_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2019 : Index := Scalar.indexCast v1784
  ![0, 55, v2019.toNat]
def k0_off48 (k0_t2 : Fin k0_t2_loop.trips) : Fin 3 → Nat :=
  let c0_i32_1720 : BitVec 32 := 0#32
  let v2021 : Index := Scalar.indexCast c0_i32_1720
  let c42_i32_1721 : BitVec 32 := 42#32
  let v2022 : Index := Scalar.indexCast c42_i32_1721
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2023 : Index := Scalar.indexCast v1784
  ![0, 42, v2023.toNat]
def k0_off49 (k0_t2 : Fin k0_t2_loop.trips) : Fin 3 → Nat :=
  let c0_i32_1723 : BitVec 32 := 0#32
  let v2033 : Index := Scalar.indexCast c0_i32_1723
  let c15_i32_1724 : BitVec 32 := 15#32
  let v2034 : Index := Scalar.indexCast c15_i32_1724
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2035 : Index := Scalar.indexCast v1784
  ![0, 15, v2035.toNat]
def k0_off50 (k0_t2 : Fin k0_t2_loop.trips) : Fin 3 → Nat :=
  let c0_i32_1725 : BitVec 32 := 0#32
  let v2037 : Index := Scalar.indexCast c0_i32_1725
  let c80_i32 : BitVec 32 := 80#32
  let v2038 : Index := Scalar.indexCast c80_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2039 : Index := Scalar.indexCast v1784
  ![0, 80, v2039.toNat]
def k0_off51 (k0_t2 : Fin k0_t2_loop.trips) : Fin 3 → Nat :=
  let c0_i32_1726 : BitVec 32 := 0#32
  let v2041 : Index := Scalar.indexCast c0_i32_1726
  let c93_i32 : BitVec 32 := 93#32
  let v2042 : Index := Scalar.indexCast c93_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2043 : Index := Scalar.indexCast v1784
  ![0, 93, v2043.toNat]
def k0_off52 (k0_t2 : Fin k0_t2_loop.trips) : Fin 3 → Nat :=
  let c0_i32_1727 : BitVec 32 := 0#32
  let v2045 : Index := Scalar.indexCast c0_i32_1727
  let c81_i32 : BitVec 32 := 81#32
  let v2046 : Index := Scalar.indexCast c81_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2047 : Index := Scalar.indexCast v1784
  ![0, 81, v2047.toNat]
def k0_off53 (k0_t2 : Fin k0_t2_loop.trips) : Fin 3 → Nat :=
  let c0_i32_1728 : BitVec 32 := 0#32
  let v2049 : Index := Scalar.indexCast c0_i32_1728
  let c68_i32 : BitVec 32 := 68#32
  let v2050 : Index := Scalar.indexCast c68_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2051 : Index := Scalar.indexCast v1784
  ![0, 68, v2051.toNat]
def k0_off54 (k0_t2 : Fin k0_t2_loop.trips) : Fin 3 → Nat :=
  let c0_i32_1730 : BitVec 32 := 0#32
  let v2061 : Index := Scalar.indexCast c0_i32_1730
  let c22_i32 : BitVec 32 := 22#32
  let v2062 : Index := Scalar.indexCast c22_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2063 : Index := Scalar.indexCast v1784
  ![0, 22, v2063.toNat]
def k0_off55 (k0_t2 : Fin k0_t2_loop.trips) : Fin 3 → Nat :=
  let c0_i32_1731 : BitVec 32 := 0#32
  let v2065 : Index := Scalar.indexCast c0_i32_1731
  let c106_i32 : BitVec 32 := 106#32
  let v2066 : Index := Scalar.indexCast c106_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2067 : Index := Scalar.indexCast v1784
  ![0, 106, v2067.toNat]
def k0_off56 (k0_t2 : Fin k0_t2_loop.trips) : Fin 3 → Nat :=
  let c0_i32_1732 : BitVec 32 := 0#32
  let v2069 : Index := Scalar.indexCast c0_i32_1732
  let c119_i32 : BitVec 32 := 119#32
  let v2070 : Index := Scalar.indexCast c119_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2071 : Index := Scalar.indexCast v1784
  ![0, 119, v2071.toNat]
def k0_off57 (k0_t2 : Fin k0_t2_loop.trips) : Fin 3 → Nat :=
  let c0_i32_1733 : BitVec 32 := 0#32
  let v2073 : Index := Scalar.indexCast c0_i32_1733
  let c107_i32 : BitVec 32 := 107#32
  let v2074 : Index := Scalar.indexCast c107_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2075 : Index := Scalar.indexCast v1784
  ![0, 107, v2075.toNat]
def k0_off58 (k0_t2 : Fin k0_t2_loop.trips) : Fin 3 → Nat :=
  let c0_i32_1734 : BitVec 32 := 0#32
  let v2077 : Index := Scalar.indexCast c0_i32_1734
  let c94_i32 : BitVec 32 := 94#32
  let v2078 : Index := Scalar.indexCast c94_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2079 : Index := Scalar.indexCast v1784
  ![0, 94, v2079.toNat]
def k0_off59 (k0_t2 : Fin k0_t2_loop.trips) : Fin 3 → Nat :=
  let c0_i32_1736 : BitVec 32 := 0#32
  let v2089 : Index := Scalar.indexCast c0_i32_1736
  let c29_i32_1737 : BitVec 32 := 29#32
  let v2090 : Index := Scalar.indexCast c29_i32_1737
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2091 : Index := Scalar.indexCast v1784
  ![0, 29, v2091.toNat]
def k0_off60 (k0_t2 : Fin k0_t2_loop.trips) : Fin 3 → Nat :=
  let c0_i32_1738 : BitVec 32 := 0#32
  let v2093 : Index := Scalar.indexCast c0_i32_1738
  let c132_i32 : BitVec 32 := 132#32
  let v2094 : Index := Scalar.indexCast c132_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2095 : Index := Scalar.indexCast v1784
  ![0, 132, v2095.toNat]
def k0_off61 (k0_t2 : Fin k0_t2_loop.trips) : Fin 3 → Nat :=
  let c0_i32_1739 : BitVec 32 := 0#32
  let v2097 : Index := Scalar.indexCast c0_i32_1739
  let c145_i32 : BitVec 32 := 145#32
  let v2098 : Index := Scalar.indexCast c145_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2099 : Index := Scalar.indexCast v1784
  ![0, 145, v2099.toNat]
def k0_off62 (k0_t2 : Fin k0_t2_loop.trips) : Fin 3 → Nat :=
  let c0_i32_1740 : BitVec 32 := 0#32
  let v2101 : Index := Scalar.indexCast c0_i32_1740
  let c133_i32 : BitVec 32 := 133#32
  let v2102 : Index := Scalar.indexCast c133_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2103 : Index := Scalar.indexCast v1784
  ![0, 133, v2103.toNat]
def k0_off63 (k0_t2 : Fin k0_t2_loop.trips) : Fin 3 → Nat :=
  let c0_i32_1741 : BitVec 32 := 0#32
  let v2105 : Index := Scalar.indexCast c0_i32_1741
  let c120_i32 : BitVec 32 := 120#32
  let v2106 : Index := Scalar.indexCast c120_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2107 : Index := Scalar.indexCast v1784
  ![0, 120, v2107.toNat]
def k0_off64 (k0_t2 : Fin k0_t2_loop.trips) : Fin 3 → Nat :=
  let c0_i32_1743 : BitVec 32 := 0#32
  let v2117 : Index := Scalar.indexCast c0_i32_1743
  let c36_i32 : BitVec 32 := 36#32
  let v2118 : Index := Scalar.indexCast c36_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2119 : Index := Scalar.indexCast v1784
  ![0, 36, v2119.toNat]
def k0_off65 (k0_t2 : Fin k0_t2_loop.trips) : Fin 3 → Nat :=
  let c0_i32_1744 : BitVec 32 := 0#32
  let v2121 : Index := Scalar.indexCast c0_i32_1744
  let c158_i32 : BitVec 32 := 158#32
  let v2122 : Index := Scalar.indexCast c158_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2123 : Index := Scalar.indexCast v1784
  ![0, 158, v2123.toNat]
def k0_off66 (k0_t2 : Fin k0_t2_loop.trips) : Fin 3 → Nat :=
  let c0_i32_1745 : BitVec 32 := 0#32
  let v2125 : Index := Scalar.indexCast c0_i32_1745
  let c159_i32 : BitVec 32 := 159#32
  let v2126 : Index := Scalar.indexCast c159_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2127 : Index := Scalar.indexCast v1784
  ![0, 159, v2127.toNat]
def k0_off67 (k0_t2 : Fin k0_t2_loop.trips) : Fin 3 → Nat :=
  let c0_i32_1746 : BitVec 32 := 0#32
  let v2129 : Index := Scalar.indexCast c0_i32_1746
  let c157_i32 : BitVec 32 := 157#32
  let v2130 : Index := Scalar.indexCast c157_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2131 : Index := Scalar.indexCast v1784
  ![0, 157, v2131.toNat]
def k0_off68 (k0_t2 : Fin k0_t2_loop.trips) : Fin 3 → Nat :=
  let c0_i32_1747 : BitVec 32 := 0#32
  let v2133 : Index := Scalar.indexCast c0_i32_1747
  let c146_i32 : BitVec 32 := 146#32
  let v2134 : Index := Scalar.indexCast c146_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2135 : Index := Scalar.indexCast v1784
  ![0, 146, v2135.toNat]
def k0_off69 (k0_t2 : Fin k0_t2_loop.trips) : Fin 3 → Nat :=
  let c0_i32_1749 : BitVec 32 := 0#32
  let v2145 : Index := Scalar.indexCast c0_i32_1749
  let c43_i32 : BitVec 32 := 43#32
  let v2146 : Index := Scalar.indexCast c43_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2147 : Index := Scalar.indexCast v1784
  ![0, 43, v2147.toNat]
def k0_off70 (k0_t2 : Fin k0_t2_loop.trips) : Fin 3 → Nat :=
  let c0_i32_1750 : BitVec 32 := 0#32
  let v2149 : Index := Scalar.indexCast c0_i32_1750
  let c17_i32 : BitVec 32 := 17#32
  let v2150 : Index := Scalar.indexCast c17_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2151 : Index := Scalar.indexCast v1784
  ![0, 17, v2151.toNat]
def k0_off71 (k0_t2 : Fin k0_t2_loop.trips) : Fin 3 → Nat :=
  let c0_i32_1751 : BitVec 32 := 0#32
  let v2153 : Index := Scalar.indexCast c0_i32_1751
  let c4_i32_1752 : BitVec 32 := 4#32
  let v2154 : Index := Scalar.indexCast c4_i32_1752
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2155 : Index := Scalar.indexCast v1784
  ![0, 4, v2155.toNat]
def k0_off72 (k0_t2 : Fin k0_t2_loop.trips) : Fin 3 → Nat :=
  let c0_i32_1753 : BitVec 32 := 0#32
  let v2157 : Index := Scalar.indexCast c0_i32_1753
  let c30_i32 : BitVec 32 := 30#32
  let v2158 : Index := Scalar.indexCast c30_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2159 : Index := Scalar.indexCast v1784
  ![0, 30, v2159.toNat]
def k0_off73 (k0_t2 : Fin k0_t2_loop.trips) : Fin 3 → Nat :=
  let c0_i32_1754 : BitVec 32 := 0#32
  let v2161 : Index := Scalar.indexCast c0_i32_1754
  let c18_i32 : BitVec 32 := 18#32
  let v2162 : Index := Scalar.indexCast c18_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2163 : Index := Scalar.indexCast v1784
  ![0, 18, v2163.toNat]
def k0_off74 (k0_t2 : Fin k0_t2_loop.trips) : Fin 3 → Nat :=
  let c0_i32_1755 : BitVec 32 := 0#32
  let v2165 : Index := Scalar.indexCast c0_i32_1755
  let c5_i32_1756 : BitVec 32 := 5#32
  let v2166 : Index := Scalar.indexCast c5_i32_1756
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2167 : Index := Scalar.indexCast v1784
  ![0, 5, v2167.toNat]
def k0_off75 (k0_t2 : Fin k0_t2_loop.trips) : Fin 3 → Nat :=
  let c0_i32_1758 : BitVec 32 := 0#32
  let v2177 : Index := Scalar.indexCast c0_i32_1758
  let c9_i32 : BitVec 32 := 9#32
  let v2178 : Index := Scalar.indexCast c9_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2179 : Index := Scalar.indexCast v1784
  ![0, 9, v2179.toNat]
def k0_off76 (k0_t2 : Fin k0_t2_loop.trips) : Fin 3 → Nat :=
  let c0_i32_1759 : BitVec 32 := 0#32
  let v2181 : Index := Scalar.indexCast c0_i32_1759
  let c43_i32_1760 : BitVec 32 := 43#32
  let v2182 : Index := Scalar.indexCast c43_i32_1760
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2183 : Index := Scalar.indexCast v1784
  ![0, 43, v2183.toNat]
def k0_off77 (k0_t2 : Fin k0_t2_loop.trips) : Fin 3 → Nat :=
  let c0_i32_1761 : BitVec 32 := 0#32
  let v2185 : Index := Scalar.indexCast c0_i32_1761
  let c56_i32 : BitVec 32 := 56#32
  let v2186 : Index := Scalar.indexCast c56_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2187 : Index := Scalar.indexCast v1784
  ![0, 56, v2187.toNat]
def k0_off78 (k0_t2 : Fin k0_t2_loop.trips) : Fin 3 → Nat :=
  let c0_i32_1762 : BitVec 32 := 0#32
  let v2189 : Index := Scalar.indexCast c0_i32_1762
  let c44_i32 : BitVec 32 := 44#32
  let v2190 : Index := Scalar.indexCast c44_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2191 : Index := Scalar.indexCast v1784
  ![0, 44, v2191.toNat]
def k0_off79 (k0_t2 : Fin k0_t2_loop.trips) : Fin 3 → Nat :=
  let c0_i32_1763 : BitVec 32 := 0#32
  let v2193 : Index := Scalar.indexCast c0_i32_1763
  let c31_i32 : BitVec 32 := 31#32
  let v2194 : Index := Scalar.indexCast c31_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2195 : Index := Scalar.indexCast v1784
  ![0, 31, v2195.toNat]
def k0_off80 (k0_t2 : Fin k0_t2_loop.trips) : Fin 3 → Nat :=
  let c0_i32_1765 : BitVec 32 := 0#32
  let v2205 : Index := Scalar.indexCast c0_i32_1765
  let c16_i32_1766 : BitVec 32 := 16#32
  let v2206 : Index := Scalar.indexCast c16_i32_1766
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2207 : Index := Scalar.indexCast v1784
  ![0, 16, v2207.toNat]
def k0_off81 (k0_t2 : Fin k0_t2_loop.trips) : Fin 3 → Nat :=
  let c0_i32_1767 : BitVec 32 := 0#32
  let v2209 : Index := Scalar.indexCast c0_i32_1767
  let c69_i32 : BitVec 32 := 69#32
  let v2210 : Index := Scalar.indexCast c69_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2211 : Index := Scalar.indexCast v1784
  ![0, 69, v2211.toNat]
def k0_off82 (k0_t2 : Fin k0_t2_loop.trips) : Fin 3 → Nat :=
  let c0_i32_1768 : BitVec 32 := 0#32
  let v2213 : Index := Scalar.indexCast c0_i32_1768
  let c82_i32 : BitVec 32 := 82#32
  let v2214 : Index := Scalar.indexCast c82_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2215 : Index := Scalar.indexCast v1784
  ![0, 82, v2215.toNat]
def k0_off83 (k0_t2 : Fin k0_t2_loop.trips) : Fin 3 → Nat :=
  let c0_i32_1769 : BitVec 32 := 0#32
  let v2217 : Index := Scalar.indexCast c0_i32_1769
  let c70_i32 : BitVec 32 := 70#32
  let v2218 : Index := Scalar.indexCast c70_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2219 : Index := Scalar.indexCast v1784
  ![0, 70, v2219.toNat]
def k0_off84 (k0_t2 : Fin k0_t2_loop.trips) : Fin 3 → Nat :=
  let c0_i32_1770 : BitVec 32 := 0#32
  let v2221 : Index := Scalar.indexCast c0_i32_1770
  let c57_i32 : BitVec 32 := 57#32
  let v2222 : Index := Scalar.indexCast c57_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2223 : Index := Scalar.indexCast v1784
  ![0, 57, v2223.toNat]
def k0_off85 (k0_t2 : Fin k0_t2_loop.trips) : Fin 3 → Nat :=
  let c0_i32_1772 : BitVec 32 := 0#32
  let v2233 : Index := Scalar.indexCast c0_i32_1772
  let c23_i32 : BitVec 32 := 23#32
  let v2234 : Index := Scalar.indexCast c23_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2235 : Index := Scalar.indexCast v1784
  ![0, 23, v2235.toNat]
def k0_off86 (k0_t2 : Fin k0_t2_loop.trips) : Fin 3 → Nat :=
  let c0_i32_1773 : BitVec 32 := 0#32
  let v2237 : Index := Scalar.indexCast c0_i32_1773
  let c95_i32 : BitVec 32 := 95#32
  let v2238 : Index := Scalar.indexCast c95_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2239 : Index := Scalar.indexCast v1784
  ![0, 95, v2239.toNat]
def k0_off87 (k0_t2 : Fin k0_t2_loop.trips) : Fin 3 → Nat :=
  let c0_i32_1774 : BitVec 32 := 0#32
  let v2241 : Index := Scalar.indexCast c0_i32_1774
  let c108_i32 : BitVec 32 := 108#32
  let v2242 : Index := Scalar.indexCast c108_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2243 : Index := Scalar.indexCast v1784
  ![0, 108, v2243.toNat]
def k0_off88 (k0_t2 : Fin k0_t2_loop.trips) : Fin 3 → Nat :=
  let c0_i32_1775 : BitVec 32 := 0#32
  let v2245 : Index := Scalar.indexCast c0_i32_1775
  let c96_i32_1776 : BitVec 32 := 96#32
  let v2246 : Index := Scalar.indexCast c96_i32_1776
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2247 : Index := Scalar.indexCast v1784
  ![0, 96, v2247.toNat]
def k0_off89 (k0_t2 : Fin k0_t2_loop.trips) : Fin 3 → Nat :=
  let c0_i32_1777 : BitVec 32 := 0#32
  let v2249 : Index := Scalar.indexCast c0_i32_1777
  let c83_i32 : BitVec 32 := 83#32
  let v2250 : Index := Scalar.indexCast c83_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2251 : Index := Scalar.indexCast v1784
  ![0, 83, v2251.toNat]
def k0_off90 (k0_t2 : Fin k0_t2_loop.trips) : Fin 3 → Nat :=
  let c0_i32_1779 : BitVec 32 := 0#32
  let v2261 : Index := Scalar.indexCast c0_i32_1779
  let c30_i32_1780 : BitVec 32 := 30#32
  let v2262 : Index := Scalar.indexCast c30_i32_1780
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2263 : Index := Scalar.indexCast v1784
  ![0, 30, v2263.toNat]
def k0_off91 (k0_t2 : Fin k0_t2_loop.trips) : Fin 3 → Nat :=
  let c0_i32_1781 : BitVec 32 := 0#32
  let v2265 : Index := Scalar.indexCast c0_i32_1781
  let c121_i32 : BitVec 32 := 121#32
  let v2266 : Index := Scalar.indexCast c121_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2267 : Index := Scalar.indexCast v1784
  ![0, 121, v2267.toNat]
def k0_off92 (k0_t2 : Fin k0_t2_loop.trips) : Fin 3 → Nat :=
  let c0_i32_1782 : BitVec 32 := 0#32
  let v2269 : Index := Scalar.indexCast c0_i32_1782
  let c134_i32 : BitVec 32 := 134#32
  let v2270 : Index := Scalar.indexCast c134_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2271 : Index := Scalar.indexCast v1784
  ![0, 134, v2271.toNat]
def k0_off93 (k0_t2 : Fin k0_t2_loop.trips) : Fin 3 → Nat :=
  let c0_i32_1783 : BitVec 32 := 0#32
  let v2273 : Index := Scalar.indexCast c0_i32_1783
  let c122_i32 : BitVec 32 := 122#32
  let v2274 : Index := Scalar.indexCast c122_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2275 : Index := Scalar.indexCast v1784
  ![0, 122, v2275.toNat]
def k0_off94 (k0_t2 : Fin k0_t2_loop.trips) : Fin 3 → Nat :=
  let c0_i32_1784 : BitVec 32 := 0#32
  let v2277 : Index := Scalar.indexCast c0_i32_1784
  let c109_i32 : BitVec 32 := 109#32
  let v2278 : Index := Scalar.indexCast c109_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2279 : Index := Scalar.indexCast v1784
  ![0, 109, v2279.toNat]
def k0_off95 (k0_t2 : Fin k0_t2_loop.trips) : Fin 3 → Nat :=
  let c0_i32_1786 : BitVec 32 := 0#32
  let v2289 : Index := Scalar.indexCast c0_i32_1786
  let c37_i32 : BitVec 32 := 37#32
  let v2290 : Index := Scalar.indexCast c37_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2291 : Index := Scalar.indexCast v1784
  ![0, 37, v2291.toNat]
def k0_off96 (k0_t2 : Fin k0_t2_loop.trips) : Fin 3 → Nat :=
  let c0_i32_1787 : BitVec 32 := 0#32
  let v2293 : Index := Scalar.indexCast c0_i32_1787
  let c147_i32 : BitVec 32 := 147#32
  let v2294 : Index := Scalar.indexCast c147_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2295 : Index := Scalar.indexCast v1784
  ![0, 147, v2295.toNat]
def k0_off97 (k0_t2 : Fin k0_t2_loop.trips) : Fin 3 → Nat :=
  let c0_i32_1788 : BitVec 32 := 0#32
  let v2297 : Index := Scalar.indexCast c0_i32_1788
  let c160_i32 : BitVec 32 := 160#32
  let v2298 : Index := Scalar.indexCast c160_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2299 : Index := Scalar.indexCast v1784
  ![0, 160, v2299.toNat]
def k0_off98 (k0_t2 : Fin k0_t2_loop.trips) : Fin 3 → Nat :=
  let c0_i32_1789 : BitVec 32 := 0#32
  let v2301 : Index := Scalar.indexCast c0_i32_1789
  let c148_i32 : BitVec 32 := 148#32
  let v2302 : Index := Scalar.indexCast c148_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2303 : Index := Scalar.indexCast v1784
  ![0, 148, v2303.toNat]
def k0_off99 (k0_t2 : Fin k0_t2_loop.trips) : Fin 3 → Nat :=
  let c0_i32_1790 : BitVec 32 := 0#32
  let v2305 : Index := Scalar.indexCast c0_i32_1790
  let c135_i32 : BitVec 32 := 135#32
  let v2306 : Index := Scalar.indexCast c135_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2307 : Index := Scalar.indexCast v1784
  ![0, 135, v2307.toNat]
def k0_off100 (k0_t2 : Fin k0_t2_loop.trips) : Fin 3 → Nat :=
  let c0_i32_1792 : BitVec 32 := 0#32
  let v2317 : Index := Scalar.indexCast c0_i32_1792
  let c44_i32_1793 : BitVec 32 := 44#32
  let v2318 : Index := Scalar.indexCast c44_i32_1793
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2319 : Index := Scalar.indexCast v1784
  ![0, 44, v2319.toNat]
def k0_off101 (k0_t2 : Fin k0_t2_loop.trips) : Fin 3 → Nat :=
  let c0_i32_1794 : BitVec 32 := 0#32
  let v2321 : Index := Scalar.indexCast c0_i32_1794
  let c32_i32 : BitVec 32 := 32#32
  let v2322 : Index := Scalar.indexCast c32_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2323 : Index := Scalar.indexCast v1784
  ![0, 32, v2323.toNat]
def k0_off102 (k0_t2 : Fin k0_t2_loop.trips) : Fin 3 → Nat :=
  let c0_i32_1795 : BitVec 32 := 0#32
  let v2325 : Index := Scalar.indexCast c0_i32_1795
  let c19_i32 : BitVec 32 := 19#32
  let v2326 : Index := Scalar.indexCast c19_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2327 : Index := Scalar.indexCast v1784
  ![0, 19, v2327.toNat]
def k0_off103 (k0_t2 : Fin k0_t2_loop.trips) : Fin 3 → Nat :=
  let c0_i32_1796 : BitVec 32 := 0#32
  let v2329 : Index := Scalar.indexCast c0_i32_1796
  let c45_i32_1797 : BitVec 32 := 45#32
  let v2330 : Index := Scalar.indexCast c45_i32_1797
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2331 : Index := Scalar.indexCast v1784
  ![0, 45, v2331.toNat]
def k0_off104 (k0_t2 : Fin k0_t2_loop.trips) : Fin 3 → Nat :=
  let c0_i32_1798 : BitVec 32 := 0#32
  let v2333 : Index := Scalar.indexCast c0_i32_1798
  let c33_i32 : BitVec 32 := 33#32
  let v2334 : Index := Scalar.indexCast c33_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2335 : Index := Scalar.indexCast v1784
  ![0, 33, v2335.toNat]
def k0_off105 (k0_t2 : Fin k0_t2_loop.trips) : Fin 3 → Nat :=
  let c0_i32_1799 : BitVec 32 := 0#32
  let v2337 : Index := Scalar.indexCast c0_i32_1799
  let c20_i32_1800 : BitVec 32 := 20#32
  let v2338 : Index := Scalar.indexCast c20_i32_1800
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2339 : Index := Scalar.indexCast v1784
  ![0, 20, v2339.toNat]
def k0_off106 (k0_t2 : Fin k0_t2_loop.trips) : Fin 3 → Nat :=
  let c0_i32_1802 : BitVec 32 := 0#32
  let v2349 : Index := Scalar.indexCast c0_i32_1802
  let c10_i32 : BitVec 32 := 10#32
  let v2350 : Index := Scalar.indexCast c10_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2351 : Index := Scalar.indexCast v1784
  ![0, 10, v2351.toNat]
def k0_off107 (k0_t2 : Fin k0_t2_loop.trips) : Fin 3 → Nat :=
  let c0_i32_1803 : BitVec 32 := 0#32
  let v2353 : Index := Scalar.indexCast c0_i32_1803
  let c58_i32 : BitVec 32 := 58#32
  let v2354 : Index := Scalar.indexCast c58_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2355 : Index := Scalar.indexCast v1784
  ![0, 58, v2355.toNat]
def k0_off108 (k0_t2 : Fin k0_t2_loop.trips) : Fin 3 → Nat :=
  let c0_i32_1804 : BitVec 32 := 0#32
  let v2357 : Index := Scalar.indexCast c0_i32_1804
  let c71_i32 : BitVec 32 := 71#32
  let v2358 : Index := Scalar.indexCast c71_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2359 : Index := Scalar.indexCast v1784
  ![0, 71, v2359.toNat]
def k0_off109 (k0_t2 : Fin k0_t2_loop.trips) : Fin 3 → Nat :=
  let c0_i32_1805 : BitVec 32 := 0#32
  let v2361 : Index := Scalar.indexCast c0_i32_1805
  let c59_i32 : BitVec 32 := 59#32
  let v2362 : Index := Scalar.indexCast c59_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2363 : Index := Scalar.indexCast v1784
  ![0, 59, v2363.toNat]
def k0_off110 (k0_t2 : Fin k0_t2_loop.trips) : Fin 3 → Nat :=
  let c0_i32_1806 : BitVec 32 := 0#32
  let v2365 : Index := Scalar.indexCast c0_i32_1806
  let c46_i32_1807 : BitVec 32 := 46#32
  let v2366 : Index := Scalar.indexCast c46_i32_1807
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2367 : Index := Scalar.indexCast v1784
  ![0, 46, v2367.toNat]
def k0_off111 (k0_t2 : Fin k0_t2_loop.trips) : Fin 3 → Nat :=
  let c0_i32_1809 : BitVec 32 := 0#32
  let v2377 : Index := Scalar.indexCast c0_i32_1809
  let c17_i32_1810 : BitVec 32 := 17#32
  let v2378 : Index := Scalar.indexCast c17_i32_1810
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2379 : Index := Scalar.indexCast v1784
  ![0, 17, v2379.toNat]
def k0_off112 (k0_t2 : Fin k0_t2_loop.trips) : Fin 3 → Nat :=
  let c0_i32_1811 : BitVec 32 := 0#32
  let v2381 : Index := Scalar.indexCast c0_i32_1811
  let c84_i32 : BitVec 32 := 84#32
  let v2382 : Index := Scalar.indexCast c84_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2383 : Index := Scalar.indexCast v1784
  ![0, 84, v2383.toNat]
def k0_off113 (k0_t2 : Fin k0_t2_loop.trips) : Fin 3 → Nat :=
  let c0_i32_1812 : BitVec 32 := 0#32
  let v2385 : Index := Scalar.indexCast c0_i32_1812
  let c97_i32 : BitVec 32 := 97#32
  let v2386 : Index := Scalar.indexCast c97_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2387 : Index := Scalar.indexCast v1784
  ![0, 97, v2387.toNat]
def k0_off114 (k0_t2 : Fin k0_t2_loop.trips) : Fin 3 → Nat :=
  let c0_i32_1813 : BitVec 32 := 0#32
  let v2389 : Index := Scalar.indexCast c0_i32_1813
  let c85_i32 : BitVec 32 := 85#32
  let v2390 : Index := Scalar.indexCast c85_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2391 : Index := Scalar.indexCast v1784
  ![0, 85, v2391.toNat]
def k0_off115 (k0_t2 : Fin k0_t2_loop.trips) : Fin 3 → Nat :=
  let c0_i32_1814 : BitVec 32 := 0#32
  let v2393 : Index := Scalar.indexCast c0_i32_1814
  let c72_i32 : BitVec 32 := 72#32
  let v2394 : Index := Scalar.indexCast c72_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2395 : Index := Scalar.indexCast v1784
  ![0, 72, v2395.toNat]
def k0_off116 (k0_t2 : Fin k0_t2_loop.trips) : Fin 3 → Nat :=
  let c0_i32_1816 : BitVec 32 := 0#32
  let v2405 : Index := Scalar.indexCast c0_i32_1816
  let c24_i32 : BitVec 32 := 24#32
  let v2406 : Index := Scalar.indexCast c24_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2407 : Index := Scalar.indexCast v1784
  ![0, 24, v2407.toNat]
def k0_off117 (k0_t2 : Fin k0_t2_loop.trips) : Fin 3 → Nat :=
  let c0_i32_1817 : BitVec 32 := 0#32
  let v2409 : Index := Scalar.indexCast c0_i32_1817
  let c110_i32 : BitVec 32 := 110#32
  let v2410 : Index := Scalar.indexCast c110_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2411 : Index := Scalar.indexCast v1784
  ![0, 110, v2411.toNat]
def k0_off118 (k0_t2 : Fin k0_t2_loop.trips) : Fin 3 → Nat :=
  let c0_i32_1818 : BitVec 32 := 0#32
  let v2413 : Index := Scalar.indexCast c0_i32_1818
  let c123_i32 : BitVec 32 := 123#32
  let v2414 : Index := Scalar.indexCast c123_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2415 : Index := Scalar.indexCast v1784
  ![0, 123, v2415.toNat]
def k0_off119 (k0_t2 : Fin k0_t2_loop.trips) : Fin 3 → Nat :=
  let c0_i32_1819 : BitVec 32 := 0#32
  let v2417 : Index := Scalar.indexCast c0_i32_1819
  let c111_i32 : BitVec 32 := 111#32
  let v2418 : Index := Scalar.indexCast c111_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2419 : Index := Scalar.indexCast v1784
  ![0, 111, v2419.toNat]
def k0_off120 (k0_t2 : Fin k0_t2_loop.trips) : Fin 3 → Nat :=
  let c0_i32_1820 : BitVec 32 := 0#32
  let v2421 : Index := Scalar.indexCast c0_i32_1820
  let c98_i32 : BitVec 32 := 98#32
  let v2422 : Index := Scalar.indexCast c98_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2423 : Index := Scalar.indexCast v1784
  ![0, 98, v2423.toNat]
def k0_off121 (k0_t2 : Fin k0_t2_loop.trips) : Fin 3 → Nat :=
  let c0_i32_1822 : BitVec 32 := 0#32
  let v2433 : Index := Scalar.indexCast c0_i32_1822
  let c31_i32_1823 : BitVec 32 := 31#32
  let v2434 : Index := Scalar.indexCast c31_i32_1823
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2435 : Index := Scalar.indexCast v1784
  ![0, 31, v2435.toNat]
def k0_off122 (k0_t2 : Fin k0_t2_loop.trips) : Fin 3 → Nat :=
  let c0_i32_1824 : BitVec 32 := 0#32
  let v2437 : Index := Scalar.indexCast c0_i32_1824
  let c136_i32 : BitVec 32 := 136#32
  let v2438 : Index := Scalar.indexCast c136_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2439 : Index := Scalar.indexCast v1784
  ![0, 136, v2439.toNat]
def k0_off123 (k0_t2 : Fin k0_t2_loop.trips) : Fin 3 → Nat :=
  let c0_i32_1825 : BitVec 32 := 0#32
  let v2441 : Index := Scalar.indexCast c0_i32_1825
  let c149_i32 : BitVec 32 := 149#32
  let v2442 : Index := Scalar.indexCast c149_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2443 : Index := Scalar.indexCast v1784
  ![0, 149, v2443.toNat]
def k0_off124 (k0_t2 : Fin k0_t2_loop.trips) : Fin 3 → Nat :=
  let c0_i32_1826 : BitVec 32 := 0#32
  let v2445 : Index := Scalar.indexCast c0_i32_1826
  let c137_i32 : BitVec 32 := 137#32
  let v2446 : Index := Scalar.indexCast c137_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2447 : Index := Scalar.indexCast v1784
  ![0, 137, v2447.toNat]
def k0_off125 (k0_t2 : Fin k0_t2_loop.trips) : Fin 3 → Nat :=
  let c0_i32_1827 : BitVec 32 := 0#32
  let v2449 : Index := Scalar.indexCast c0_i32_1827
  let c124_i32 : BitVec 32 := 124#32
  let v2450 : Index := Scalar.indexCast c124_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2451 : Index := Scalar.indexCast v1784
  ![0, 124, v2451.toNat]
def k0_off126 (k0_t2 : Fin k0_t2_loop.trips) : Fin 3 → Nat :=
  let c0_i32_1829 : BitVec 32 := 0#32
  let v2461 : Index := Scalar.indexCast c0_i32_1829
  let c38_i32 : BitVec 32 := 38#32
  let v2462 : Index := Scalar.indexCast c38_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2463 : Index := Scalar.indexCast v1784
  ![0, 38, v2463.toNat]
def k0_off127 (k0_t2 : Fin k0_t2_loop.trips) : Fin 3 → Nat :=
  let c0_i32_1830 : BitVec 32 := 0#32
  let v2465 : Index := Scalar.indexCast c0_i32_1830
  let c47_i32_1831 : BitVec 32 := 47#32
  let v2466 : Index := Scalar.indexCast c47_i32_1831
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2467 : Index := Scalar.indexCast v1784
  ![0, 47, v2467.toNat]
def k0_off128 (k0_t2 : Fin k0_t2_loop.trips) : Fin 3 → Nat :=
  let c0_i32_1832 : BitVec 32 := 0#32
  let v2469 : Index := Scalar.indexCast c0_i32_1832
  let c34_i32 : BitVec 32 := 34#32
  let v2470 : Index := Scalar.indexCast c34_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2471 : Index := Scalar.indexCast v1784
  ![0, 34, v2471.toNat]
def k0_off129 (k0_t2 : Fin k0_t2_loop.trips) : Fin 3 → Nat :=
  let c0_i32_1833 : BitVec 32 := 0#32
  let v2473 : Index := Scalar.indexCast c0_i32_1833
  let c60_i32 : BitVec 32 := 60#32
  let v2474 : Index := Scalar.indexCast c60_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2475 : Index := Scalar.indexCast v1784
  ![0, 60, v2475.toNat]
def k0_off130 (k0_t2 : Fin k0_t2_loop.trips) : Fin 3 → Nat :=
  let c0_i32_1834 : BitVec 32 := 0#32
  let v2477 : Index := Scalar.indexCast c0_i32_1834
  let c48_i32_1835 : BitVec 32 := 48#32
  let v2478 : Index := Scalar.indexCast c48_i32_1835
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2479 : Index := Scalar.indexCast v1784
  ![0, 48, v2479.toNat]
def k0_off131 (k0_t2 : Fin k0_t2_loop.trips) : Fin 3 → Nat :=
  let c0_i32_1836 : BitVec 32 := 0#32
  let v2481 : Index := Scalar.indexCast c0_i32_1836
  let c35_i32_1837 : BitVec 32 := 35#32
  let v2482 : Index := Scalar.indexCast c35_i32_1837
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2483 : Index := Scalar.indexCast v1784
  ![0, 35, v2483.toNat]
def k0_off132 (k0_t2 : Fin k0_t2_loop.trips) : Fin 3 → Nat :=
  let c0_i32_1839 : BitVec 32 := 0#32
  let v2493 : Index := Scalar.indexCast c0_i32_1839
  let c18_i32_1840 : BitVec 32 := 18#32
  let v2494 : Index := Scalar.indexCast c18_i32_1840
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2495 : Index := Scalar.indexCast v1784
  ![0, 18, v2495.toNat]
def k0_off133 (k0_t2 : Fin k0_t2_loop.trips) : Fin 3 → Nat :=
  let c0_i32_1841 : BitVec 32 := 0#32
  let v2497 : Index := Scalar.indexCast c0_i32_1841
  let c73_i32 : BitVec 32 := 73#32
  let v2498 : Index := Scalar.indexCast c73_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2499 : Index := Scalar.indexCast v1784
  ![0, 73, v2499.toNat]
def k0_off134 (k0_t2 : Fin k0_t2_loop.trips) : Fin 3 → Nat :=
  let c0_i32_1842 : BitVec 32 := 0#32
  let v2501 : Index := Scalar.indexCast c0_i32_1842
  let c86_i32 : BitVec 32 := 86#32
  let v2502 : Index := Scalar.indexCast c86_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2503 : Index := Scalar.indexCast v1784
  ![0, 86, v2503.toNat]
def k0_off135 (k0_t2 : Fin k0_t2_loop.trips) : Fin 3 → Nat :=
  let c0_i32_1843 : BitVec 32 := 0#32
  let v2505 : Index := Scalar.indexCast c0_i32_1843
  let c74_i32 : BitVec 32 := 74#32
  let v2506 : Index := Scalar.indexCast c74_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2507 : Index := Scalar.indexCast v1784
  ![0, 74, v2507.toNat]
def k0_off136 (k0_t2 : Fin k0_t2_loop.trips) : Fin 3 → Nat :=
  let c0_i32_1844 : BitVec 32 := 0#32
  let v2509 : Index := Scalar.indexCast c0_i32_1844
  let c61_i32 : BitVec 32 := 61#32
  let v2510 : Index := Scalar.indexCast c61_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2511 : Index := Scalar.indexCast v1784
  ![0, 61, v2511.toNat]
def k0_off137 (k0_t2 : Fin k0_t2_loop.trips) : Fin 3 → Nat :=
  let c0_i32_1846 : BitVec 32 := 0#32
  let v2521 : Index := Scalar.indexCast c0_i32_1846
  let c25_i32 : BitVec 32 := 25#32
  let v2522 : Index := Scalar.indexCast c25_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2523 : Index := Scalar.indexCast v1784
  ![0, 25, v2523.toNat]
def k0_off138 (k0_t2 : Fin k0_t2_loop.trips) : Fin 3 → Nat :=
  let c0_i32_1847 : BitVec 32 := 0#32
  let v2525 : Index := Scalar.indexCast c0_i32_1847
  let c99_i32 : BitVec 32 := 99#32
  let v2526 : Index := Scalar.indexCast c99_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2527 : Index := Scalar.indexCast v1784
  ![0, 99, v2527.toNat]
def k0_off139 (k0_t2 : Fin k0_t2_loop.trips) : Fin 3 → Nat :=
  let c0_i32_1848 : BitVec 32 := 0#32
  let v2529 : Index := Scalar.indexCast c0_i32_1848
  let c112_i32 : BitVec 32 := 112#32
  let v2530 : Index := Scalar.indexCast c112_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2531 : Index := Scalar.indexCast v1784
  ![0, 112, v2531.toNat]
def k0_off140 (k0_t2 : Fin k0_t2_loop.trips) : Fin 3 → Nat :=
  let c0_i32_1849 : BitVec 32 := 0#32
  let v2533 : Index := Scalar.indexCast c0_i32_1849
  let c100_i32 : BitVec 32 := 100#32
  let v2534 : Index := Scalar.indexCast c100_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2535 : Index := Scalar.indexCast v1784
  ![0, 100, v2535.toNat]
def k0_off141 (k0_t2 : Fin k0_t2_loop.trips) : Fin 3 → Nat :=
  let c0_i32_1850 : BitVec 32 := 0#32
  let v2537 : Index := Scalar.indexCast c0_i32_1850
  let c87_i32 : BitVec 32 := 87#32
  let v2538 : Index := Scalar.indexCast c87_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2539 : Index := Scalar.indexCast v1784
  ![0, 87, v2539.toNat]
def k0_off142 (k0_t2 : Fin k0_t2_loop.trips) : Fin 3 → Nat :=
  let c0_i32_1852 : BitVec 32 := 0#32
  let v2549 : Index := Scalar.indexCast c0_i32_1852
  let c32_i32_1853 : BitVec 32 := 32#32
  let v2550 : Index := Scalar.indexCast c32_i32_1853
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2551 : Index := Scalar.indexCast v1784
  ![0, 32, v2551.toNat]
def k0_off143 (k0_t2 : Fin k0_t2_loop.trips) : Fin 3 → Nat :=
  let c0_i32_1854 : BitVec 32 := 0#32
  let v2553 : Index := Scalar.indexCast c0_i32_1854
  let c125_i32 : BitVec 32 := 125#32
  let v2554 : Index := Scalar.indexCast c125_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2555 : Index := Scalar.indexCast v1784
  ![0, 125, v2555.toNat]
def k0_off144 (k0_t2 : Fin k0_t2_loop.trips) : Fin 3 → Nat :=
  let c0_i32_1855 : BitVec 32 := 0#32
  let v2557 : Index := Scalar.indexCast c0_i32_1855
  let c138_i32 : BitVec 32 := 138#32
  let v2558 : Index := Scalar.indexCast c138_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2559 : Index := Scalar.indexCast v1784
  ![0, 138, v2559.toNat]
def k0_off145 (k0_t2 : Fin k0_t2_loop.trips) : Fin 3 → Nat :=
  let c0_i32_1856 : BitVec 32 := 0#32
  let v2561 : Index := Scalar.indexCast c0_i32_1856
  let c126_i32 : BitVec 32 := 126#32
  let v2562 : Index := Scalar.indexCast c126_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2563 : Index := Scalar.indexCast v1784
  ![0, 126, v2563.toNat]
def k0_off146 (k0_t2 : Fin k0_t2_loop.trips) : Fin 3 → Nat :=
  let c0_i32_1857 : BitVec 32 := 0#32
  let v2565 : Index := Scalar.indexCast c0_i32_1857
  let c113_i32 : BitVec 32 := 113#32
  let v2566 : Index := Scalar.indexCast c113_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2567 : Index := Scalar.indexCast v1784
  ![0, 113, v2567.toNat]
def k0_off147 (k0_t2 : Fin k0_t2_loop.trips) : Fin 3 → Nat :=
  let c0_i32_1859 : BitVec 32 := 0#32
  let v2577 : Index := Scalar.indexCast c0_i32_1859
  let c39_i32_1860 : BitVec 32 := 39#32
  let v2578 : Index := Scalar.indexCast c39_i32_1860
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2579 : Index := Scalar.indexCast v1784
  ![0, 39, v2579.toNat]
def k0_off148 (k0_t2 : Fin k0_t2_loop.trips) : Fin 3 → Nat :=
  let c0_i32_1861 : BitVec 32 := 0#32
  let v2581 : Index := Scalar.indexCast c0_i32_1861
  let c62_i32 : BitVec 32 := 62#32
  let v2582 : Index := Scalar.indexCast c62_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2583 : Index := Scalar.indexCast v1784
  ![0, 62, v2583.toNat]
def k0_off149 (k0_t2 : Fin k0_t2_loop.trips) : Fin 3 → Nat :=
  let c0_i32_1862 : BitVec 32 := 0#32
  let v2585 : Index := Scalar.indexCast c0_i32_1862
  let c49_i32 : BitVec 32 := 49#32
  let v2586 : Index := Scalar.indexCast c49_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2587 : Index := Scalar.indexCast v1784
  ![0, 49, v2587.toNat]
def k0_off150 (k0_t2 : Fin k0_t2_loop.trips) : Fin 3 → Nat :=
  let c0_i32_1863 : BitVec 32 := 0#32
  let v2589 : Index := Scalar.indexCast c0_i32_1863
  let c75_i32 : BitVec 32 := 75#32
  let v2590 : Index := Scalar.indexCast c75_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2591 : Index := Scalar.indexCast v1784
  ![0, 75, v2591.toNat]
def k0_off151 (k0_t2 : Fin k0_t2_loop.trips) : Fin 3 → Nat :=
  let c0_i32_1864 : BitVec 32 := 0#32
  let v2593 : Index := Scalar.indexCast c0_i32_1864
  let c63_i32 : BitVec 32 := 63#32
  let v2594 : Index := Scalar.indexCast c63_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2595 : Index := Scalar.indexCast v1784
  ![0, 63, v2595.toNat]
def k0_off152 (k0_t2 : Fin k0_t2_loop.trips) : Fin 3 → Nat :=
  let c0_i32_1865 : BitVec 32 := 0#32
  let v2597 : Index := Scalar.indexCast c0_i32_1865
  let c50_i32 : BitVec 32 := 50#32
  let v2598 : Index := Scalar.indexCast c50_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2599 : Index := Scalar.indexCast v1784
  ![0, 50, v2599.toNat]
def k0_off153 (k0_t2 : Fin k0_t2_loop.trips) : Fin 3 → Nat :=
  let c0_i32_1867 : BitVec 32 := 0#32
  let v2609 : Index := Scalar.indexCast c0_i32_1867
  let c19_i32_1868 : BitVec 32 := 19#32
  let v2610 : Index := Scalar.indexCast c19_i32_1868
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2611 : Index := Scalar.indexCast v1784
  ![0, 19, v2611.toNat]
def k0_off154 (k0_t2 : Fin k0_t2_loop.trips) : Fin 3 → Nat :=
  let c0_i32_1869 : BitVec 32 := 0#32
  let v2613 : Index := Scalar.indexCast c0_i32_1869
  let c88_i32 : BitVec 32 := 88#32
  let v2614 : Index := Scalar.indexCast c88_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2615 : Index := Scalar.indexCast v1784
  ![0, 88, v2615.toNat]
def k0_off155 (k0_t2 : Fin k0_t2_loop.trips) : Fin 3 → Nat :=
  let c0_i32_1870 : BitVec 32 := 0#32
  let v2617 : Index := Scalar.indexCast c0_i32_1870
  let c101_i32 : BitVec 32 := 101#32
  let v2618 : Index := Scalar.indexCast c101_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2619 : Index := Scalar.indexCast v1784
  ![0, 101, v2619.toNat]
def k0_off156 (k0_t2 : Fin k0_t2_loop.trips) : Fin 3 → Nat :=
  let c0_i32_1871 : BitVec 32 := 0#32
  let v2621 : Index := Scalar.indexCast c0_i32_1871
  let c89_i32 : BitVec 32 := 89#32
  let v2622 : Index := Scalar.indexCast c89_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2623 : Index := Scalar.indexCast v1784
  ![0, 89, v2623.toNat]
def k0_off157 (k0_t2 : Fin k0_t2_loop.trips) : Fin 3 → Nat :=
  let c0_i32_1872 : BitVec 32 := 0#32
  let v2625 : Index := Scalar.indexCast c0_i32_1872
  let c76_i32 : BitVec 32 := 76#32
  let v2626 : Index := Scalar.indexCast c76_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2627 : Index := Scalar.indexCast v1784
  ![0, 76, v2627.toNat]
def k0_off158 (k0_t2 : Fin k0_t2_loop.trips) : Fin 3 → Nat :=
  let c0_i32_1874 : BitVec 32 := 0#32
  let v2637 : Index := Scalar.indexCast c0_i32_1874
  let c26_i32_1875 : BitVec 32 := 26#32
  let v2638 : Index := Scalar.indexCast c26_i32_1875
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2639 : Index := Scalar.indexCast v1784
  ![0, 26, v2639.toNat]
def k0_off159 (k0_t2 : Fin k0_t2_loop.trips) : Fin 3 → Nat :=
  let c0_i32_1876 : BitVec 32 := 0#32
  let v2641 : Index := Scalar.indexCast c0_i32_1876
  let c114_i32 : BitVec 32 := 114#32
  let v2642 : Index := Scalar.indexCast c114_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2643 : Index := Scalar.indexCast v1784
  ![0, 114, v2643.toNat]
def k0_off160 (k0_t2 : Fin k0_t2_loop.trips) : Fin 3 → Nat :=
  let c0_i32_1877 : BitVec 32 := 0#32
  let v2645 : Index := Scalar.indexCast c0_i32_1877
  let c127_i32 : BitVec 32 := 127#32
  let v2646 : Index := Scalar.indexCast c127_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2647 : Index := Scalar.indexCast v1784
  ![0, 127, v2647.toNat]
def k0_off161 (k0_t2 : Fin k0_t2_loop.trips) : Fin 3 → Nat :=
  let c0_i32_1878 : BitVec 32 := 0#32
  let v2649 : Index := Scalar.indexCast c0_i32_1878
  let c115_i32 : BitVec 32 := 115#32
  let v2650 : Index := Scalar.indexCast c115_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2651 : Index := Scalar.indexCast v1784
  ![0, 115, v2651.toNat]
def k0_off162 (k0_t2 : Fin k0_t2_loop.trips) : Fin 3 → Nat :=
  let c0_i32_1879 : BitVec 32 := 0#32
  let v2653 : Index := Scalar.indexCast c0_i32_1879
  let c102_i32 : BitVec 32 := 102#32
  let v2654 : Index := Scalar.indexCast c102_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2655 : Index := Scalar.indexCast v1784
  ![0, 102, v2655.toNat]
def k0_off163 (k0_t2 : Fin k0_t2_loop.trips) : Fin 3 → Nat :=
  let c0_i32_1881 : BitVec 32 := 0#32
  let v2665 : Index := Scalar.indexCast c0_i32_1881
  let c33_i32_1882 : BitVec 32 := 33#32
  let v2666 : Index := Scalar.indexCast c33_i32_1882
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2667 : Index := Scalar.indexCast v1784
  ![0, 33, v2667.toNat]
def k0_off164 (k0_t2 : Fin k0_t2_loop.trips) : Fin 3 → Nat :=
  let c0_i32_1883 : BitVec 32 := 0#32
  let v2669 : Index := Scalar.indexCast c0_i32_1883
  let c77_i32 : BitVec 32 := 77#32
  let v2670 : Index := Scalar.indexCast c77_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2671 : Index := Scalar.indexCast v1784
  ![0, 77, v2671.toNat]
def k0_off165 (k0_t2 : Fin k0_t2_loop.trips) : Fin 3 → Nat :=
  let c0_i32_1884 : BitVec 32 := 0#32
  let v2673 : Index := Scalar.indexCast c0_i32_1884
  let c64_i32 : BitVec 32 := 64#32
  let v2674 : Index := Scalar.indexCast c64_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2675 : Index := Scalar.indexCast v1784
  ![0, 64, v2675.toNat]
def k0_off166 (k0_t2 : Fin k0_t2_loop.trips) : Fin 3 → Nat :=
  let c0_i32_1885 : BitVec 32 := 0#32
  let v2677 : Index := Scalar.indexCast c0_i32_1885
  let c90_i32 : BitVec 32 := 90#32
  let v2678 : Index := Scalar.indexCast c90_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2679 : Index := Scalar.indexCast v1784
  ![0, 90, v2679.toNat]
def k0_off167 (k0_t2 : Fin k0_t2_loop.trips) : Fin 3 → Nat :=
  let c0_i32_1887 : BitVec 32 := 0#32
  let v2689 : Index := Scalar.indexCast c0_i32_1887
  let c27_i32_1888 : BitVec 32 := 27#32
  let v2690 : Index := Scalar.indexCast c27_i32_1888
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2691 : Index := Scalar.indexCast v1784
  ![0, 27, v2691.toNat]
def k0_off168 (k0_t2 : Fin k0_t2_loop.trips) : Fin 3 → Nat :=
  let c0_i32_1889 : BitVec 32 := 0#32
  let v2693 : Index := Scalar.indexCast c0_i32_1889
  let c103_i32 : BitVec 32 := 103#32
  let v2694 : Index := Scalar.indexCast c103_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2695 : Index := Scalar.indexCast v1784
  ![0, 103, v2695.toNat]
def k0_off169 (k0_t2 : Fin k0_t2_loop.trips) : Fin 3 → Nat :=
  let c0_i32_1890 : BitVec 32 := 0#32
  let v2697 : Index := Scalar.indexCast c0_i32_1890
  let c116_i32 : BitVec 32 := 116#32
  let v2698 : Index := Scalar.indexCast c116_i32
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2699 : Index := Scalar.indexCast v1784
  ![0, 116, v2699.toNat]
def k0_off170 (k0_t2 : Fin k0_t2_loop.trips) : Fin 3 → Nat :=
  let c0_i32_1892 : BitVec 32 := 0#32
  let v2709 : Index := Scalar.indexCast c0_i32_1892
  let c34_i32_1893 : BitVec 32 := 34#32
  let v2710 : Index := Scalar.indexCast c34_i32_1893
  let c0_i32_1656 : BitVec 32 := 0#32
  let c0_i32_1602 : BitVec 32 := 0#32
  let c1_i32_1603 : BitVec 32 := 1#32
  let arg9 : BitVec 32 := Scf.iv c0_i32_1602 c1_i32_1603 k0_t2
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2711 : Index := Scalar.indexCast v1784
  ![0, 34, v2711.toNat]
def k0_off171 (i : grid0.Coords) (k0_t1 : Fin k0_t1_loop.trips) (c0_i32_1575 : BitVec 32) : Fin 3 → Nat :=
  let c0_i32_1609 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1576 : BitVec 32 := 24576#32
  let v1662 : BitVec 32 := Scalar.muli v1 c24576_i32_1576
  let c0_i32_1526 : BitVec 32 := 0#32
  let c1_i32_1528 : BitVec 32 := 1#32
  let arg8 : BitVec 32 := Scf.iv c0_i32_1526 c1_i32_1528 k0_t1
  let c2_i32_1574 : BitVec 32 := 2#32
  let v1660 : BitVec 32 := Scalar.muli arg8 c2_i32_1574
  let v1661 : BitVec 32 := Scalar.addi v1660 c0_i32_1575
  let c256_i32 : BitVec 32 := 256#32
  let v1663 : BitVec 32 := Scalar.muli v1661 c256_i32
  let v1664 : BitVec 32 := Scalar.addi v1662 v1663
  let c0_i32_1578 : BitVec 32 := 0#32
  let v1666 : BitVec 1 := Scalar.cmpi .sgt v1664 c0_i32_1578
  let v1667 : BitVec 32 := Scalar.extui v1666
  let c0_i32_1579 : BitVec 32 := 0#32
  let v1668 : BitVec 1 := Scalar.cmpi .slt v1664 c0_i32_1579
  let v1669 : BitVec 32 := Scalar.extui v1668
  let v1670 : BitVec 32 := Scalar.subi v1667 v1669
  let c768_i32_1577 : BitVec 32 := 768#32
  let c0_i32_1580 : BitVec 32 := 0#32
  let v1671 : BitVec 1 := Scalar.cmpi .sgt c768_i32_1577 c0_i32_1580
  let v1672 : BitVec 32 := Scalar.extui v1671
  let c0_i32_1581 : BitVec 32 := 0#32
  let v1673 : BitVec 1 := Scalar.cmpi .slt c768_i32_1577 c0_i32_1581
  let v1674 : BitVec 32 := Scalar.extui v1673
  let v1675 : BitVec 32 := Scalar.subi v1672 v1674
  let v1676 : BitVec 1 := Scalar.cmpi .ne v1670 v1675
  let v1677 : BitVec 32 := Scalar.remsi v1664 c768_i32_1577
  let c0_i32_1582 : BitVec 32 := 0#32
  let v1678 : BitVec 1 := Scalar.cmpi .ne v1677 c0_i32_1582
  let v1679 : BitVec 1 := Scalar.andi v1676 v1678
  let v1665 : BitVec 32 := Scalar.divsi v1664 c768_i32_1577
  let c1_i32_1583 : BitVec 32 := 1#32
  let v1680 : BitVec 32 := Scalar.subi v1665 c1_i32_1583
  let v1681 : BitVec 32 := Scalar.select v1679 v1680 v1665
  let c768_i32_1584 : BitVec 32 := 768#32
  let c0_i32_1585 : BitVec 32 := 0#32
  let v1682 : BitVec 1 := Scalar.cmpi .eq c768_i32_1584 c0_i32_1585
  let c1_i32_1586 : BitVec 32 := 1#32
  let v1683 : BitVec 32 := Scalar.select v1682 c1_i32_1586 c768_i32_1584
  let v1684 : BitVec 32 := Scalar.remsi v1664 v1683
  let c0_i32_1588 : BitVec 32 := 0#32
  let v1686 : BitVec 1 := Scalar.cmpi .slt v1684 c0_i32_1588
  let c0_i32_1589 : BitVec 32 := 0#32
  let v1687 : BitVec 1 := Scalar.cmpi .slt v1683 c0_i32_1589
  let v1688 : BitVec 1 := Scalar.xori v1686 v1687
  let c0_i32_1587 : BitVec 32 := 0#32
  let v1685 : BitVec 1 := Scalar.cmpi .ne v1684 c0_i32_1587
  let v1689 : BitVec 1 := Scalar.andi v1688 v1685
  let v1690 : BitVec 32 := Scalar.addi v1684 v1683
  let v1691 : BitVec 32 := Scalar.select v1689 v1690 v1684
  let v1692 : BitVec 32 := v1691
  ![0, v1681.toNat, v1692.toNat]
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1615 : BitVec 32 := 24576#32
  let v1723 : BitVec 32 := Scalar.muli v1 c24576_i32_1615
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c256_i32_1616 : BitVec 32 := 256#32
  let v1724 : BitVec 32 := Scalar.muli v1722 c256_i32_1616
  let v1725 : BitVec 32 := Scalar.addi v1723 v1724
  let c768_i32_1624 : BitVec 32 := 768#32
  let c0_i32_1625 : BitVec 32 := 0#32
  let v1743 : BitVec 1 := Scalar.cmpi .eq c768_i32_1624 c0_i32_1625
  let c1_i32_1626 : BitVec 32 := 1#32
  let v1744 : BitVec 32 := Scalar.select v1743 c1_i32_1626 c768_i32_1624
  let v1745 : BitVec 32 := Scalar.remsi v1725 v1744
  let c0_i32_1628 : BitVec 32 := 0#32
  let v1747 : BitVec 1 := Scalar.cmpi .slt v1745 c0_i32_1628
  let c0_i32_1629 : BitVec 32 := 0#32
  let v1748 : BitVec 1 := Scalar.cmpi .slt v1744 c0_i32_1629
  let v1749 : BitVec 1 := Scalar.xori v1747 v1748
  let c0_i32_1627 : BitVec 32 := 0#32
  let v1746 : BitVec 1 := Scalar.cmpi .ne v1745 c0_i32_1627
  let v1750 : BitVec 1 := Scalar.andi v1749 v1746
  let v1751 : BitVec 32 := Scalar.addi v1745 v1744
  let v1752 : BitVec 32 := Scalar.select v1750 v1751 v1745
  v1752
def k0_cond3 (k0_t1 : Fin k0_t1_loop.trips) : BitVec 1 :=
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c1_i32_1630 : BitVec 32 := 1#32
  let v1754 : BitVec 32 := Scalar.addi v1722 c1_i32_1630
  let c96_i32_1631 : BitVec 32 := 96#32
  let v1755 : BitVec 1 := Scalar.cmpi .slt v1754 c96_i32_1631
  let v1756 : BitVec 32 := Scalar.extui v1755
  let c0_i32_1632 : BitVec 32 := 0#32
  let v1757 : BitVec 1 := Scalar.cmpi .ne v1756 c0_i32_1632
  v1757

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c1_i32_1655 : BitVec 32 := 1#32
  let v1782 : BitVec 32 := Scalar.addi v1722 c1_i32_1655
  let c256_i32_1657 : BitVec 32 := 256#32
  let v1784 : BitVec 32 := Scalar.muli v1782 c256_i32_1657
  let v1785 : BitVec 32 := Scalar.addi v1783 v1784
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  v1812
def k0_off172 (i : grid0.Coords) (k0_t1 : Fin k0_t1_loop.trips) : Fin 3 → Nat :=
  let c0_i32_1675 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c1_i32_1655 : BitVec 32 := 1#32
  let v1782 : BitVec 32 := Scalar.addi v1722 c1_i32_1655
  let c256_i32_1657 : BitVec 32 := 256#32
  let v1784 : BitVec 32 := Scalar.muli v1782 c256_i32_1657
  let v1785 : BitVec 32 := Scalar.addi v1783 v1784
  let c0_i32_1659 : BitVec 32 := 0#32
  let v1787 : BitVec 1 := Scalar.cmpi .sgt v1785 c0_i32_1659
  let v1788 : BitVec 32 := Scalar.extui v1787
  let c0_i32_1660 : BitVec 32 := 0#32
  let v1789 : BitVec 1 := Scalar.cmpi .slt v1785 c0_i32_1660
  let v1790 : BitVec 32 := Scalar.extui v1789
  let v1791 : BitVec 32 := Scalar.subi v1788 v1790
  let c768_i32_1658 : BitVec 32 := 768#32
  let c0_i32_1661 : BitVec 32 := 0#32
  let v1792 : BitVec 1 := Scalar.cmpi .sgt c768_i32_1658 c0_i32_1661
  let v1793 : BitVec 32 := Scalar.extui v1792
  let c0_i32_1662 : BitVec 32 := 0#32
  let v1794 : BitVec 1 := Scalar.cmpi .slt c768_i32_1658 c0_i32_1662
  let v1795 : BitVec 32 := Scalar.extui v1794
  let v1796 : BitVec 32 := Scalar.subi v1793 v1795
  let v1797 : BitVec 1 := Scalar.cmpi .ne v1791 v1796
  let v1798 : BitVec 32 := Scalar.remsi v1785 c768_i32_1658
  let c0_i32_1663 : BitVec 32 := 0#32
  let v1799 : BitVec 1 := Scalar.cmpi .ne v1798 c0_i32_1663
  let v1800 : BitVec 1 := Scalar.andi v1797 v1799
  let v1786 : BitVec 32 := Scalar.divsi v1785 c768_i32_1658
  let c1_i32_1664 : BitVec 32 := 1#32
  let v1801 : BitVec 32 := Scalar.subi v1786 c1_i32_1664
  let v1802 : BitVec 32 := Scalar.select v1800 v1801 v1786
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  let v1813 : BitVec 32 := v1812
  ![0, v1802.toNat, v1813.toNat]
def k0_cond4 (k0_t1 : Fin k0_t1_loop.trips) : BitVec 1 :=
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c2_i32_1633 : BitVec 32 := 2#32
  let v1758 : BitVec 1 := Scalar.cmpi .sge v1722 c2_i32_1633
  let v1759 : BitVec 32 := Scalar.extui v1758
  let c0_i32_1634 : BitVec 32 := 0#32
  let v1760 : BitVec 1 := Scalar.cmpi .ne v1759 c0_i32_1634
  v1760

def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c2_i32_1655 : BitVec 32 := 2#32
  let v1782 : BitVec 32 := Scalar.subi v1722 c2_i32_1655
  let c256_i32_1657 : BitVec 32 := 256#32
  let v1784 : BitVec 32 := Scalar.muli v1782 c256_i32_1657
  let v1785 : BitVec 32 := Scalar.addi v1783 v1784
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  v1812
def k0_off173 (i : grid0.Coords) (k0_t1 : Fin k0_t1_loop.trips) : Fin 3 → Nat :=
  let c0_i32_1675 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1656 : BitVec 32 := 24576#32
  let v1783 : BitVec 32 := Scalar.muli v1 c24576_i32_1656
  let c0_i32_1526 : BitVec 32 := 0#32
  let c1_i32_1528 : BitVec 32 := 1#32
  let arg8 : BitVec 32 := Scf.iv c0_i32_1526 c1_i32_1528 k0_t1
  let c2_i32_1613 : BitVec 32 := 2#32
  let v1721 : BitVec 32 := Scalar.muli arg8 c2_i32_1613
  let c1_i32_1614 : BitVec 32 := 1#32
  let v1722 : BitVec 32 := Scalar.addi v1721 c1_i32_1614
  let c2_i32_1655 : BitVec 32 := 2#32
  let v1782 : BitVec 32 := Scalar.subi v1722 c2_i32_1655
  let c256_i32_1657 : BitVec 32 := 256#32
  let v1784 : BitVec 32 := Scalar.muli v1782 c256_i32_1657
  let v1785 : BitVec 32 := Scalar.addi v1783 v1784
  let c0_i32_1659 : BitVec 32 := 0#32
  let v1787 : BitVec 1 := Scalar.cmpi .sgt v1785 c0_i32_1659
  let v1788 : BitVec 32 := Scalar.extui v1787
  let c0_i32_1660 : BitVec 32 := 0#32
  let v1789 : BitVec 1 := Scalar.cmpi .slt v1785 c0_i32_1660
  let v1790 : BitVec 32 := Scalar.extui v1789
  let v1791 : BitVec 32 := Scalar.subi v1788 v1790
  let c768_i32_1658 : BitVec 32 := 768#32
  let c0_i32_1661 : BitVec 32 := 0#32
  let v1792 : BitVec 1 := Scalar.cmpi .sgt c768_i32_1658 c0_i32_1661
  let v1793 : BitVec 32 := Scalar.extui v1792
  let c0_i32_1662 : BitVec 32 := 0#32
  let v1794 : BitVec 1 := Scalar.cmpi .slt c768_i32_1658 c0_i32_1662
  let v1795 : BitVec 32 := Scalar.extui v1794
  let v1796 : BitVec 32 := Scalar.subi v1793 v1795
  let v1797 : BitVec 1 := Scalar.cmpi .ne v1791 v1796
  let v1798 : BitVec 32 := Scalar.remsi v1785 c768_i32_1658
  let c0_i32_1663 : BitVec 32 := 0#32
  let v1799 : BitVec 1 := Scalar.cmpi .ne v1798 c0_i32_1663
  let v1800 : BitVec 1 := Scalar.andi v1797 v1799
  let v1786 : BitVec 32 := Scalar.divsi v1785 c768_i32_1658
  let c1_i32_1664 : BitVec 32 := 1#32
  let v1801 : BitVec 32 := Scalar.subi v1786 c1_i32_1664
  let v1802 : BitVec 32 := Scalar.select v1800 v1801 v1786
  let c768_i32_1665 : BitVec 32 := 768#32
  let c0_i32_1666 : BitVec 32 := 0#32
  let v1803 : BitVec 1 := Scalar.cmpi .eq c768_i32_1665 c0_i32_1666
  let c1_i32_1667 : BitVec 32 := 1#32
  let v1804 : BitVec 32 := Scalar.select v1803 c1_i32_1667 c768_i32_1665
  let v1805 : BitVec 32 := Scalar.remsi v1785 v1804
  let c0_i32_1669 : BitVec 32 := 0#32
  let v1807 : BitVec 1 := Scalar.cmpi .slt v1805 c0_i32_1669
  let c0_i32_1670 : BitVec 32 := 0#32
  let v1808 : BitVec 1 := Scalar.cmpi .slt v1804 c0_i32_1670
  let v1809 : BitVec 1 := Scalar.xori v1807 v1808
  let c0_i32_1668 : BitVec 32 := 0#32
  let v1806 : BitVec 1 := Scalar.cmpi .ne v1805 c0_i32_1668
  let v1810 : BitVec 1 := Scalar.andi v1809 v1806
  let v1811 : BitVec 32 := Scalar.addi v1805 v1804
  let v1812 : BitVec 32 := Scalar.select v1810 v1811 v1805
  let v1813 : BitVec 32 := v1812
  ![0, v1802.toNat, v1813.toNat]
@[reducible] def k0_t3_loop : Scf.Loop 32 :=
  let c0_i32_1643 : BitVec 32 := 0#32
  let c16_i32_1644 : BitVec 32 := 16#32
  let v1771 : BitVec 32 := Scalar.addi c0_i32_1643 c16_i32_1644
  let c1_i32_1645 : BitVec 32 := 1#32
  ⟨c0_i32_1643, v1771, c1_i32_1645⟩
def k0_off174 (k0_t3 : Fin k0_t3_loop.trips) : Fin 3 → Nat :=
  let c1_i32_1658 : BitVec 32 := 1#32
  let v1785 : Index := Scalar.indexCast c1_i32_1658
  let c13_i32_1659 : BitVec 32 := 13#32
  let v1786 : Index := Scalar.indexCast c13_i32_1659
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1787 : Index := Scalar.indexCast v1784
  ![1, 13, v1787.toNat]
def k0_off175 (k0_t3 : Fin k0_t3_loop.trips) : Fin 3 → Nat :=
  let c1_i32_1660 : BitVec 32 := 1#32
  let v1789 : Index := Scalar.indexCast c1_i32_1660
  let c0_i32_1661 : BitVec 32 := 0#32
  let v1790 : Index := Scalar.indexCast c0_i32_1661
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1791 : Index := Scalar.indexCast v1784
  ![1, 0, v1791.toNat]
def k0_off176 (k0_t3 : Fin k0_t3_loop.trips) : Fin 3 → Nat :=
  let c1_i32_1662 : BitVec 32 := 1#32
  let v1793 : Index := Scalar.indexCast c1_i32_1662
  let c26_i32 : BitVec 32 := 26#32
  let v1794 : Index := Scalar.indexCast c26_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1795 : Index := Scalar.indexCast v1784
  ![1, 26, v1795.toNat]
def k0_off177 (k0_t3 : Fin k0_t3_loop.trips) : Fin 3 → Nat :=
  let c1_i32_1663 : BitVec 32 := 1#32
  let v1797 : Index := Scalar.indexCast c1_i32_1663
  let c14_i32 : BitVec 32 := 14#32
  let v1798 : Index := Scalar.indexCast c14_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1799 : Index := Scalar.indexCast v1784
  ![1, 14, v1799.toNat]
def k0_off178 (k0_t3 : Fin k0_t3_loop.trips) : Fin 3 → Nat :=
  let c1_i32_1664 : BitVec 32 := 1#32
  let v1801 : Index := Scalar.indexCast c1_i32_1664
  let c1_i32_1665 : BitVec 32 := 1#32
  let v1802 : Index := Scalar.indexCast c1_i32_1665
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1803 : Index := Scalar.indexCast v1784
  ![1, 1, v1803.toNat]
def k0_off179 (k0_t3 : Fin k0_t3_loop.trips) : Fin 3 → Nat :=
  let c1_i32_1667 : BitVec 32 := 1#32
  let v1813 : Index := Scalar.indexCast c1_i32_1667
  let c7_i32 : BitVec 32 := 7#32
  let v1814 : Index := Scalar.indexCast c7_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1815 : Index := Scalar.indexCast v1784
  ![1, 7, v1815.toNat]
def k0_off180 (k0_t3 : Fin k0_t3_loop.trips) : Fin 3 → Nat :=
  let c1_i32_1668 : BitVec 32 := 1#32
  let v1817 : Index := Scalar.indexCast c1_i32_1668
  let c39_i32 : BitVec 32 := 39#32
  let v1818 : Index := Scalar.indexCast c39_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1819 : Index := Scalar.indexCast v1784
  ![1, 39, v1819.toNat]
def k0_off181 (k0_t3 : Fin k0_t3_loop.trips) : Fin 3 → Nat :=
  let c1_i32_1669 : BitVec 32 := 1#32
  let v1821 : Index := Scalar.indexCast c1_i32_1669
  let c52_i32 : BitVec 32 := 52#32
  let v1822 : Index := Scalar.indexCast c52_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1823 : Index := Scalar.indexCast v1784
  ![1, 52, v1823.toNat]
def k0_off182 (k0_t3 : Fin k0_t3_loop.trips) : Fin 3 → Nat :=
  let c1_i32_1670 : BitVec 32 := 1#32
  let v1825 : Index := Scalar.indexCast c1_i32_1670
  let c40_i32_1671 : BitVec 32 := 40#32
  let v1826 : Index := Scalar.indexCast c40_i32_1671
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1827 : Index := Scalar.indexCast v1784
  ![1, 40, v1827.toNat]
def k0_off183 (k0_t3 : Fin k0_t3_loop.trips) : Fin 3 → Nat :=
  let c1_i32_1672 : BitVec 32 := 1#32
  let v1829 : Index := Scalar.indexCast c1_i32_1672
  let c27_i32 : BitVec 32 := 27#32
  let v1830 : Index := Scalar.indexCast c27_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1831 : Index := Scalar.indexCast v1784
  ![1, 27, v1831.toNat]
def k0_off184 (k0_t3 : Fin k0_t3_loop.trips) : Fin 3 → Nat :=
  let c1_i32_1674 : BitVec 32 := 1#32
  let v1841 : Index := Scalar.indexCast c1_i32_1674
  let c14_i32_1675 : BitVec 32 := 14#32
  let v1842 : Index := Scalar.indexCast c14_i32_1675
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1843 : Index := Scalar.indexCast v1784
  ![1, 14, v1843.toNat]
def k0_off185 (k0_t3 : Fin k0_t3_loop.trips) : Fin 3 → Nat :=
  let c1_i32_1676 : BitVec 32 := 1#32
  let v1845 : Index := Scalar.indexCast c1_i32_1676
  let c65_i32 : BitVec 32 := 65#32
  let v1846 : Index := Scalar.indexCast c65_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1847 : Index := Scalar.indexCast v1784
  ![1, 65, v1847.toNat]
def k0_off186 (k0_t3 : Fin k0_t3_loop.trips) : Fin 3 → Nat :=
  let c1_i32_1677 : BitVec 32 := 1#32
  let v1849 : Index := Scalar.indexCast c1_i32_1677
  let c78_i32 : BitVec 32 := 78#32
  let v1850 : Index := Scalar.indexCast c78_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1851 : Index := Scalar.indexCast v1784
  ![1, 78, v1851.toNat]
def k0_off187 (k0_t3 : Fin k0_t3_loop.trips) : Fin 3 → Nat :=
  let c1_i32_1678 : BitVec 32 := 1#32
  let v1853 : Index := Scalar.indexCast c1_i32_1678
  let c66_i32 : BitVec 32 := 66#32
  let v1854 : Index := Scalar.indexCast c66_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1855 : Index := Scalar.indexCast v1784
  ![1, 66, v1855.toNat]
def k0_off188 (k0_t3 : Fin k0_t3_loop.trips) : Fin 3 → Nat :=
  let c1_i32_1679 : BitVec 32 := 1#32
  let v1857 : Index := Scalar.indexCast c1_i32_1679
  let c53_i32 : BitVec 32 := 53#32
  let v1858 : Index := Scalar.indexCast c53_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1859 : Index := Scalar.indexCast v1784
  ![1, 53, v1859.toNat]
def k0_off189 (k0_t3 : Fin k0_t3_loop.trips) : Fin 3 → Nat :=
  let c1_i32_1681 : BitVec 32 := 1#32
  let v1869 : Index := Scalar.indexCast c1_i32_1681
  let c21_i32 : BitVec 32 := 21#32
  let v1870 : Index := Scalar.indexCast c21_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1871 : Index := Scalar.indexCast v1784
  ![1, 21, v1871.toNat]
def k0_off190 (k0_t3 : Fin k0_t3_loop.trips) : Fin 3 → Nat :=
  let c1_i32_1682 : BitVec 32 := 1#32
  let v1873 : Index := Scalar.indexCast c1_i32_1682
  let c91_i32 : BitVec 32 := 91#32
  let v1874 : Index := Scalar.indexCast c91_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1875 : Index := Scalar.indexCast v1784
  ![1, 91, v1875.toNat]
def k0_off191 (k0_t3 : Fin k0_t3_loop.trips) : Fin 3 → Nat :=
  let c1_i32_1683 : BitVec 32 := 1#32
  let v1877 : Index := Scalar.indexCast c1_i32_1683
  let c104_i32 : BitVec 32 := 104#32
  let v1878 : Index := Scalar.indexCast c104_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1879 : Index := Scalar.indexCast v1784
  ![1, 104, v1879.toNat]
def k0_off192 (k0_t3 : Fin k0_t3_loop.trips) : Fin 3 → Nat :=
  let c1_i32_1684 : BitVec 32 := 1#32
  let v1881 : Index := Scalar.indexCast c1_i32_1684
  let c92_i32 : BitVec 32 := 92#32
  let v1882 : Index := Scalar.indexCast c92_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1883 : Index := Scalar.indexCast v1784
  ![1, 92, v1883.toNat]
def k0_off193 (k0_t3 : Fin k0_t3_loop.trips) : Fin 3 → Nat :=
  let c1_i32_1685 : BitVec 32 := 1#32
  let v1885 : Index := Scalar.indexCast c1_i32_1685
  let c79_i32 : BitVec 32 := 79#32
  let v1886 : Index := Scalar.indexCast c79_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1887 : Index := Scalar.indexCast v1784
  ![1, 79, v1887.toNat]
def k0_off194 (k0_t3 : Fin k0_t3_loop.trips) : Fin 3 → Nat :=
  let c1_i32_1687 : BitVec 32 := 1#32
  let v1897 : Index := Scalar.indexCast c1_i32_1687
  let c28_i32 : BitVec 32 := 28#32
  let v1898 : Index := Scalar.indexCast c28_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1899 : Index := Scalar.indexCast v1784
  ![1, 28, v1899.toNat]
def k0_off195 (k0_t3 : Fin k0_t3_loop.trips) : Fin 3 → Nat :=
  let c1_i32_1688 : BitVec 32 := 1#32
  let v1901 : Index := Scalar.indexCast c1_i32_1688
  let c117_i32 : BitVec 32 := 117#32
  let v1902 : Index := Scalar.indexCast c117_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1903 : Index := Scalar.indexCast v1784
  ![1, 117, v1903.toNat]
def k0_off196 (k0_t3 : Fin k0_t3_loop.trips) : Fin 3 → Nat :=
  let c1_i32_1689 : BitVec 32 := 1#32
  let v1905 : Index := Scalar.indexCast c1_i32_1689
  let c130_i32 : BitVec 32 := 130#32
  let v1906 : Index := Scalar.indexCast c130_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1907 : Index := Scalar.indexCast v1784
  ![1, 130, v1907.toNat]
def k0_off197 (k0_t3 : Fin k0_t3_loop.trips) : Fin 3 → Nat :=
  let c1_i32_1690 : BitVec 32 := 1#32
  let v1909 : Index := Scalar.indexCast c1_i32_1690
  let c118_i32 : BitVec 32 := 118#32
  let v1910 : Index := Scalar.indexCast c118_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1911 : Index := Scalar.indexCast v1784
  ![1, 118, v1911.toNat]
def k0_off198 (k0_t3 : Fin k0_t3_loop.trips) : Fin 3 → Nat :=
  let c1_i32_1691 : BitVec 32 := 1#32
  let v1913 : Index := Scalar.indexCast c1_i32_1691
  let c105_i32 : BitVec 32 := 105#32
  let v1914 : Index := Scalar.indexCast c105_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1915 : Index := Scalar.indexCast v1784
  ![1, 105, v1915.toNat]
def k0_off199 (k0_t3 : Fin k0_t3_loop.trips) : Fin 3 → Nat :=
  let c1_i32_1693 : BitVec 32 := 1#32
  let v1925 : Index := Scalar.indexCast c1_i32_1693
  let c35_i32 : BitVec 32 := 35#32
  let v1926 : Index := Scalar.indexCast c35_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1927 : Index := Scalar.indexCast v1784
  ![1, 35, v1927.toNat]
def k0_off200 (k0_t3 : Fin k0_t3_loop.trips) : Fin 3 → Nat :=
  let c1_i32_1694 : BitVec 32 := 1#32
  let v1929 : Index := Scalar.indexCast c1_i32_1694
  let c143_i32 : BitVec 32 := 143#32
  let v1930 : Index := Scalar.indexCast c143_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1931 : Index := Scalar.indexCast v1784
  ![1, 143, v1931.toNat]
def k0_off201 (k0_t3 : Fin k0_t3_loop.trips) : Fin 3 → Nat :=
  let c1_i32_1695 : BitVec 32 := 1#32
  let v1933 : Index := Scalar.indexCast c1_i32_1695
  let c156_i32 : BitVec 32 := 156#32
  let v1934 : Index := Scalar.indexCast c156_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1935 : Index := Scalar.indexCast v1784
  ![1, 156, v1935.toNat]
def k0_off202 (k0_t3 : Fin k0_t3_loop.trips) : Fin 3 → Nat :=
  let c1_i32_1696 : BitVec 32 := 1#32
  let v1937 : Index := Scalar.indexCast c1_i32_1696
  let c144_i32 : BitVec 32 := 144#32
  let v1938 : Index := Scalar.indexCast c144_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1939 : Index := Scalar.indexCast v1784
  ![1, 144, v1939.toNat]
def k0_off203 (k0_t3 : Fin k0_t3_loop.trips) : Fin 3 → Nat :=
  let c1_i32_1697 : BitVec 32 := 1#32
  let v1941 : Index := Scalar.indexCast c1_i32_1697
  let c131_i32 : BitVec 32 := 131#32
  let v1942 : Index := Scalar.indexCast c131_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1943 : Index := Scalar.indexCast v1784
  ![1, 131, v1943.toNat]
def k0_off204 (k0_t3 : Fin k0_t3_loop.trips) : Fin 3 → Nat :=
  let c1_i32_1699 : BitVec 32 := 1#32
  let v1953 : Index := Scalar.indexCast c1_i32_1699
  let c42_i32 : BitVec 32 := 42#32
  let v1954 : Index := Scalar.indexCast c42_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1955 : Index := Scalar.indexCast v1784
  ![1, 42, v1955.toNat]
def k0_off205 (k0_t3 : Fin k0_t3_loop.trips) : Fin 3 → Nat :=
  let c1_i32_1700 : BitVec 32 := 1#32
  let v1957 : Index := Scalar.indexCast c1_i32_1700
  let c2_i32_1701 : BitVec 32 := 2#32
  let v1958 : Index := Scalar.indexCast c2_i32_1701
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1959 : Index := Scalar.indexCast v1784
  ![1, 2, v1959.toNat]
def k0_off206 (k0_t3 : Fin k0_t3_loop.trips) : Fin 3 → Nat :=
  let c1_i32_1702 : BitVec 32 := 1#32
  let v1961 : Index := Scalar.indexCast c1_i32_1702
  let c15_i32 : BitVec 32 := 15#32
  let v1962 : Index := Scalar.indexCast c15_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1963 : Index := Scalar.indexCast v1784
  ![1, 15, v1963.toNat]
def k0_off207 (k0_t3 : Fin k0_t3_loop.trips) : Fin 3 → Nat :=
  let c1_i32_1703 : BitVec 32 := 1#32
  let v1965 : Index := Scalar.indexCast c1_i32_1703
  let c3_i32_1704 : BitVec 32 := 3#32
  let v1966 : Index := Scalar.indexCast c3_i32_1704
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1967 : Index := Scalar.indexCast v1784
  ![1, 3, v1967.toNat]
def k0_off208 (k0_t3 : Fin k0_t3_loop.trips) : Fin 3 → Nat :=
  let c1_i32_1706 : BitVec 32 := 1#32
  let v1977 : Index := Scalar.indexCast c1_i32_1706
  let c1_i32_1707 : BitVec 32 := 1#32
  let v1978 : Index := Scalar.indexCast c1_i32_1707
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1979 : Index := Scalar.indexCast v1784
  ![1, 1, v1979.toNat]
def k0_off209 (k0_t3 : Fin k0_t3_loop.trips) : Fin 3 → Nat :=
  let c1_i32_1708 : BitVec 32 := 1#32
  let v1981 : Index := Scalar.indexCast c1_i32_1708
  let c28_i32_1709 : BitVec 32 := 28#32
  let v1982 : Index := Scalar.indexCast c28_i32_1709
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1983 : Index := Scalar.indexCast v1784
  ![1, 28, v1983.toNat]
def k0_off210 (k0_t3 : Fin k0_t3_loop.trips) : Fin 3 → Nat :=
  let c1_i32_1710 : BitVec 32 := 1#32
  let v1985 : Index := Scalar.indexCast c1_i32_1710
  let c41_i32_1711 : BitVec 32 := 41#32
  let v1986 : Index := Scalar.indexCast c41_i32_1711
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1987 : Index := Scalar.indexCast v1784
  ![1, 41, v1987.toNat]
def k0_off211 (k0_t3 : Fin k0_t3_loop.trips) : Fin 3 → Nat :=
  let c1_i32_1712 : BitVec 32 := 1#32
  let v1989 : Index := Scalar.indexCast c1_i32_1712
  let c29_i32 : BitVec 32 := 29#32
  let v1990 : Index := Scalar.indexCast c29_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1991 : Index := Scalar.indexCast v1784
  ![1, 29, v1991.toNat]
def k0_off212 (k0_t3 : Fin k0_t3_loop.trips) : Fin 3 → Nat :=
  let c1_i32_1713 : BitVec 32 := 1#32
  let v1993 : Index := Scalar.indexCast c1_i32_1713
  let c16_i32_1714 : BitVec 32 := 16#32
  let v1994 : Index := Scalar.indexCast c16_i32_1714
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v1995 : Index := Scalar.indexCast v1784
  ![1, 16, v1995.toNat]
def k0_off213 (k0_t3 : Fin k0_t3_loop.trips) : Fin 3 → Nat :=
  let c1_i32_1716 : BitVec 32 := 1#32
  let v2005 : Index := Scalar.indexCast c1_i32_1716
  let c8_i32 : BitVec 32 := 8#32
  let v2006 : Index := Scalar.indexCast c8_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2007 : Index := Scalar.indexCast v1784
  ![1, 8, v2007.toNat]
def k0_off214 (k0_t3 : Fin k0_t3_loop.trips) : Fin 3 → Nat :=
  let c1_i32_1717 : BitVec 32 := 1#32
  let v2009 : Index := Scalar.indexCast c1_i32_1717
  let c54_i32 : BitVec 32 := 54#32
  let v2010 : Index := Scalar.indexCast c54_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2011 : Index := Scalar.indexCast v1784
  ![1, 54, v2011.toNat]
def k0_off215 (k0_t3 : Fin k0_t3_loop.trips) : Fin 3 → Nat :=
  let c1_i32_1718 : BitVec 32 := 1#32
  let v2013 : Index := Scalar.indexCast c1_i32_1718
  let c67_i32 : BitVec 32 := 67#32
  let v2014 : Index := Scalar.indexCast c67_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2015 : Index := Scalar.indexCast v1784
  ![1, 67, v2015.toNat]
def k0_off216 (k0_t3 : Fin k0_t3_loop.trips) : Fin 3 → Nat :=
  let c1_i32_1719 : BitVec 32 := 1#32
  let v2017 : Index := Scalar.indexCast c1_i32_1719
  let c55_i32 : BitVec 32 := 55#32
  let v2018 : Index := Scalar.indexCast c55_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2019 : Index := Scalar.indexCast v1784
  ![1, 55, v2019.toNat]
def k0_off217 (k0_t3 : Fin k0_t3_loop.trips) : Fin 3 → Nat :=
  let c1_i32_1720 : BitVec 32 := 1#32
  let v2021 : Index := Scalar.indexCast c1_i32_1720
  let c42_i32_1721 : BitVec 32 := 42#32
  let v2022 : Index := Scalar.indexCast c42_i32_1721
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2023 : Index := Scalar.indexCast v1784
  ![1, 42, v2023.toNat]
def k0_off218 (k0_t3 : Fin k0_t3_loop.trips) : Fin 3 → Nat :=
  let c1_i32_1723 : BitVec 32 := 1#32
  let v2033 : Index := Scalar.indexCast c1_i32_1723
  let c15_i32_1724 : BitVec 32 := 15#32
  let v2034 : Index := Scalar.indexCast c15_i32_1724
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2035 : Index := Scalar.indexCast v1784
  ![1, 15, v2035.toNat]
def k0_off219 (k0_t3 : Fin k0_t3_loop.trips) : Fin 3 → Nat :=
  let c1_i32_1725 : BitVec 32 := 1#32
  let v2037 : Index := Scalar.indexCast c1_i32_1725
  let c80_i32 : BitVec 32 := 80#32
  let v2038 : Index := Scalar.indexCast c80_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2039 : Index := Scalar.indexCast v1784
  ![1, 80, v2039.toNat]
def k0_off220 (k0_t3 : Fin k0_t3_loop.trips) : Fin 3 → Nat :=
  let c1_i32_1726 : BitVec 32 := 1#32
  let v2041 : Index := Scalar.indexCast c1_i32_1726
  let c93_i32 : BitVec 32 := 93#32
  let v2042 : Index := Scalar.indexCast c93_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2043 : Index := Scalar.indexCast v1784
  ![1, 93, v2043.toNat]
def k0_off221 (k0_t3 : Fin k0_t3_loop.trips) : Fin 3 → Nat :=
  let c1_i32_1727 : BitVec 32 := 1#32
  let v2045 : Index := Scalar.indexCast c1_i32_1727
  let c81_i32 : BitVec 32 := 81#32
  let v2046 : Index := Scalar.indexCast c81_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2047 : Index := Scalar.indexCast v1784
  ![1, 81, v2047.toNat]
def k0_off222 (k0_t3 : Fin k0_t3_loop.trips) : Fin 3 → Nat :=
  let c1_i32_1728 : BitVec 32 := 1#32
  let v2049 : Index := Scalar.indexCast c1_i32_1728
  let c68_i32 : BitVec 32 := 68#32
  let v2050 : Index := Scalar.indexCast c68_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2051 : Index := Scalar.indexCast v1784
  ![1, 68, v2051.toNat]
def k0_off223 (k0_t3 : Fin k0_t3_loop.trips) : Fin 3 → Nat :=
  let c1_i32_1730 : BitVec 32 := 1#32
  let v2061 : Index := Scalar.indexCast c1_i32_1730
  let c22_i32 : BitVec 32 := 22#32
  let v2062 : Index := Scalar.indexCast c22_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2063 : Index := Scalar.indexCast v1784
  ![1, 22, v2063.toNat]
def k0_off224 (k0_t3 : Fin k0_t3_loop.trips) : Fin 3 → Nat :=
  let c1_i32_1731 : BitVec 32 := 1#32
  let v2065 : Index := Scalar.indexCast c1_i32_1731
  let c106_i32 : BitVec 32 := 106#32
  let v2066 : Index := Scalar.indexCast c106_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2067 : Index := Scalar.indexCast v1784
  ![1, 106, v2067.toNat]
def k0_off225 (k0_t3 : Fin k0_t3_loop.trips) : Fin 3 → Nat :=
  let c1_i32_1732 : BitVec 32 := 1#32
  let v2069 : Index := Scalar.indexCast c1_i32_1732
  let c119_i32 : BitVec 32 := 119#32
  let v2070 : Index := Scalar.indexCast c119_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2071 : Index := Scalar.indexCast v1784
  ![1, 119, v2071.toNat]
def k0_off226 (k0_t3 : Fin k0_t3_loop.trips) : Fin 3 → Nat :=
  let c1_i32_1733 : BitVec 32 := 1#32
  let v2073 : Index := Scalar.indexCast c1_i32_1733
  let c107_i32 : BitVec 32 := 107#32
  let v2074 : Index := Scalar.indexCast c107_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2075 : Index := Scalar.indexCast v1784
  ![1, 107, v2075.toNat]
def k0_off227 (k0_t3 : Fin k0_t3_loop.trips) : Fin 3 → Nat :=
  let c1_i32_1734 : BitVec 32 := 1#32
  let v2077 : Index := Scalar.indexCast c1_i32_1734
  let c94_i32 : BitVec 32 := 94#32
  let v2078 : Index := Scalar.indexCast c94_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2079 : Index := Scalar.indexCast v1784
  ![1, 94, v2079.toNat]
def k0_off228 (k0_t3 : Fin k0_t3_loop.trips) : Fin 3 → Nat :=
  let c1_i32_1736 : BitVec 32 := 1#32
  let v2089 : Index := Scalar.indexCast c1_i32_1736
  let c29_i32_1737 : BitVec 32 := 29#32
  let v2090 : Index := Scalar.indexCast c29_i32_1737
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2091 : Index := Scalar.indexCast v1784
  ![1, 29, v2091.toNat]
def k0_off229 (k0_t3 : Fin k0_t3_loop.trips) : Fin 3 → Nat :=
  let c1_i32_1738 : BitVec 32 := 1#32
  let v2093 : Index := Scalar.indexCast c1_i32_1738
  let c132_i32 : BitVec 32 := 132#32
  let v2094 : Index := Scalar.indexCast c132_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2095 : Index := Scalar.indexCast v1784
  ![1, 132, v2095.toNat]
def k0_off230 (k0_t3 : Fin k0_t3_loop.trips) : Fin 3 → Nat :=
  let c1_i32_1739 : BitVec 32 := 1#32
  let v2097 : Index := Scalar.indexCast c1_i32_1739
  let c145_i32 : BitVec 32 := 145#32
  let v2098 : Index := Scalar.indexCast c145_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2099 : Index := Scalar.indexCast v1784
  ![1, 145, v2099.toNat]
def k0_off231 (k0_t3 : Fin k0_t3_loop.trips) : Fin 3 → Nat :=
  let c1_i32_1740 : BitVec 32 := 1#32
  let v2101 : Index := Scalar.indexCast c1_i32_1740
  let c133_i32 : BitVec 32 := 133#32
  let v2102 : Index := Scalar.indexCast c133_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2103 : Index := Scalar.indexCast v1784
  ![1, 133, v2103.toNat]
def k0_off232 (k0_t3 : Fin k0_t3_loop.trips) : Fin 3 → Nat :=
  let c1_i32_1741 : BitVec 32 := 1#32
  let v2105 : Index := Scalar.indexCast c1_i32_1741
  let c120_i32 : BitVec 32 := 120#32
  let v2106 : Index := Scalar.indexCast c120_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2107 : Index := Scalar.indexCast v1784
  ![1, 120, v2107.toNat]
def k0_off233 (k0_t3 : Fin k0_t3_loop.trips) : Fin 3 → Nat :=
  let c1_i32_1743 : BitVec 32 := 1#32
  let v2117 : Index := Scalar.indexCast c1_i32_1743
  let c36_i32 : BitVec 32 := 36#32
  let v2118 : Index := Scalar.indexCast c36_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2119 : Index := Scalar.indexCast v1784
  ![1, 36, v2119.toNat]
def k0_off234 (k0_t3 : Fin k0_t3_loop.trips) : Fin 3 → Nat :=
  let c1_i32_1744 : BitVec 32 := 1#32
  let v2121 : Index := Scalar.indexCast c1_i32_1744
  let c158_i32 : BitVec 32 := 158#32
  let v2122 : Index := Scalar.indexCast c158_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2123 : Index := Scalar.indexCast v1784
  ![1, 158, v2123.toNat]
def k0_off235 (k0_t3 : Fin k0_t3_loop.trips) : Fin 3 → Nat :=
  let c1_i32_1745 : BitVec 32 := 1#32
  let v2125 : Index := Scalar.indexCast c1_i32_1745
  let c159_i32 : BitVec 32 := 159#32
  let v2126 : Index := Scalar.indexCast c159_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2127 : Index := Scalar.indexCast v1784
  ![1, 159, v2127.toNat]
def k0_off236 (k0_t3 : Fin k0_t3_loop.trips) : Fin 3 → Nat :=
  let c1_i32_1746 : BitVec 32 := 1#32
  let v2129 : Index := Scalar.indexCast c1_i32_1746
  let c157_i32 : BitVec 32 := 157#32
  let v2130 : Index := Scalar.indexCast c157_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2131 : Index := Scalar.indexCast v1784
  ![1, 157, v2131.toNat]
def k0_off237 (k0_t3 : Fin k0_t3_loop.trips) : Fin 3 → Nat :=
  let c1_i32_1747 : BitVec 32 := 1#32
  let v2133 : Index := Scalar.indexCast c1_i32_1747
  let c146_i32 : BitVec 32 := 146#32
  let v2134 : Index := Scalar.indexCast c146_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2135 : Index := Scalar.indexCast v1784
  ![1, 146, v2135.toNat]
def k0_off238 (k0_t3 : Fin k0_t3_loop.trips) : Fin 3 → Nat :=
  let c1_i32_1749 : BitVec 32 := 1#32
  let v2145 : Index := Scalar.indexCast c1_i32_1749
  let c43_i32 : BitVec 32 := 43#32
  let v2146 : Index := Scalar.indexCast c43_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2147 : Index := Scalar.indexCast v1784
  ![1, 43, v2147.toNat]
def k0_off239 (k0_t3 : Fin k0_t3_loop.trips) : Fin 3 → Nat :=
  let c1_i32_1750 : BitVec 32 := 1#32
  let v2149 : Index := Scalar.indexCast c1_i32_1750
  let c17_i32 : BitVec 32 := 17#32
  let v2150 : Index := Scalar.indexCast c17_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2151 : Index := Scalar.indexCast v1784
  ![1, 17, v2151.toNat]
def k0_off240 (k0_t3 : Fin k0_t3_loop.trips) : Fin 3 → Nat :=
  let c1_i32_1751 : BitVec 32 := 1#32
  let v2153 : Index := Scalar.indexCast c1_i32_1751
  let c4_i32_1752 : BitVec 32 := 4#32
  let v2154 : Index := Scalar.indexCast c4_i32_1752
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2155 : Index := Scalar.indexCast v1784
  ![1, 4, v2155.toNat]
def k0_off241 (k0_t3 : Fin k0_t3_loop.trips) : Fin 3 → Nat :=
  let c1_i32_1753 : BitVec 32 := 1#32
  let v2157 : Index := Scalar.indexCast c1_i32_1753
  let c30_i32 : BitVec 32 := 30#32
  let v2158 : Index := Scalar.indexCast c30_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2159 : Index := Scalar.indexCast v1784
  ![1, 30, v2159.toNat]
def k0_off242 (k0_t3 : Fin k0_t3_loop.trips) : Fin 3 → Nat :=
  let c1_i32_1754 : BitVec 32 := 1#32
  let v2161 : Index := Scalar.indexCast c1_i32_1754
  let c18_i32 : BitVec 32 := 18#32
  let v2162 : Index := Scalar.indexCast c18_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2163 : Index := Scalar.indexCast v1784
  ![1, 18, v2163.toNat]
def k0_off243 (k0_t3 : Fin k0_t3_loop.trips) : Fin 3 → Nat :=
  let c1_i32_1755 : BitVec 32 := 1#32
  let v2165 : Index := Scalar.indexCast c1_i32_1755
  let c5_i32_1756 : BitVec 32 := 5#32
  let v2166 : Index := Scalar.indexCast c5_i32_1756
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2167 : Index := Scalar.indexCast v1784
  ![1, 5, v2167.toNat]
def k0_off244 (k0_t3 : Fin k0_t3_loop.trips) : Fin 3 → Nat :=
  let c1_i32_1758 : BitVec 32 := 1#32
  let v2177 : Index := Scalar.indexCast c1_i32_1758
  let c9_i32 : BitVec 32 := 9#32
  let v2178 : Index := Scalar.indexCast c9_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2179 : Index := Scalar.indexCast v1784
  ![1, 9, v2179.toNat]
def k0_off245 (k0_t3 : Fin k0_t3_loop.trips) : Fin 3 → Nat :=
  let c1_i32_1759 : BitVec 32 := 1#32
  let v2181 : Index := Scalar.indexCast c1_i32_1759
  let c43_i32_1760 : BitVec 32 := 43#32
  let v2182 : Index := Scalar.indexCast c43_i32_1760
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2183 : Index := Scalar.indexCast v1784
  ![1, 43, v2183.toNat]
def k0_off246 (k0_t3 : Fin k0_t3_loop.trips) : Fin 3 → Nat :=
  let c1_i32_1761 : BitVec 32 := 1#32
  let v2185 : Index := Scalar.indexCast c1_i32_1761
  let c56_i32 : BitVec 32 := 56#32
  let v2186 : Index := Scalar.indexCast c56_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2187 : Index := Scalar.indexCast v1784
  ![1, 56, v2187.toNat]
def k0_off247 (k0_t3 : Fin k0_t3_loop.trips) : Fin 3 → Nat :=
  let c1_i32_1762 : BitVec 32 := 1#32
  let v2189 : Index := Scalar.indexCast c1_i32_1762
  let c44_i32 : BitVec 32 := 44#32
  let v2190 : Index := Scalar.indexCast c44_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2191 : Index := Scalar.indexCast v1784
  ![1, 44, v2191.toNat]
def k0_off248 (k0_t3 : Fin k0_t3_loop.trips) : Fin 3 → Nat :=
  let c1_i32_1763 : BitVec 32 := 1#32
  let v2193 : Index := Scalar.indexCast c1_i32_1763
  let c31_i32 : BitVec 32 := 31#32
  let v2194 : Index := Scalar.indexCast c31_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2195 : Index := Scalar.indexCast v1784
  ![1, 31, v2195.toNat]
def k0_off249 (k0_t3 : Fin k0_t3_loop.trips) : Fin 3 → Nat :=
  let c1_i32_1765 : BitVec 32 := 1#32
  let v2205 : Index := Scalar.indexCast c1_i32_1765
  let c16_i32_1766 : BitVec 32 := 16#32
  let v2206 : Index := Scalar.indexCast c16_i32_1766
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2207 : Index := Scalar.indexCast v1784
  ![1, 16, v2207.toNat]
def k0_off250 (k0_t3 : Fin k0_t3_loop.trips) : Fin 3 → Nat :=
  let c1_i32_1767 : BitVec 32 := 1#32
  let v2209 : Index := Scalar.indexCast c1_i32_1767
  let c69_i32 : BitVec 32 := 69#32
  let v2210 : Index := Scalar.indexCast c69_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2211 : Index := Scalar.indexCast v1784
  ![1, 69, v2211.toNat]
def k0_off251 (k0_t3 : Fin k0_t3_loop.trips) : Fin 3 → Nat :=
  let c1_i32_1768 : BitVec 32 := 1#32
  let v2213 : Index := Scalar.indexCast c1_i32_1768
  let c82_i32 : BitVec 32 := 82#32
  let v2214 : Index := Scalar.indexCast c82_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2215 : Index := Scalar.indexCast v1784
  ![1, 82, v2215.toNat]
def k0_off252 (k0_t3 : Fin k0_t3_loop.trips) : Fin 3 → Nat :=
  let c1_i32_1769 : BitVec 32 := 1#32
  let v2217 : Index := Scalar.indexCast c1_i32_1769
  let c70_i32 : BitVec 32 := 70#32
  let v2218 : Index := Scalar.indexCast c70_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2219 : Index := Scalar.indexCast v1784
  ![1, 70, v2219.toNat]
def k0_off253 (k0_t3 : Fin k0_t3_loop.trips) : Fin 3 → Nat :=
  let c1_i32_1770 : BitVec 32 := 1#32
  let v2221 : Index := Scalar.indexCast c1_i32_1770
  let c57_i32 : BitVec 32 := 57#32
  let v2222 : Index := Scalar.indexCast c57_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2223 : Index := Scalar.indexCast v1784
  ![1, 57, v2223.toNat]
def k0_off254 (k0_t3 : Fin k0_t3_loop.trips) : Fin 3 → Nat :=
  let c1_i32_1772 : BitVec 32 := 1#32
  let v2233 : Index := Scalar.indexCast c1_i32_1772
  let c23_i32 : BitVec 32 := 23#32
  let v2234 : Index := Scalar.indexCast c23_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2235 : Index := Scalar.indexCast v1784
  ![1, 23, v2235.toNat]
def k0_off255 (k0_t3 : Fin k0_t3_loop.trips) : Fin 3 → Nat :=
  let c1_i32_1773 : BitVec 32 := 1#32
  let v2237 : Index := Scalar.indexCast c1_i32_1773
  let c95_i32 : BitVec 32 := 95#32
  let v2238 : Index := Scalar.indexCast c95_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2239 : Index := Scalar.indexCast v1784
  ![1, 95, v2239.toNat]
def k0_off256 (k0_t3 : Fin k0_t3_loop.trips) : Fin 3 → Nat :=
  let c1_i32_1774 : BitVec 32 := 1#32
  let v2241 : Index := Scalar.indexCast c1_i32_1774
  let c108_i32 : BitVec 32 := 108#32
  let v2242 : Index := Scalar.indexCast c108_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2243 : Index := Scalar.indexCast v1784
  ![1, 108, v2243.toNat]
def k0_off257 (k0_t3 : Fin k0_t3_loop.trips) : Fin 3 → Nat :=
  let c1_i32_1775 : BitVec 32 := 1#32
  let v2245 : Index := Scalar.indexCast c1_i32_1775
  let c96_i32_1776 : BitVec 32 := 96#32
  let v2246 : Index := Scalar.indexCast c96_i32_1776
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2247 : Index := Scalar.indexCast v1784
  ![1, 96, v2247.toNat]
def k0_off258 (k0_t3 : Fin k0_t3_loop.trips) : Fin 3 → Nat :=
  let c1_i32_1777 : BitVec 32 := 1#32
  let v2249 : Index := Scalar.indexCast c1_i32_1777
  let c83_i32 : BitVec 32 := 83#32
  let v2250 : Index := Scalar.indexCast c83_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2251 : Index := Scalar.indexCast v1784
  ![1, 83, v2251.toNat]
def k0_off259 (k0_t3 : Fin k0_t3_loop.trips) : Fin 3 → Nat :=
  let c1_i32_1779 : BitVec 32 := 1#32
  let v2261 : Index := Scalar.indexCast c1_i32_1779
  let c30_i32_1780 : BitVec 32 := 30#32
  let v2262 : Index := Scalar.indexCast c30_i32_1780
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2263 : Index := Scalar.indexCast v1784
  ![1, 30, v2263.toNat]
def k0_off260 (k0_t3 : Fin k0_t3_loop.trips) : Fin 3 → Nat :=
  let c1_i32_1781 : BitVec 32 := 1#32
  let v2265 : Index := Scalar.indexCast c1_i32_1781
  let c121_i32 : BitVec 32 := 121#32
  let v2266 : Index := Scalar.indexCast c121_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2267 : Index := Scalar.indexCast v1784
  ![1, 121, v2267.toNat]
def k0_off261 (k0_t3 : Fin k0_t3_loop.trips) : Fin 3 → Nat :=
  let c1_i32_1782 : BitVec 32 := 1#32
  let v2269 : Index := Scalar.indexCast c1_i32_1782
  let c134_i32 : BitVec 32 := 134#32
  let v2270 : Index := Scalar.indexCast c134_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2271 : Index := Scalar.indexCast v1784
  ![1, 134, v2271.toNat]
def k0_off262 (k0_t3 : Fin k0_t3_loop.trips) : Fin 3 → Nat :=
  let c1_i32_1783 : BitVec 32 := 1#32
  let v2273 : Index := Scalar.indexCast c1_i32_1783
  let c122_i32 : BitVec 32 := 122#32
  let v2274 : Index := Scalar.indexCast c122_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2275 : Index := Scalar.indexCast v1784
  ![1, 122, v2275.toNat]
def k0_off263 (k0_t3 : Fin k0_t3_loop.trips) : Fin 3 → Nat :=
  let c1_i32_1784 : BitVec 32 := 1#32
  let v2277 : Index := Scalar.indexCast c1_i32_1784
  let c109_i32 : BitVec 32 := 109#32
  let v2278 : Index := Scalar.indexCast c109_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2279 : Index := Scalar.indexCast v1784
  ![1, 109, v2279.toNat]
def k0_off264 (k0_t3 : Fin k0_t3_loop.trips) : Fin 3 → Nat :=
  let c1_i32_1786 : BitVec 32 := 1#32
  let v2289 : Index := Scalar.indexCast c1_i32_1786
  let c37_i32 : BitVec 32 := 37#32
  let v2290 : Index := Scalar.indexCast c37_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2291 : Index := Scalar.indexCast v1784
  ![1, 37, v2291.toNat]
def k0_off265 (k0_t3 : Fin k0_t3_loop.trips) : Fin 3 → Nat :=
  let c1_i32_1787 : BitVec 32 := 1#32
  let v2293 : Index := Scalar.indexCast c1_i32_1787
  let c147_i32 : BitVec 32 := 147#32
  let v2294 : Index := Scalar.indexCast c147_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2295 : Index := Scalar.indexCast v1784
  ![1, 147, v2295.toNat]
def k0_off266 (k0_t3 : Fin k0_t3_loop.trips) : Fin 3 → Nat :=
  let c1_i32_1788 : BitVec 32 := 1#32
  let v2297 : Index := Scalar.indexCast c1_i32_1788
  let c160_i32 : BitVec 32 := 160#32
  let v2298 : Index := Scalar.indexCast c160_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2299 : Index := Scalar.indexCast v1784
  ![1, 160, v2299.toNat]
def k0_off267 (k0_t3 : Fin k0_t3_loop.trips) : Fin 3 → Nat :=
  let c1_i32_1789 : BitVec 32 := 1#32
  let v2301 : Index := Scalar.indexCast c1_i32_1789
  let c148_i32 : BitVec 32 := 148#32
  let v2302 : Index := Scalar.indexCast c148_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2303 : Index := Scalar.indexCast v1784
  ![1, 148, v2303.toNat]
def k0_off268 (k0_t3 : Fin k0_t3_loop.trips) : Fin 3 → Nat :=
  let c1_i32_1790 : BitVec 32 := 1#32
  let v2305 : Index := Scalar.indexCast c1_i32_1790
  let c135_i32 : BitVec 32 := 135#32
  let v2306 : Index := Scalar.indexCast c135_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2307 : Index := Scalar.indexCast v1784
  ![1, 135, v2307.toNat]
def k0_off269 (k0_t3 : Fin k0_t3_loop.trips) : Fin 3 → Nat :=
  let c1_i32_1792 : BitVec 32 := 1#32
  let v2317 : Index := Scalar.indexCast c1_i32_1792
  let c44_i32_1793 : BitVec 32 := 44#32
  let v2318 : Index := Scalar.indexCast c44_i32_1793
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2319 : Index := Scalar.indexCast v1784
  ![1, 44, v2319.toNat]
def k0_off270 (k0_t3 : Fin k0_t3_loop.trips) : Fin 3 → Nat :=
  let c1_i32_1794 : BitVec 32 := 1#32
  let v2321 : Index := Scalar.indexCast c1_i32_1794
  let c32_i32 : BitVec 32 := 32#32
  let v2322 : Index := Scalar.indexCast c32_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2323 : Index := Scalar.indexCast v1784
  ![1, 32, v2323.toNat]
def k0_off271 (k0_t3 : Fin k0_t3_loop.trips) : Fin 3 → Nat :=
  let c1_i32_1795 : BitVec 32 := 1#32
  let v2325 : Index := Scalar.indexCast c1_i32_1795
  let c19_i32 : BitVec 32 := 19#32
  let v2326 : Index := Scalar.indexCast c19_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2327 : Index := Scalar.indexCast v1784
  ![1, 19, v2327.toNat]
def k0_off272 (k0_t3 : Fin k0_t3_loop.trips) : Fin 3 → Nat :=
  let c1_i32_1796 : BitVec 32 := 1#32
  let v2329 : Index := Scalar.indexCast c1_i32_1796
  let c45_i32_1797 : BitVec 32 := 45#32
  let v2330 : Index := Scalar.indexCast c45_i32_1797
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2331 : Index := Scalar.indexCast v1784
  ![1, 45, v2331.toNat]
def k0_off273 (k0_t3 : Fin k0_t3_loop.trips) : Fin 3 → Nat :=
  let c1_i32_1798 : BitVec 32 := 1#32
  let v2333 : Index := Scalar.indexCast c1_i32_1798
  let c33_i32 : BitVec 32 := 33#32
  let v2334 : Index := Scalar.indexCast c33_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2335 : Index := Scalar.indexCast v1784
  ![1, 33, v2335.toNat]
def k0_off274 (k0_t3 : Fin k0_t3_loop.trips) : Fin 3 → Nat :=
  let c1_i32_1799 : BitVec 32 := 1#32
  let v2337 : Index := Scalar.indexCast c1_i32_1799
  let c20_i32_1800 : BitVec 32 := 20#32
  let v2338 : Index := Scalar.indexCast c20_i32_1800
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2339 : Index := Scalar.indexCast v1784
  ![1, 20, v2339.toNat]
def k0_off275 (k0_t3 : Fin k0_t3_loop.trips) : Fin 3 → Nat :=
  let c1_i32_1802 : BitVec 32 := 1#32
  let v2349 : Index := Scalar.indexCast c1_i32_1802
  let c10_i32 : BitVec 32 := 10#32
  let v2350 : Index := Scalar.indexCast c10_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2351 : Index := Scalar.indexCast v1784
  ![1, 10, v2351.toNat]
def k0_off276 (k0_t3 : Fin k0_t3_loop.trips) : Fin 3 → Nat :=
  let c1_i32_1803 : BitVec 32 := 1#32
  let v2353 : Index := Scalar.indexCast c1_i32_1803
  let c58_i32 : BitVec 32 := 58#32
  let v2354 : Index := Scalar.indexCast c58_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2355 : Index := Scalar.indexCast v1784
  ![1, 58, v2355.toNat]
def k0_off277 (k0_t3 : Fin k0_t3_loop.trips) : Fin 3 → Nat :=
  let c1_i32_1804 : BitVec 32 := 1#32
  let v2357 : Index := Scalar.indexCast c1_i32_1804
  let c71_i32 : BitVec 32 := 71#32
  let v2358 : Index := Scalar.indexCast c71_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2359 : Index := Scalar.indexCast v1784
  ![1, 71, v2359.toNat]
def k0_off278 (k0_t3 : Fin k0_t3_loop.trips) : Fin 3 → Nat :=
  let c1_i32_1805 : BitVec 32 := 1#32
  let v2361 : Index := Scalar.indexCast c1_i32_1805
  let c59_i32 : BitVec 32 := 59#32
  let v2362 : Index := Scalar.indexCast c59_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2363 : Index := Scalar.indexCast v1784
  ![1, 59, v2363.toNat]
def k0_off279 (k0_t3 : Fin k0_t3_loop.trips) : Fin 3 → Nat :=
  let c1_i32_1806 : BitVec 32 := 1#32
  let v2365 : Index := Scalar.indexCast c1_i32_1806
  let c46_i32_1807 : BitVec 32 := 46#32
  let v2366 : Index := Scalar.indexCast c46_i32_1807
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2367 : Index := Scalar.indexCast v1784
  ![1, 46, v2367.toNat]
def k0_off280 (k0_t3 : Fin k0_t3_loop.trips) : Fin 3 → Nat :=
  let c1_i32_1809 : BitVec 32 := 1#32
  let v2377 : Index := Scalar.indexCast c1_i32_1809
  let c17_i32_1810 : BitVec 32 := 17#32
  let v2378 : Index := Scalar.indexCast c17_i32_1810
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2379 : Index := Scalar.indexCast v1784
  ![1, 17, v2379.toNat]
def k0_off281 (k0_t3 : Fin k0_t3_loop.trips) : Fin 3 → Nat :=
  let c1_i32_1811 : BitVec 32 := 1#32
  let v2381 : Index := Scalar.indexCast c1_i32_1811
  let c84_i32 : BitVec 32 := 84#32
  let v2382 : Index := Scalar.indexCast c84_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2383 : Index := Scalar.indexCast v1784
  ![1, 84, v2383.toNat]
def k0_off282 (k0_t3 : Fin k0_t3_loop.trips) : Fin 3 → Nat :=
  let c1_i32_1812 : BitVec 32 := 1#32
  let v2385 : Index := Scalar.indexCast c1_i32_1812
  let c97_i32 : BitVec 32 := 97#32
  let v2386 : Index := Scalar.indexCast c97_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2387 : Index := Scalar.indexCast v1784
  ![1, 97, v2387.toNat]
def k0_off283 (k0_t3 : Fin k0_t3_loop.trips) : Fin 3 → Nat :=
  let c1_i32_1813 : BitVec 32 := 1#32
  let v2389 : Index := Scalar.indexCast c1_i32_1813
  let c85_i32 : BitVec 32 := 85#32
  let v2390 : Index := Scalar.indexCast c85_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2391 : Index := Scalar.indexCast v1784
  ![1, 85, v2391.toNat]
def k0_off284 (k0_t3 : Fin k0_t3_loop.trips) : Fin 3 → Nat :=
  let c1_i32_1814 : BitVec 32 := 1#32
  let v2393 : Index := Scalar.indexCast c1_i32_1814
  let c72_i32 : BitVec 32 := 72#32
  let v2394 : Index := Scalar.indexCast c72_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2395 : Index := Scalar.indexCast v1784
  ![1, 72, v2395.toNat]
def k0_off285 (k0_t3 : Fin k0_t3_loop.trips) : Fin 3 → Nat :=
  let c1_i32_1816 : BitVec 32 := 1#32
  let v2405 : Index := Scalar.indexCast c1_i32_1816
  let c24_i32 : BitVec 32 := 24#32
  let v2406 : Index := Scalar.indexCast c24_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2407 : Index := Scalar.indexCast v1784
  ![1, 24, v2407.toNat]
def k0_off286 (k0_t3 : Fin k0_t3_loop.trips) : Fin 3 → Nat :=
  let c1_i32_1817 : BitVec 32 := 1#32
  let v2409 : Index := Scalar.indexCast c1_i32_1817
  let c110_i32 : BitVec 32 := 110#32
  let v2410 : Index := Scalar.indexCast c110_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2411 : Index := Scalar.indexCast v1784
  ![1, 110, v2411.toNat]
def k0_off287 (k0_t3 : Fin k0_t3_loop.trips) : Fin 3 → Nat :=
  let c1_i32_1818 : BitVec 32 := 1#32
  let v2413 : Index := Scalar.indexCast c1_i32_1818
  let c123_i32 : BitVec 32 := 123#32
  let v2414 : Index := Scalar.indexCast c123_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2415 : Index := Scalar.indexCast v1784
  ![1, 123, v2415.toNat]
def k0_off288 (k0_t3 : Fin k0_t3_loop.trips) : Fin 3 → Nat :=
  let c1_i32_1819 : BitVec 32 := 1#32
  let v2417 : Index := Scalar.indexCast c1_i32_1819
  let c111_i32 : BitVec 32 := 111#32
  let v2418 : Index := Scalar.indexCast c111_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2419 : Index := Scalar.indexCast v1784
  ![1, 111, v2419.toNat]
def k0_off289 (k0_t3 : Fin k0_t3_loop.trips) : Fin 3 → Nat :=
  let c1_i32_1820 : BitVec 32 := 1#32
  let v2421 : Index := Scalar.indexCast c1_i32_1820
  let c98_i32 : BitVec 32 := 98#32
  let v2422 : Index := Scalar.indexCast c98_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2423 : Index := Scalar.indexCast v1784
  ![1, 98, v2423.toNat]
def k0_off290 (k0_t3 : Fin k0_t3_loop.trips) : Fin 3 → Nat :=
  let c1_i32_1822 : BitVec 32 := 1#32
  let v2433 : Index := Scalar.indexCast c1_i32_1822
  let c31_i32_1823 : BitVec 32 := 31#32
  let v2434 : Index := Scalar.indexCast c31_i32_1823
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2435 : Index := Scalar.indexCast v1784
  ![1, 31, v2435.toNat]
def k0_off291 (k0_t3 : Fin k0_t3_loop.trips) : Fin 3 → Nat :=
  let c1_i32_1824 : BitVec 32 := 1#32
  let v2437 : Index := Scalar.indexCast c1_i32_1824
  let c136_i32 : BitVec 32 := 136#32
  let v2438 : Index := Scalar.indexCast c136_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2439 : Index := Scalar.indexCast v1784
  ![1, 136, v2439.toNat]
def k0_off292 (k0_t3 : Fin k0_t3_loop.trips) : Fin 3 → Nat :=
  let c1_i32_1825 : BitVec 32 := 1#32
  let v2441 : Index := Scalar.indexCast c1_i32_1825
  let c149_i32 : BitVec 32 := 149#32
  let v2442 : Index := Scalar.indexCast c149_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2443 : Index := Scalar.indexCast v1784
  ![1, 149, v2443.toNat]
def k0_off293 (k0_t3 : Fin k0_t3_loop.trips) : Fin 3 → Nat :=
  let c1_i32_1826 : BitVec 32 := 1#32
  let v2445 : Index := Scalar.indexCast c1_i32_1826
  let c137_i32 : BitVec 32 := 137#32
  let v2446 : Index := Scalar.indexCast c137_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2447 : Index := Scalar.indexCast v1784
  ![1, 137, v2447.toNat]
def k0_off294 (k0_t3 : Fin k0_t3_loop.trips) : Fin 3 → Nat :=
  let c1_i32_1827 : BitVec 32 := 1#32
  let v2449 : Index := Scalar.indexCast c1_i32_1827
  let c124_i32 : BitVec 32 := 124#32
  let v2450 : Index := Scalar.indexCast c124_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2451 : Index := Scalar.indexCast v1784
  ![1, 124, v2451.toNat]
def k0_off295 (k0_t3 : Fin k0_t3_loop.trips) : Fin 3 → Nat :=
  let c1_i32_1829 : BitVec 32 := 1#32
  let v2461 : Index := Scalar.indexCast c1_i32_1829
  let c38_i32 : BitVec 32 := 38#32
  let v2462 : Index := Scalar.indexCast c38_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2463 : Index := Scalar.indexCast v1784
  ![1, 38, v2463.toNat]
def k0_off296 (k0_t3 : Fin k0_t3_loop.trips) : Fin 3 → Nat :=
  let c1_i32_1830 : BitVec 32 := 1#32
  let v2465 : Index := Scalar.indexCast c1_i32_1830
  let c47_i32_1831 : BitVec 32 := 47#32
  let v2466 : Index := Scalar.indexCast c47_i32_1831
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2467 : Index := Scalar.indexCast v1784
  ![1, 47, v2467.toNat]
def k0_off297 (k0_t3 : Fin k0_t3_loop.trips) : Fin 3 → Nat :=
  let c1_i32_1832 : BitVec 32 := 1#32
  let v2469 : Index := Scalar.indexCast c1_i32_1832
  let c34_i32 : BitVec 32 := 34#32
  let v2470 : Index := Scalar.indexCast c34_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2471 : Index := Scalar.indexCast v1784
  ![1, 34, v2471.toNat]
def k0_off298 (k0_t3 : Fin k0_t3_loop.trips) : Fin 3 → Nat :=
  let c1_i32_1833 : BitVec 32 := 1#32
  let v2473 : Index := Scalar.indexCast c1_i32_1833
  let c60_i32 : BitVec 32 := 60#32
  let v2474 : Index := Scalar.indexCast c60_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2475 : Index := Scalar.indexCast v1784
  ![1, 60, v2475.toNat]
def k0_off299 (k0_t3 : Fin k0_t3_loop.trips) : Fin 3 → Nat :=
  let c1_i32_1834 : BitVec 32 := 1#32
  let v2477 : Index := Scalar.indexCast c1_i32_1834
  let c48_i32_1835 : BitVec 32 := 48#32
  let v2478 : Index := Scalar.indexCast c48_i32_1835
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2479 : Index := Scalar.indexCast v1784
  ![1, 48, v2479.toNat]
def k0_off300 (k0_t3 : Fin k0_t3_loop.trips) : Fin 3 → Nat :=
  let c1_i32_1836 : BitVec 32 := 1#32
  let v2481 : Index := Scalar.indexCast c1_i32_1836
  let c35_i32_1837 : BitVec 32 := 35#32
  let v2482 : Index := Scalar.indexCast c35_i32_1837
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2483 : Index := Scalar.indexCast v1784
  ![1, 35, v2483.toNat]
def k0_off301 (k0_t3 : Fin k0_t3_loop.trips) : Fin 3 → Nat :=
  let c1_i32_1839 : BitVec 32 := 1#32
  let v2493 : Index := Scalar.indexCast c1_i32_1839
  let c18_i32_1840 : BitVec 32 := 18#32
  let v2494 : Index := Scalar.indexCast c18_i32_1840
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2495 : Index := Scalar.indexCast v1784
  ![1, 18, v2495.toNat]
def k0_off302 (k0_t3 : Fin k0_t3_loop.trips) : Fin 3 → Nat :=
  let c1_i32_1841 : BitVec 32 := 1#32
  let v2497 : Index := Scalar.indexCast c1_i32_1841
  let c73_i32 : BitVec 32 := 73#32
  let v2498 : Index := Scalar.indexCast c73_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2499 : Index := Scalar.indexCast v1784
  ![1, 73, v2499.toNat]
def k0_off303 (k0_t3 : Fin k0_t3_loop.trips) : Fin 3 → Nat :=
  let c1_i32_1842 : BitVec 32 := 1#32
  let v2501 : Index := Scalar.indexCast c1_i32_1842
  let c86_i32 : BitVec 32 := 86#32
  let v2502 : Index := Scalar.indexCast c86_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2503 : Index := Scalar.indexCast v1784
  ![1, 86, v2503.toNat]
def k0_off304 (k0_t3 : Fin k0_t3_loop.trips) : Fin 3 → Nat :=
  let c1_i32_1843 : BitVec 32 := 1#32
  let v2505 : Index := Scalar.indexCast c1_i32_1843
  let c74_i32 : BitVec 32 := 74#32
  let v2506 : Index := Scalar.indexCast c74_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2507 : Index := Scalar.indexCast v1784
  ![1, 74, v2507.toNat]
def k0_off305 (k0_t3 : Fin k0_t3_loop.trips) : Fin 3 → Nat :=
  let c1_i32_1844 : BitVec 32 := 1#32
  let v2509 : Index := Scalar.indexCast c1_i32_1844
  let c61_i32 : BitVec 32 := 61#32
  let v2510 : Index := Scalar.indexCast c61_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2511 : Index := Scalar.indexCast v1784
  ![1, 61, v2511.toNat]
def k0_off306 (k0_t3 : Fin k0_t3_loop.trips) : Fin 3 → Nat :=
  let c1_i32_1846 : BitVec 32 := 1#32
  let v2521 : Index := Scalar.indexCast c1_i32_1846
  let c25_i32 : BitVec 32 := 25#32
  let v2522 : Index := Scalar.indexCast c25_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2523 : Index := Scalar.indexCast v1784
  ![1, 25, v2523.toNat]
def k0_off307 (k0_t3 : Fin k0_t3_loop.trips) : Fin 3 → Nat :=
  let c1_i32_1847 : BitVec 32 := 1#32
  let v2525 : Index := Scalar.indexCast c1_i32_1847
  let c99_i32 : BitVec 32 := 99#32
  let v2526 : Index := Scalar.indexCast c99_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2527 : Index := Scalar.indexCast v1784
  ![1, 99, v2527.toNat]
def k0_off308 (k0_t3 : Fin k0_t3_loop.trips) : Fin 3 → Nat :=
  let c1_i32_1848 : BitVec 32 := 1#32
  let v2529 : Index := Scalar.indexCast c1_i32_1848
  let c112_i32 : BitVec 32 := 112#32
  let v2530 : Index := Scalar.indexCast c112_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2531 : Index := Scalar.indexCast v1784
  ![1, 112, v2531.toNat]
def k0_off309 (k0_t3 : Fin k0_t3_loop.trips) : Fin 3 → Nat :=
  let c1_i32_1849 : BitVec 32 := 1#32
  let v2533 : Index := Scalar.indexCast c1_i32_1849
  let c100_i32 : BitVec 32 := 100#32
  let v2534 : Index := Scalar.indexCast c100_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2535 : Index := Scalar.indexCast v1784
  ![1, 100, v2535.toNat]
def k0_off310 (k0_t3 : Fin k0_t3_loop.trips) : Fin 3 → Nat :=
  let c1_i32_1850 : BitVec 32 := 1#32
  let v2537 : Index := Scalar.indexCast c1_i32_1850
  let c87_i32 : BitVec 32 := 87#32
  let v2538 : Index := Scalar.indexCast c87_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2539 : Index := Scalar.indexCast v1784
  ![1, 87, v2539.toNat]
def k0_off311 (k0_t3 : Fin k0_t3_loop.trips) : Fin 3 → Nat :=
  let c1_i32_1852 : BitVec 32 := 1#32
  let v2549 : Index := Scalar.indexCast c1_i32_1852
  let c32_i32_1853 : BitVec 32 := 32#32
  let v2550 : Index := Scalar.indexCast c32_i32_1853
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2551 : Index := Scalar.indexCast v1784
  ![1, 32, v2551.toNat]
def k0_off312 (k0_t3 : Fin k0_t3_loop.trips) : Fin 3 → Nat :=
  let c1_i32_1854 : BitVec 32 := 1#32
  let v2553 : Index := Scalar.indexCast c1_i32_1854
  let c125_i32 : BitVec 32 := 125#32
  let v2554 : Index := Scalar.indexCast c125_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2555 : Index := Scalar.indexCast v1784
  ![1, 125, v2555.toNat]
def k0_off313 (k0_t3 : Fin k0_t3_loop.trips) : Fin 3 → Nat :=
  let c1_i32_1855 : BitVec 32 := 1#32
  let v2557 : Index := Scalar.indexCast c1_i32_1855
  let c138_i32 : BitVec 32 := 138#32
  let v2558 : Index := Scalar.indexCast c138_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2559 : Index := Scalar.indexCast v1784
  ![1, 138, v2559.toNat]
def k0_off314 (k0_t3 : Fin k0_t3_loop.trips) : Fin 3 → Nat :=
  let c1_i32_1856 : BitVec 32 := 1#32
  let v2561 : Index := Scalar.indexCast c1_i32_1856
  let c126_i32 : BitVec 32 := 126#32
  let v2562 : Index := Scalar.indexCast c126_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2563 : Index := Scalar.indexCast v1784
  ![1, 126, v2563.toNat]
def k0_off315 (k0_t3 : Fin k0_t3_loop.trips) : Fin 3 → Nat :=
  let c1_i32_1857 : BitVec 32 := 1#32
  let v2565 : Index := Scalar.indexCast c1_i32_1857
  let c113_i32 : BitVec 32 := 113#32
  let v2566 : Index := Scalar.indexCast c113_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2567 : Index := Scalar.indexCast v1784
  ![1, 113, v2567.toNat]
def k0_off316 (k0_t3 : Fin k0_t3_loop.trips) : Fin 3 → Nat :=
  let c1_i32_1859 : BitVec 32 := 1#32
  let v2577 : Index := Scalar.indexCast c1_i32_1859
  let c39_i32_1860 : BitVec 32 := 39#32
  let v2578 : Index := Scalar.indexCast c39_i32_1860
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2579 : Index := Scalar.indexCast v1784
  ![1, 39, v2579.toNat]
def k0_off317 (k0_t3 : Fin k0_t3_loop.trips) : Fin 3 → Nat :=
  let c1_i32_1861 : BitVec 32 := 1#32
  let v2581 : Index := Scalar.indexCast c1_i32_1861
  let c62_i32 : BitVec 32 := 62#32
  let v2582 : Index := Scalar.indexCast c62_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2583 : Index := Scalar.indexCast v1784
  ![1, 62, v2583.toNat]
def k0_off318 (k0_t3 : Fin k0_t3_loop.trips) : Fin 3 → Nat :=
  let c1_i32_1862 : BitVec 32 := 1#32
  let v2585 : Index := Scalar.indexCast c1_i32_1862
  let c49_i32 : BitVec 32 := 49#32
  let v2586 : Index := Scalar.indexCast c49_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2587 : Index := Scalar.indexCast v1784
  ![1, 49, v2587.toNat]
def k0_off319 (k0_t3 : Fin k0_t3_loop.trips) : Fin 3 → Nat :=
  let c1_i32_1863 : BitVec 32 := 1#32
  let v2589 : Index := Scalar.indexCast c1_i32_1863
  let c75_i32 : BitVec 32 := 75#32
  let v2590 : Index := Scalar.indexCast c75_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2591 : Index := Scalar.indexCast v1784
  ![1, 75, v2591.toNat]
def k0_off320 (k0_t3 : Fin k0_t3_loop.trips) : Fin 3 → Nat :=
  let c1_i32_1864 : BitVec 32 := 1#32
  let v2593 : Index := Scalar.indexCast c1_i32_1864
  let c63_i32 : BitVec 32 := 63#32
  let v2594 : Index := Scalar.indexCast c63_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2595 : Index := Scalar.indexCast v1784
  ![1, 63, v2595.toNat]
def k0_off321 (k0_t3 : Fin k0_t3_loop.trips) : Fin 3 → Nat :=
  let c1_i32_1865 : BitVec 32 := 1#32
  let v2597 : Index := Scalar.indexCast c1_i32_1865
  let c50_i32 : BitVec 32 := 50#32
  let v2598 : Index := Scalar.indexCast c50_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2599 : Index := Scalar.indexCast v1784
  ![1, 50, v2599.toNat]
def k0_off322 (k0_t3 : Fin k0_t3_loop.trips) : Fin 3 → Nat :=
  let c1_i32_1867 : BitVec 32 := 1#32
  let v2609 : Index := Scalar.indexCast c1_i32_1867
  let c19_i32_1868 : BitVec 32 := 19#32
  let v2610 : Index := Scalar.indexCast c19_i32_1868
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2611 : Index := Scalar.indexCast v1784
  ![1, 19, v2611.toNat]
def k0_off323 (k0_t3 : Fin k0_t3_loop.trips) : Fin 3 → Nat :=
  let c1_i32_1869 : BitVec 32 := 1#32
  let v2613 : Index := Scalar.indexCast c1_i32_1869
  let c88_i32 : BitVec 32 := 88#32
  let v2614 : Index := Scalar.indexCast c88_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2615 : Index := Scalar.indexCast v1784
  ![1, 88, v2615.toNat]
def k0_off324 (k0_t3 : Fin k0_t3_loop.trips) : Fin 3 → Nat :=
  let c1_i32_1870 : BitVec 32 := 1#32
  let v2617 : Index := Scalar.indexCast c1_i32_1870
  let c101_i32 : BitVec 32 := 101#32
  let v2618 : Index := Scalar.indexCast c101_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2619 : Index := Scalar.indexCast v1784
  ![1, 101, v2619.toNat]
def k0_off325 (k0_t3 : Fin k0_t3_loop.trips) : Fin 3 → Nat :=
  let c1_i32_1871 : BitVec 32 := 1#32
  let v2621 : Index := Scalar.indexCast c1_i32_1871
  let c89_i32 : BitVec 32 := 89#32
  let v2622 : Index := Scalar.indexCast c89_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2623 : Index := Scalar.indexCast v1784
  ![1, 89, v2623.toNat]
def k0_off326 (k0_t3 : Fin k0_t3_loop.trips) : Fin 3 → Nat :=
  let c1_i32_1872 : BitVec 32 := 1#32
  let v2625 : Index := Scalar.indexCast c1_i32_1872
  let c76_i32 : BitVec 32 := 76#32
  let v2626 : Index := Scalar.indexCast c76_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2627 : Index := Scalar.indexCast v1784
  ![1, 76, v2627.toNat]
def k0_off327 (k0_t3 : Fin k0_t3_loop.trips) : Fin 3 → Nat :=
  let c1_i32_1874 : BitVec 32 := 1#32
  let v2637 : Index := Scalar.indexCast c1_i32_1874
  let c26_i32_1875 : BitVec 32 := 26#32
  let v2638 : Index := Scalar.indexCast c26_i32_1875
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2639 : Index := Scalar.indexCast v1784
  ![1, 26, v2639.toNat]
def k0_off328 (k0_t3 : Fin k0_t3_loop.trips) : Fin 3 → Nat :=
  let c1_i32_1876 : BitVec 32 := 1#32
  let v2641 : Index := Scalar.indexCast c1_i32_1876
  let c114_i32 : BitVec 32 := 114#32
  let v2642 : Index := Scalar.indexCast c114_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2643 : Index := Scalar.indexCast v1784
  ![1, 114, v2643.toNat]
def k0_off329 (k0_t3 : Fin k0_t3_loop.trips) : Fin 3 → Nat :=
  let c1_i32_1877 : BitVec 32 := 1#32
  let v2645 : Index := Scalar.indexCast c1_i32_1877
  let c127_i32 : BitVec 32 := 127#32
  let v2646 : Index := Scalar.indexCast c127_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2647 : Index := Scalar.indexCast v1784
  ![1, 127, v2647.toNat]
def k0_off330 (k0_t3 : Fin k0_t3_loop.trips) : Fin 3 → Nat :=
  let c1_i32_1878 : BitVec 32 := 1#32
  let v2649 : Index := Scalar.indexCast c1_i32_1878
  let c115_i32 : BitVec 32 := 115#32
  let v2650 : Index := Scalar.indexCast c115_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2651 : Index := Scalar.indexCast v1784
  ![1, 115, v2651.toNat]
def k0_off331 (k0_t3 : Fin k0_t3_loop.trips) : Fin 3 → Nat :=
  let c1_i32_1879 : BitVec 32 := 1#32
  let v2653 : Index := Scalar.indexCast c1_i32_1879
  let c102_i32 : BitVec 32 := 102#32
  let v2654 : Index := Scalar.indexCast c102_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2655 : Index := Scalar.indexCast v1784
  ![1, 102, v2655.toNat]
def k0_off332 (k0_t3 : Fin k0_t3_loop.trips) : Fin 3 → Nat :=
  let c1_i32_1881 : BitVec 32 := 1#32
  let v2665 : Index := Scalar.indexCast c1_i32_1881
  let c33_i32_1882 : BitVec 32 := 33#32
  let v2666 : Index := Scalar.indexCast c33_i32_1882
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2667 : Index := Scalar.indexCast v1784
  ![1, 33, v2667.toNat]
def k0_off333 (k0_t3 : Fin k0_t3_loop.trips) : Fin 3 → Nat :=
  let c1_i32_1883 : BitVec 32 := 1#32
  let v2669 : Index := Scalar.indexCast c1_i32_1883
  let c77_i32 : BitVec 32 := 77#32
  let v2670 : Index := Scalar.indexCast c77_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2671 : Index := Scalar.indexCast v1784
  ![1, 77, v2671.toNat]
def k0_off334 (k0_t3 : Fin k0_t3_loop.trips) : Fin 3 → Nat :=
  let c1_i32_1884 : BitVec 32 := 1#32
  let v2673 : Index := Scalar.indexCast c1_i32_1884
  let c64_i32 : BitVec 32 := 64#32
  let v2674 : Index := Scalar.indexCast c64_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2675 : Index := Scalar.indexCast v1784
  ![1, 64, v2675.toNat]
def k0_off335 (k0_t3 : Fin k0_t3_loop.trips) : Fin 3 → Nat :=
  let c1_i32_1885 : BitVec 32 := 1#32
  let v2677 : Index := Scalar.indexCast c1_i32_1885
  let c90_i32 : BitVec 32 := 90#32
  let v2678 : Index := Scalar.indexCast c90_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2679 : Index := Scalar.indexCast v1784
  ![1, 90, v2679.toNat]
def k0_off336 (k0_t3 : Fin k0_t3_loop.trips) : Fin 3 → Nat :=
  let c1_i32_1887 : BitVec 32 := 1#32
  let v2689 : Index := Scalar.indexCast c1_i32_1887
  let c27_i32_1888 : BitVec 32 := 27#32
  let v2690 : Index := Scalar.indexCast c27_i32_1888
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2691 : Index := Scalar.indexCast v1784
  ![1, 27, v2691.toNat]
def k0_off337 (k0_t3 : Fin k0_t3_loop.trips) : Fin 3 → Nat :=
  let c1_i32_1889 : BitVec 32 := 1#32
  let v2693 : Index := Scalar.indexCast c1_i32_1889
  let c103_i32 : BitVec 32 := 103#32
  let v2694 : Index := Scalar.indexCast c103_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2695 : Index := Scalar.indexCast v1784
  ![1, 103, v2695.toNat]
def k0_off338 (k0_t3 : Fin k0_t3_loop.trips) : Fin 3 → Nat :=
  let c1_i32_1890 : BitVec 32 := 1#32
  let v2697 : Index := Scalar.indexCast c1_i32_1890
  let c116_i32 : BitVec 32 := 116#32
  let v2698 : Index := Scalar.indexCast c116_i32
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2699 : Index := Scalar.indexCast v1784
  ![1, 116, v2699.toNat]
def k0_off339 (k0_t3 : Fin k0_t3_loop.trips) : Fin 3 → Nat :=
  let c1_i32_1892 : BitVec 32 := 1#32
  let v2709 : Index := Scalar.indexCast c1_i32_1892
  let c34_i32_1893 : BitVec 32 := 34#32
  let v2710 : Index := Scalar.indexCast c34_i32_1893
  let c0_i32_1656 : BitVec 32 := 0#32
  let c0_i32_1643 : BitVec 32 := 0#32
  let c1_i32_1645 : BitVec 32 := 1#32
  let arg9 : BitVec 32 := Scf.iv c0_i32_1643 c1_i32_1645 k0_t3
  let c1_i32_1655 : BitVec 32 := 1#32
  let v1782 : BitVec 32 := Scalar.muli arg9 c1_i32_1655
  let v1783 : BitVec 32 := Scalar.addi c0_i32_1656 v1782
  let c16_i32_1657 : BitVec 32 := 16#32
  let v1784 : BitVec 32 := Scalar.muli v1783 c16_i32_1657
  let v2711 : Index := Scalar.indexCast v1784
  ![1, 34, v2711.toNat]
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1530 : BitVec 32 := 24576#32
  let v1580 : BitVec 32 := Scalar.muli v1 c24576_i32_1530
  let c24064_i32 : BitVec 32 := 24064#32
  let v1581 : BitVec 32 := Scalar.addi v1580 c24064_i32
  let c768_i32_1538 : BitVec 32 := 768#32
  let c0_i32_1539 : BitVec 32 := 0#32
  let v1599 : BitVec 1 := Scalar.cmpi .eq c768_i32_1538 c0_i32_1539
  let c1_i32_1540 : BitVec 32 := 1#32
  let v1600 : BitVec 32 := Scalar.select v1599 c1_i32_1540 c768_i32_1538
  let v1601 : BitVec 32 := Scalar.remsi v1581 v1600
  let c0_i32_1542 : BitVec 32 := 0#32
  let v1603 : BitVec 1 := Scalar.cmpi .slt v1601 c0_i32_1542
  let c0_i32_1543 : BitVec 32 := 0#32
  let v1604 : BitVec 1 := Scalar.cmpi .slt v1600 c0_i32_1543
  let v1605 : BitVec 1 := Scalar.xori v1603 v1604
  let c0_i32_1541 : BitVec 32 := 0#32
  let v1602 : BitVec 1 := Scalar.cmpi .ne v1601 c0_i32_1541
  let v1606 : BitVec 1 := Scalar.andi v1605 v1602
  let v1607 : BitVec 32 := Scalar.addi v1601 v1600
  let v1608 : BitVec 32 := Scalar.select v1606 v1607 v1601
  v1608
def k0_off340 (i : grid0.Coords) (c24064_i32 : BitVec 32) : Fin 3 → Nat :=
  let c0_i32_1548 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1530 : BitVec 32 := 24576#32
  let v1580 : BitVec 32 := Scalar.muli v1 c24576_i32_1530
  let v1581 : BitVec 32 := Scalar.addi v1580 c24064_i32
  let c0_i32_1532 : BitVec 32 := 0#32
  let v1583 : BitVec 1 := Scalar.cmpi .sgt v1581 c0_i32_1532
  let v1584 : BitVec 32 := Scalar.extui v1583
  let c0_i32_1533 : BitVec 32 := 0#32
  let v1585 : BitVec 1 := Scalar.cmpi .slt v1581 c0_i32_1533
  let v1586 : BitVec 32 := Scalar.extui v1585
  let v1587 : BitVec 32 := Scalar.subi v1584 v1586
  let c768_i32_1531 : BitVec 32 := 768#32
  let c0_i32_1534 : BitVec 32 := 0#32
  let v1588 : BitVec 1 := Scalar.cmpi .sgt c768_i32_1531 c0_i32_1534
  let v1589 : BitVec 32 := Scalar.extui v1588
  let c0_i32_1535 : BitVec 32 := 0#32
  let v1590 : BitVec 1 := Scalar.cmpi .slt c768_i32_1531 c0_i32_1535
  let v1591 : BitVec 32 := Scalar.extui v1590
  let v1592 : BitVec 32 := Scalar.subi v1589 v1591
  let v1593 : BitVec 1 := Scalar.cmpi .ne v1587 v1592
  let v1594 : BitVec 32 := Scalar.remsi v1581 c768_i32_1531
  let c0_i32_1536 : BitVec 32 := 0#32
  let v1595 : BitVec 1 := Scalar.cmpi .ne v1594 c0_i32_1536
  let v1596 : BitVec 1 := Scalar.andi v1593 v1595
  let v1582 : BitVec 32 := Scalar.divsi v1581 c768_i32_1531
  let c1_i32_1537 : BitVec 32 := 1#32
  let v1597 : BitVec 32 := Scalar.subi v1582 c1_i32_1537
  let v1598 : BitVec 32 := Scalar.select v1596 v1597 v1582
  let c768_i32_1538 : BitVec 32 := 768#32
  let c0_i32_1539 : BitVec 32 := 0#32
  let v1599 : BitVec 1 := Scalar.cmpi .eq c768_i32_1538 c0_i32_1539
  let c1_i32_1540 : BitVec 32 := 1#32
  let v1600 : BitVec 32 := Scalar.select v1599 c1_i32_1540 c768_i32_1538
  let v1601 : BitVec 32 := Scalar.remsi v1581 v1600
  let c0_i32_1542 : BitVec 32 := 0#32
  let v1603 : BitVec 1 := Scalar.cmpi .slt v1601 c0_i32_1542
  let c0_i32_1543 : BitVec 32 := 0#32
  let v1604 : BitVec 1 := Scalar.cmpi .slt v1600 c0_i32_1543
  let v1605 : BitVec 1 := Scalar.xori v1603 v1604
  let c0_i32_1541 : BitVec 32 := 0#32
  let v1602 : BitVec 1 := Scalar.cmpi .ne v1601 c0_i32_1541
  let v1606 : BitVec 1 := Scalar.andi v1605 v1602
  let v1607 : BitVec 32 := Scalar.addi v1601 v1600
  let v1608 : BitVec 32 := Scalar.select v1606 v1607 v1601
  let v1609 : BitVec 32 := v1608
  ![0, v1598.toNat, v1609.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32_1552 : BitVec 32 := 24576#32
  let v1620 : BitVec 32 := Scalar.muli v1 c24576_i32_1552
  let c24320_i32 : BitVec 32 := 24320#32
  let v1621 : BitVec 32 := Scalar.addi v1620 c24320_i32
  let c768_i32_1560 : BitVec 32 := 768#32
  let c0_i32_1561 : BitVec 32 := 0#32
  let v1639 : BitVec 1 := Scalar.cmpi .eq c768_i32_1560 c0_i32_1561
  let c1_i32_1562 : BitVec 32 := 1#32
  let v1640 : BitVec 32 := Scalar.select v1639 c1_i32_1562 c768_i32_1560
  let v1641 : BitVec 32 := Scalar.remsi v1621 v1640
  let c0_i32_1564 : BitVec 32 := 0#32
  let v1643 : BitVec 1 := Scalar.cmpi .slt v1641 c0_i32_1564
  let c0_i32_1565 : BitVec 32 := 0#32
  let v1644 : BitVec 1 := Scalar.cmpi .slt v1640 c0_i32_1565
  let v1645 : BitVec 1 := Scalar.xori v1643 v1644
  let c0_i32_1563 : BitVec 32 := 0#32
  let v1642 : BitVec 1 := Scalar.cmpi .ne v1641 c0_i32_1563
  let v1646 : BitVec 1 := Scalar.andi v1645 v1642
  let v1647 : BitVec 32 := Scalar.addi v1641 v1640
  let v1648 : BitVec 32 := Scalar.select v1646 v1647 v1641
  v1648
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x768x13x13 : Shape := ⟨4, ![1024, 768, 13, 13]⟩
abbrev S33 : Shape := ⟨1, ![33]⟩
abbrev S_ : Shape := ⟨0, ![]⟩
abbrev S33x1 : Shape := ⟨2, ![33, 1]⟩
abbrev S33x2 : Shape := ⟨2, ![33, 2]⟩
abbrev S1024x768x33 : Shape := ⟨3, ![1024, 768, 33]⟩
abbrev S1024x768x7x7 : Shape := ⟨4, ![1024, 768, 7, 7]⟩

abbrev nBuf : Space → Nat
  | .hbm => 132
  | .vmem => 0
  | .smem => 0
  | _ => 0

abbrev hbmTy0_0 (i : Nat) : BufTy := match i % 128 with
  | 0 => ⟨S1024x768x13x13, .f32⟩
  | 1 => ⟨S33, .i32⟩
  | 2 => ⟨S33, .i1⟩
  | 3 => ⟨S33, .i32⟩
  | 4 => ⟨S33, .i1⟩
  | 5 => ⟨S33, .i32⟩
  | 6 => ⟨S33, .i1⟩
  | 7 => ⟨S33, .i1⟩
  | 8 => ⟨S33, .i32⟩
  | 9 => ⟨S33, .i1⟩
  | 10 => ⟨S33, .i1⟩
  | 11 => ⟨S33, .i1⟩
  | 12 => ⟨S33, .i32⟩
  | 13 => ⟨S33, .i1⟩
  | 14 => ⟨S33, .i1⟩
  | 15 => ⟨S33, .i32⟩
  | 16 => ⟨S33, .i1⟩
  | 17 => ⟨S33, .i1⟩
  | 18 => ⟨S33, .i1⟩
  | 19 => ⟨S33, .i1⟩
  | 20 => ⟨S33, .i1⟩
  | 21 => ⟨S33, .i32⟩
  | 22 => ⟨S33, .i1⟩
  | 23 => ⟨S33, .i32⟩
  | 24 => ⟨S33, .i1⟩
  | 25 => ⟨S_, .i32⟩
  | 26 => ⟨S33, .i32⟩
  | 27 => ⟨S33, .i32⟩
  | 28 => ⟨S33, .i32⟩
  | 29 => ⟨S_, .i32⟩
  | 30 => ⟨S33, .i32⟩
  | 31 => ⟨S33, .i32⟩
  | 32 => ⟨S33, .i32⟩
  | 33 => ⟨S33x1, .i32⟩
  | 34 => ⟨S33x1, .i32⟩
  | 35 => ⟨S33x2, .i32⟩
  | 36 => ⟨S1024x768x33, .f32⟩
  | 37 => ⟨S_, .i32⟩
  | 38 => ⟨S33, .i32⟩
  | 39 => ⟨S33, .i32⟩
  | 40 => ⟨S33, .i32⟩
  | 41 => ⟨S_, .i32⟩
  | 42 => ⟨S33, .i32⟩
  | 43 => ⟨S33, .i32⟩
  | 44 => ⟨S33, .i32⟩
  | 45 => ⟨S33x1, .i32⟩
  | 46 => ⟨S33x1, .i32⟩
  | 47 => ⟨S33x2, .i32⟩
  | 48 => ⟨S1024x768x33, .f32⟩
  | 49 => ⟨S1024x768x33, .f32⟩
  | 50 => ⟨S_, .i32⟩
  | 51 => ⟨S33, .i32⟩
  | 52 => ⟨S33, .i32⟩
  | 53 => ⟨S33, .i32⟩
  | 54 => ⟨S_, .i32⟩
  | 55 => ⟨S33, .i32⟩
  | 56 => ⟨S33, .i32⟩
  | 57 => ⟨S33, .i32⟩
  | 58 => ⟨S33x1, .i32⟩
  | 59 => ⟨S33x1, .i32⟩
  | 60 => ⟨S33x2, .i32⟩
  | 61 => ⟨S1024x768x33, .f32⟩
  | 62 => ⟨S1024x768x33, .f32⟩
  | 63 => ⟨S_, .i32⟩
  | 64 => ⟨S33, .i32⟩
  | 65 => ⟨S33, .i32⟩
  | 66 => ⟨S33, .i32⟩
  | 67 => ⟨S_, .i32⟩
  | 68 => ⟨S33, .i32⟩
  | 69 => ⟨S33, .i32⟩
  | 70 => ⟨S33, .i32⟩
  | 71 => ⟨S33x1, .i32⟩
  | 72 => ⟨S33x1, .i32⟩
  | 73 => ⟨S33x2, .i32⟩
  | 74 => ⟨S1024x768x33, .f32⟩
  | 75 => ⟨S1024x768x33, .f32⟩
  | 76 => ⟨S_, .i32⟩
  | 77 => ⟨S33, .i32⟩
  | 78 => ⟨S33, .i32⟩
  | 79 => ⟨S33, .i32⟩
  | 80 => ⟨S_, .i32⟩
  | 81 => ⟨S33, .i32⟩
  | 82 => ⟨S33, .i32⟩
  | 83 => ⟨S33, .i32⟩
  | 84 => ⟨S33x1, .i32⟩
  | 85 => ⟨S33x1, .i32⟩
  | 86 => ⟨S33x2, .i32⟩
  | 87 => ⟨S1024x768x33, .f32⟩
  | 88 => ⟨S1024x768x33, .f32⟩
  | 89 => ⟨S_, .i32⟩
  | 90 => ⟨S33, .i32⟩
  | 91 => ⟨S33, .i32⟩
  | 92 => ⟨S33, .i32⟩
  | 93 => ⟨S_, .i32⟩
  | 94 => ⟨S33, .i32⟩
  | 95 => ⟨S33, .i32⟩
  | 96 => ⟨S33, .i32⟩
  | 97 => ⟨S33x1, .i32⟩
  | 98 => ⟨S33x1, .i32⟩
  | 99 => ⟨S33x2, .i32⟩
  | 100 => ⟨S1024x768x33, .f32⟩
  | 101 => ⟨S1024x768x33, .f32⟩
  | 102 => ⟨S_, .i32⟩
  | 103 => ⟨S33, .i32⟩
  | 104 => ⟨S33, .i32⟩
  | 105 => ⟨S33, .i32⟩
  | 106 => ⟨S_, .i32⟩
  | 107 => ⟨S33, .i32⟩
  | 108 => ⟨S33, .i32⟩
  | 109 => ⟨S33, .i32⟩
  | 110 => ⟨S33x1, .i32⟩
  | 111 => ⟨S33x1, .i32⟩
  | 112 => ⟨S33x2, .i32⟩
  | 113 => ⟨S1024x768x33, .f32⟩
  | 114 => ⟨S1024x768x33, .f32⟩
  | 115 => ⟨S_, .f32⟩
  | 116 => ⟨S1024x768x33, .f32⟩
  | 117 => ⟨S1024x768x33, .f32⟩
  | 118 => ⟨S_, .f32⟩
  | 119 => ⟨S1024x768x7x7, .f32⟩
  | 120 => ⟨S_, .i32⟩
  | 121 => ⟨S33, .i32⟩
  | 122 => ⟨S33, .i32⟩
  | 123 => ⟨S33, .i32⟩
  | 124 => ⟨S_, .i32⟩
  | 125 => ⟨S33, .i32⟩
  | 126 => ⟨S33, .i32⟩
  | 127 => ⟨S33, .i32⟩
  | _ => ⟨S1024x768x13x13, .f32⟩

abbrev hbmTy0_1 (i : Nat) : BufTy := match i % 128 with
  | 0 => ⟨S33x1, .i32⟩
  | 1 => ⟨S33x1, .i32⟩
  | 2 => ⟨S33x2, .i32⟩
  | 3 => ⟨S1024x768x7x7, .f32⟩
  | _ => ⟨S1024x768x13x13, .f32⟩

abbrev hbmTy (i : Nat) : BufTy := match i / 128 with
  | 0 => hbmTy0_0 i
  | 1 => hbmTy0_1 i
  | _ => ⟨S1024x768x13x13, .f32⟩

abbrev bufTy : (tb : Table) → Fin (tcTables nBuf tb) → BufTy
  | .hbm, ⟨i, _⟩ => hbmTy i
  | _, _ => ⟨S1024x768x13x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_c_13 : Ref sig .tc := ⟨.hbm, 15, rfl⟩
abbrev main_c_14 : Ref sig .tc := ⟨.hbm, 16, rfl⟩
abbrev main_c_15 : Ref sig .tc := ⟨.hbm, 17, rfl⟩
abbrev main_c_16 : Ref sig .tc := ⟨.hbm, 18, rfl⟩
abbrev main_c_17 : Ref sig .tc := ⟨.hbm, 19, rfl⟩
abbrev main_c_18 : Ref sig .tc := ⟨.hbm, 20, rfl⟩
abbrev main_c_19 : Ref sig .tc := ⟨.hbm, 21, rfl⟩
abbrev main_c_20 : Ref sig .tc := ⟨.hbm, 22, rfl⟩
abbrev main_c_21 : Ref sig .tc := ⟨.hbm, 23, rfl⟩
abbrev main_c_22 : Ref sig .tc := ⟨.hbm, 24, rfl⟩
abbrev main_c_23 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_c_24 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_25 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_26 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_27 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_28 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_29 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_30 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_31 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_32 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_33 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_34 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_c_35 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_36 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst : Ref sig .tc := ⟨.hbm, 115, rfl⟩
abbrev main_v76 : Ref sig .tc := ⟨.hbm, 116, rfl⟩
abbrev main_v77 : Ref sig .tc := ⟨.hbm, 117, rfl⟩
abbrev main_cst_37 : Ref sig .tc := ⟨.hbm, 118, rfl⟩
abbrev main_v78 : Ref sig .tc := ⟨.hbm, 119, rfl⟩
abbrev main_c_38 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_39 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Proof.Spec.lean ====
/-
  What the kernel computes, as plain functions: the seven positions averaged into each cell of the result, the average
  of seven values, and the arrays the kernel reads and writes in those terms.
-/
module

public import proofs.«01_k».proof.Defs
public import Idealize.ShloMosaic.Lib.Pipeline.Value

@[expose] public section

noncomputable section

namespace Cert.Proof.Pool

open Cert.KernelIdeal
open Idealize.ShloMosaic

variable {F : FTy → Type} [FloatOps F]

/-- For each of the 49 cells of the 7 × 7 result (row by row), the seven positions of the 13 × 13 grid (row by row)
    it averages, in the order they are added; `[]` for the 16 cells that stay zero. -/
def tapTable : List (List ℕ) := [
    [], [2, 2, 15, 3, 1, 3, 1], [],
    [], [], [],
    [], [13, 0, 26, 14, 13, 1, 0], [28, 15, 41, 29, 27, 16, 14],
    [17, 4, 30, 18, 16, 5, 3], [32, 19, 45, 33, 31, 20, 18], [],
    [], [], [39, 26, 52, 40, 39, 27, 26],
    [54, 41, 67, 55, 53, 42, 40], [43, 30, 56, 44, 42, 31, 29], [58, 45, 71, 59, 57, 46, 44],
    [47, 34, 60, 48, 46, 35, 33], [62, 49, 75, 63, 61, 50, 48], [],
    [65, 52, 78, 66, 65, 53, 52], [80, 67, 93, 81, 79, 68, 66], [69, 56, 82, 70, 68, 57, 55],
    [84, 71, 97, 85, 83, 72, 70], [73, 60, 86, 74, 72, 61, 59], [88, 75, 101, 89, 87, 76, 74],
    [77, 64, 90, 77, 76, 64, 63], [91, 78, 104, 92, 91, 79, 78], [106, 93, 119, 107, 105, 94, 92],
    [95, 82, 108, 96, 94, 83, 81], [110, 97, 123, 111, 109, 98, 96], [99, 86, 112, 100, 98, 87, 85],
    [114, 101, 127, 115, 113, 102, 100], [103, 90, 116, 103, 102, 90, 89], [117, 104, 130, 118, 117, 105, 104],
    [132, 119, 145, 133, 131, 120, 118], [121, 108, 134, 122, 120, 109, 107], [136, 123, 149, 137, 135, 124, 122],
    [125, 112, 138, 126, 124, 113, 111], [], [],
    [143, 130, 156, 144, 143, 131, 130], [158, 145, 158, 159, 157, 146, 144], [147, 134, 160, 148, 146, 135, 133],
    [], [], [],
    []]

/-- The positions averaged into cell `j`. -/
def taps (j : ℕ) : List ℕ := tapTable.getD j []

/-- The factor of the average: the 32-bit float nearest to one seventh. -/
abbrev seventh : F .f32 := Scalar.ofBits .f32 0x3E124925#32

/-- The zero the empty cells hold. -/
abbrev zero32 : F .f32 := Scalar.ofBits .f32 0x00000000#32

/-- The value of cell `j` from the values `x` at the grid's positions: the sum of its seven, in order, times one
    seventh; zero where there is nothing to average. -/
def pooled (x : ℕ → F .f32) (j : ℕ) : F .f32 :=
  match taps j with
  | [] => zero32
  | t :: ts => FloatOps.mulf (ts.foldl (fun a t => FloatOps.addf a (x t)) (x t)) seventh

/-- The entry of the 169 × 1024 × 768 array at three numbers (zero outside it). -/
def at3 (X : S169x1024x768.Idx → F .f32) (t b c : ℕ) : F .f32 :=
  if h : t < 169 ∧ b < 1024 ∧ c < 768 then
    X fun | ⟨0, _⟩ => ⟨t, h.1⟩ | ⟨1, _⟩ => ⟨b, h.2.1⟩ | ⟨2, _⟩ => ⟨c, h.2.2⟩
  else zero32

/-- At an index of the array that is the array's entry. -/
theorem at3_idx (X : S169x1024x768.Idx → F .f32) (y : S169x1024x768.Idx) :
    at3 X (y 0).val (y 1).val (y 2).val = X y := by
  have h : (y 0).val < 169 ∧ (y 1).val < 1024 ∧ (y 2).val < 768 := ⟨(y 0).isLt, (y 1).isLt, (y 2).isLt⟩
  rw [at3, dif_pos h]
  congr 1; funext a; fin_cases a <;> rfl

/-- The kernel's result on the input array `X`: row `j`, at `(b, c)`, averages cell `j`'s positions of `X` there. -/
def outOf (X : S169x1024x768.Idx → F .f32) (y : S49x1024x768.Idx) : F .f32 :=
  pooled (fun t => at3 X t (y 1).val (y 2).val) (y 0).val

/-! ## Vectors of sixteen lanes -/

/-- The sixteen values of row `t` of a block `a` at columns `16 g …`, as a load brings them. -/
def lanes (a : ℕ → ℕ → F .f32) (g t : ℕ) : Vec F S1x1x16 .f32 := fun x => a t (16 * g + (x 2).val)

/-- The vector the kernel stores in row `j`, from the vectors `V` it loaded. -/
def poolVec (h : S1x1x16.ShapeCasts S16) (h' : S16.ShapeCasts S1x1x16) (V : ℕ → Vec F S1x1x16 .f32) (j : ℕ) :
    Vec F S1x1x16 .f32 :=
  match taps j with
  | [] => fun _ => zero32
  | t :: ts => shapeCast S1x1x16
      (mulf (ts.foldl (fun a t => addf a (shapeCast S16 (V t) h : FVec F S16 .f32)) (shapeCast S16 (V t) h))
        (broadcast S16 seventh)) h'

/-- A sum of vectors, lane by lane. -/
theorem foldl_addf_apply (V : ℕ → FVec F S16 .f32) (i : S16.Idx) (ts : List ℕ) (a : FVec F S16 .f32) :
    ts.foldl (fun a t => addf a (V t)) a i = ts.foldl (fun a t => FloatOps.addf a (V t i)) (a i) := by
  induction ts generalizing a with
  | nil => rfl
  | cons t ts ih => exact ih _

/-- Each lane of the stored vector is the average of the same lane of the loaded ones. -/
theorem poolVec_apply (h : S1x1x16.ShapeCasts S16) (h' : S16.ShapeCasts S1x1x16) (V : ℕ → Vec F S1x1x16 .f32) (j : ℕ)
    (x : S1x1x16.Idx) : poolVec h h' V j x = pooled (fun t => V t x) j := by
  unfold poolVec pooled
  cases taps j with
  | nil => rfl
  | cons t ts =>
    have hx : ∀ v : Vec F S1x1x16 .f32, shapeCast S16 v h (Shape.reshapeEquiv h' x) = v x := fun v =>
      congrFun (shapeCast_shapeCast v h h') x
    show FloatOps.mulf (ts.foldl (fun a t => addf a (shapeCast S16 (V t) h : FVec F S16 .f32)) (shapeCast S16 (V t) h)
      (Shape.reshapeEquiv h' x)) _ = _
    rw [foldl_addf_apply (fun t => shapeCast S16 (V t) h)]
    simp only [hx]
    rfl

/-- The stored vector's lanes are entries of `outBlk`'s row: with `a` the block loaded from. -/
def outBlk (a : ℕ → ℕ → F .f32) (j c : ℕ) : F .f32 := pooled (fun t => a t c) j

theorem poolVec_lanes (h : S1x1x16.ShapeCasts S16) (h' : S16.ShapeCasts S1x1x16) (a : ℕ → ℕ → F .f32) (g j : ℕ)
    (x : S1x1x16.Idx) : poolVec h h' (lanes a g) j x = outBlk a j (16 * g + (x 2).val) :=
  poolVec_apply h h' _ j x

/-- The cells with nothing to average. -/
theorem outBlk_empty (a : ℕ → ℕ → F .f32) {j : ℕ} (hj : taps j = []) (c : ℕ) : outBlk a j c = zero32 := by
  unfold outBlk pooled; rw [hj]

end Cert.Proof.Pool
-- ==== Proof.Setup.lean ====
/-
  The names every later module speaks in: the kernel's program as the launch theorem sees it, its resource algebra, the
  buffers of a tile, and the state of a tile's two scratch buffers while it works.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program's definitions below the SparseCore call's own. -/
abbrev ΛP : Labels := Pipeline.Sig Λ₀ (Fin 0) fun p => (pcfgs (F := F) p).Adm
/-- The program's one SparseCore call. -/
abbrev K : SparseCore.Cfg τ sig (ΛP (F := F)) 1 := sc (F := F)
/-- The definitions the call's tasks run under. -/
abbrev D [FloatOps F] : Defs nD τ sig (Elt F) (ΛP (F := F)) := Pipeline.defs pcfgs defs₀
abbrev 𝒱₀ : Variants := Variants.none

/-- The rounds of the launch handshakes, and the counters of the tiles' copies. -/
abbrev UH : Type := URounds (GSem nD τ sig) ℕ
abbrev UU : Type := UH × Counters

/-- Assertions of this program. -/
abbrev Asrt (F : FTy → Type) : Type := sProp (MT nD τ sig (HIx 1) (Elt F) ℕ UU ℕ)

local notation "𝕄" => MT nD τ sig (HIx 1) (Elt F) ℕ UU ℕ

/-- Where the counters live. -/
abbrev EC : UEmb Counters (MT nD τ sig (HIx 1) (Elt F) ℕ UU ℕ) := countersEmb

/-! ## A tile and its buffers -/

/-- The SparseCore and the tile of a task. -/
abbrev cV (i : grid0.Coords) : Fin τ.nSC := (i 0).castLE hcore0
abbrev jV (i : grid0.Coords) : Fin τ.nSub := (i 1).castLE hsub0
/-- The thread of task `i` of device `d`. -/
abbrev thr (d : Dev nD) (i : grid0.Coords) : Thread nD τ := V d (cV i) (jV i)

/-- The input and the result in HBM, and the tile's two scratch buffers of two slots each. -/
abbrev inM : Memref sig .scVector .hbm S169x1024x768 .f32 := Memref.whole main_v1_scv
abbrev outM : Memref sig .scVector .hbm S49x1024x768 .f32 := Memref.whole main_v2_scv
abbrev bufI : Memref sig .scVector .vmem S2x169x256 .f32 := Memref.whole cc0_scratch0
abbrev bufO : Memref sig .scVector .vmem S2x49x256 .f32 := Memref.whole cc0_scratch1

/-- The elements of slot `p` of either scratch. -/
def slotI (p : ℕ) : Finset S2x169x256.Idx := Finset.univ.filter fun y => (y 0).val = p
def slotO (p : ℕ) : Finset S2x49x256.Idx := Finset.univ.filter fun y => (y 0).val = p

theorem mem_slotI {p : ℕ} {y : S2x169x256.Idx} : y ∈ slotI p ↔ (y 0).val = p := by simp [slotI]
theorem mem_slotO {p : ℕ} {y : S2x49x256.Idx} : y ∈ slotO p ↔ (y 0).val = p := by simp [slotO]

variable [FloatOps F]

/-- The contents of a scratch whose slot holds the block `a`. -/
def blkI (a : ℕ → ℕ → F .f32) : S2x169x256.Idx → F .f32 := fun y => a (y 1).val (y 2).val
def blkO (a : ℕ → ℕ → F .f32) : S2x49x256.Idx → F .f32 := fun y => outBlk a (y 1).val (y 2).val

/-- Slot `p` of the input scratch holds the block `a`. -/
def heldI (d : Dev nD) (i : grid0.Coords) (p : ℕ) (a : ℕ → ℕ → F .f32) : Asrt F :=
  iprop(bufI.view.loc (thr d i) ↦[slotI p]{fullShare} blkI a)

/-- The part of the result scratch on the elements `S` agrees with `G` where `Dn` says so. -/
def heldO (d : Dev nD) (i : grid0.Coords) (S : Finset S2x49x256.Idx) (G : S2x49x256.Idx → F .f32) (Dn : S2x49x256.Idx → Prop) : Asrt F :=
  iprop(∃ f : S2x49x256.Idx → F .f32, ⌜∀ y ∈ S, Dn y → f y = G y⌝ ∗ bufO.view.loc (thr d i) ↦[S]{fullShare} f)

/-- What is known to hold may be forgotten. -/
theorem heldO_mono (d : Dev nD) (i : grid0.Coords) {S : Finset S2x49x256.Idx} {G G' : S2x49x256.Idx → F .f32} {Dn Dn' : S2x49x256.Idx → Prop}
    (h : ∀ y ∈ S, Dn' y → Dn y ∧ G y = G' y) : heldO d i S G Dn ⊢ heldO d i S G' Dn' := by
  unfold heldO
  iintro ⟨%f, %hf, H⟩
  iexists f
  isplitr
  · ipureintro
    intro y hy hd
    exact (hf y hy (h y hy hd).1).trans (h y hy hd).2
  · iexact H

/-! ## One load, one store -/

/-- The rectangle of sixteen lanes at `(p, t, c)` of a scratch. -/
theorem rectI_idx {off : Fin 3 → ℕ} {inb} {p t c : ℕ} (hoff : off = ![p, t, c]) (x : S1x1x16.Idx) :
    ((Rect.unit (s := S2x169x256) off S1x1x16.size inb).idx x 0).val = p
      ∧ ((Rect.unit (s := S2x169x256) off S1x1x16.size inb).idx x 1).val = t
      ∧ ((Rect.unit (s := S2x169x256) off S1x1x16.size inb).idx x 2).val = c + (x 2).val := by
  subst hoff
  have h0 : (x 0).val < 1 := (x 0).isLt
  have h1 : (x 1).val < 1 := (x 1).isLt
  refine ⟨?_, ?_, ?_⟩
  · show p + 1 * (x 0).val = p; omega
  · show t + 1 * (x 1).val = t; omega
  · show c + 1 * (x 2).val = _; omega

theorem rectO_idx {off : Fin 3 → ℕ} {inb} {p t c : ℕ} (hoff : off = ![p, t, c]) (x : S1x1x16.Idx) :
    ((Rect.unit (s := S2x49x256) off S1x1x16.size inb).idx x 0).val = p
      ∧ ((Rect.unit (s := S2x49x256) off S1x1x16.size inb).idx x 1).val = t
      ∧ ((Rect.unit (s := S2x49x256) off S1x1x16.size inb).idx x 2).val = c + (x 2).val := by
  subst hoff
  have h0 : (x 0).val < 1 := (x 0).isLt
  have h1 : (x 1).val < 1 := (x 1).isLt
  refine ⟨?_, ?_, ?_⟩
  · show p + 1 * (x 0).val = p; omega
  · show t + 1 * (x 1).val = t; omega
  · show c + 1 * (x 2).val = _; omega

theorem mem_rectO {off : Fin 3 → ℕ} {inb} {p t c : ℕ} (hoff : off = ![p, t, c]) (y : S2x49x256.Idx) :
    y ∈ (Rect.unit (s := S2x49x256) off S1x1x16.size inb).set
      ↔ (y 0).val = p ∧ (y 1).val = t ∧ c ≤ (y 2).val ∧ (y 2).val < c + 16 := by
  subst hoff
  rw [Rect.mem_set_unit]
  constructor
  · intro h
    have h0 := h 0; have h1 := h 1; have h2 := h 2
    simp at h0 h1 h2
    omega
  · rintro ⟨h0, h1, h2, h3⟩ a
    fin_cases a <;> simp <;> omega

variable {α : Type} {Q : α → Asrt F}

/-- The wp of a task's program. -/
abbrev twp (d : Dev nD) (i : grid0.Coords) (prog : Prog (TpuEff nD τ sig (Elt F) Λ₀ (.scVector (cV i) (jV i))) α) (Q : α → Asrt F) : Asrt F :=
  wp frame (wpE (defs₀ (F := F)) 𝒱₀ (thr d i) none) Set.univ prog Q

/-- A load from a slot holding block `a` brings lanes of `a`. -/
theorem step_loadI (d : Dev nD) (i : grid0.Coords) {p g t : ℕ} {a : ℕ → ℕ → F .f32} {R : Asrt F} {off : Fin 3 → ℕ} {inb hl}
    {k : (S1x1x16.Idx → Elt F .f32) → Prog (TpuEff nD τ sig (Elt F) Λ₀ (.scVector (cV i) (jV i))) α}
    (hoff : off = ![p, t, 16 * g]) (hk : iprop(heldI d i p a ∗ R) ⊢ twp d i (k (lanes a g t)) Q) :
    iprop(heldI d i p a ∗ R) ⊢ twp d i (.op (.load bufI (Rect.unit (s := S2x169x256) off S1x1x16.size inb).toLoadRect hl) k) Q := by
  have hS : (bufI : Memref sig .scVector .vmem S2x169x256 .f32).view.setOn (Rect.unit (s := S2x169x256) off S1x1x16.size inb).toLoadRect.set ⊆ slotI p := by
    intro y hy
    obtain ⟨x, hx, rfl⟩ := Finset.mem_map.mp hy
    obtain ⟨z, rfl⟩ := (Rect.unit (s := S2x169x256) off S1x1x16.size inb).exists_idx_of_mem hx
    exact mem_slotI.mpr (rectI_idx hoff z).1
  have hv : (bufI : Memref sig .scVector .vmem S2x169x256 .f32).view.readAt (Elt F) (Rect.unit (s := S2x169x256) off S1x1x16.size inb).toLoadRect (blkI a) = lanes a g t := by
    funext x
    obtain ⟨-, h1, h2⟩ := rectI_idx (inb := inb) hoff x
    show a _ _ = a _ _
    rw [← h1, ← h2]; rfl
  rw [← hv] at hk
  unfold heldI at hk ⊢
  iintro ⟨H, HR⟩
  iapply (wp_load 𝒱₀ (thr d i) none Set.univ hS) $$ H
  iintro H
  iapply hk
  isplitl [H] <;> iassumption

/-- A load from the result scratch, whose value nothing reads. -/
theorem step_loadO (d : Dev nD) (i : grid0.Coords) {S : Finset S2x49x256.Idx} {G : S2x49x256.Idx → F .f32} {Dn : S2x49x256.Idx → Prop}
    {R : Asrt F} {off : Fin 3 → ℕ} {inb hl}
    {k : (S1x1x16.Idx → Elt F .f32) → Prog (TpuEff nD τ sig (Elt F) Λ₀ (.scVector (cV i) (jV i))) α}
    (hS : (Rect.unit (s := S2x49x256) off S1x1x16.size inb).set ⊆ S)
    (hk : ∀ v, iprop(R ∗ heldO d i S G Dn) ⊢ twp d i (k v) Q) :
    iprop(R ∗ heldO d i S G Dn) ⊢ twp d i (.op (.load bufO (Rect.unit (s := S2x49x256) off S1x1x16.size inb).toLoadRect hl) k) Q := by
  have hS' : (bufO : Memref sig .scVector .vmem S2x49x256 .f32).view.setOn (Rect.unit (s := S2x49x256) off S1x1x16.size inb).toLoadRect.set ⊆ S := by
    intro y hy
    obtain ⟨x, hx, rfl⟩ := Finset.mem_map.mp hy
    exact hS hx
  unfold heldO at hk ⊢
  iintro ⟨HR, ⟨%f, %hf, H⟩⟩
  iapply (wp_load 𝒱₀ (thr d i) none Set.univ hS') $$ H
  iintro H
  iapply hk
  isplitl [HR]
  · iassumption
  · iexists f
    isplitr
    · ipureintro; exact hf
    · iassumption

/-- A store into the result scratch of values that agree with `G` on its rectangle: the rectangle joins the elements
    known to agree with `G`. -/
theorem step_storeO (d : Dev nD) (i : grid0.Coords) {S : Finset S2x49x256.Idx} {G : S2x49x256.Idx → F .f32} {Dn Dn' : S2x49x256.Idx → Prop}
    {R : Asrt F} {off : Fin 3 → ℕ} {inb hx hm} {w : S1x1x16.Idx → Elt F .f32}
    {k : PUnit → Prog (TpuEff nD τ sig (Elt F) Λ₀ (.scVector (cV i) (jV i))) α}
    (hS : (Rect.unit (s := S2x49x256) off S1x1x16.size inb).set ⊆ S)
    (hw : ∀ x, w x = G ((Rect.unit (s := S2x49x256) off S1x1x16.size inb).idx x))
    (hD : ∀ y ∈ S, Dn' y → Dn y ∨ y ∈ (Rect.unit (s := S2x49x256) off S1x1x16.size inb).set)
    (hk : iprop(R ∗ heldO d i S G Dn') ⊢ twp d i (k ⟨⟩) Q) :
    iprop(R ∗ heldO d i S G Dn) ⊢ twp d i (.op (.store bufO (Rect.unit (s := S2x49x256) off S1x1x16.size inb) w Finset.univ hx hm) k) Q := by
  have hset : ((bufO : Memref sig .scVector .vmem S2x49x256 .f32).access (Rect.unit (s := S2x49x256) off S1x1x16.size inb)).setOn Finset.univ
      = (Rect.unit (s := S2x49x256) off S1x1x16.size inb).set :=
    Rect.map_emb_univ _
  unfold heldO at hk ⊢
  iintro ⟨HR, ⟨%f, %hf, H⟩⟩
  iapply (wp_store 𝒱₀ (thr d i) none Set.univ (hset.trans_subset hS)) $$ H
  iintro H
  iapply hk
  isplitl [HR]
  · iassumption
  · iexists ((bufO : Memref sig .scVector .vmem S2x49x256 .f32).access (Rect.unit (s := S2x49x256) off S1x1x16.size inb)).write (Elt F) f w Finset.univ
    isplitr
    rotate_left
    · iassumption
    · ipureintro
      intro y hy hd
      by_cases hr : y ∈ (Rect.unit (s := S2x49x256) off S1x1x16.size inb).set
      · obtain ⟨x, rfl⟩ := (Rect.unit (s := S2x49x256) off S1x1x16.size inb).exists_idx_of_mem hr
        exact (View.write_emb_of_mem (Val := Elt F) (v := (bufO : Memref sig .scVector .vmem S2x49x256 .f32).access
          (Rect.unit (s := S2x49x256) off S1x1x16.size inb)) f w (Finset.mem_univ x)).trans (hw x)
      · refine (View.write_of_not_mem (Val := Elt F) (v := (bufO : Memref sig .scVector .vmem S2x49x256 .f32).access
          (Rect.unit (s := S2x49x256) off S1x1x16.size inb)) f w Finset.univ ?_).trans (hf y hy ((hD y hy hd).resolve_right hr))
        rw [hset]; exact hr

end Cert.Proof.Pool
-- ==== Proof.Group.lean ====
/-
  One group of sixteen columns: the 33 averages the kernel stores per trip of its inner loops, over either slot.
-/
module

public import proofs.«01_k».proof.Proof.Setup

@[expose] public section

noncomputable section

namespace Cert.Proof.Pool

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The elements of a slot that hold their result once `g` groups are done and, of the next, the rows `js`: the rows
    with nothing to average are right from the start. -/
def groupDone (g : ℕ) (js : List ℕ) (y : S2x49x256.Idx) : Prop :=
  taps (y 1).val = [] ∨ (y 2).val < 16 * g ∨ ((y 1).val ∈ js ∧ (y 2).val < 16 * g + 16)

/-- The state of a tile in the middle of group `g`: slot `p` of the input scratch holds block `a`, slot `p` of the
    result scratch holds the averages of what is done. -/
def midGroup (d : Dev nD) (i : grid0.Coords) (p : ℕ) (a : ℕ → ℕ → F .f32) (g : ℕ) (js : List ℕ) : Asrt F :=
  iprop(heldI d i p a ∗ heldO d i (slotO p) (blkO a) (groupDone g js))

/-- A group is done when all 33 rows with something to average are. -/
theorem midGroup_next (d : Dev nD) (i : grid0.Coords) (p : ℕ) (a : ℕ → ℕ → F .f32) (g : ℕ) (js : List ℕ)
    (hjs : ∀ j : Fin 49, taps j = [] ∨ j.val ∈ js) : midGroup d i p a g js ⊢ midGroup d i p a (g + 1) [] := by
  refine BI.sep_mono (BI.Entails.refl _) (heldO_mono d i fun y hy hd => ⟨?_, rfl⟩)
  unfold groupDone at hd ⊢
  have h2 : (y 1).val < 49 := (y 1).isLt
  rcases hd with hd | hd | ⟨hd, -⟩
  · exact .inl hd
  · rcases hjs ⟨_, h2⟩ with h | h
    · exact .inl h
    · exact .inr (.inr ⟨h, by omega⟩)
  · cases hd

variable {α : Type} {Q : α → Asrt F}

theorem group_loadI (d : Dev nD) (i : grid0.Coords) {p g t : ℕ} {js : List ℕ} {a : ℕ → ℕ → F .f32} {off : Fin 3 → ℕ} {inb hl}
    {k : (S1x1x16.Idx → Elt F .f32) → Prog (TpuEff nD τ sig (Elt F) Λ₀ (.scVector (cV i) (jV i))) α} [h : ClosedOff off]
    (hoff : h.form = ![p, t, 16 * g]) (hk : midGroup d i p a g js ⊢ twp d i (k (lanes a g t)) Q) :
    midGroup d i p a g js ⊢ twp d i (.op (.load bufI (Rect.unit (s := S2x169x256) off S1x1x16.size inb).toLoadRect hl) k) Q :=
  step_loadI d i (h.eq.trans hoff) hk

theorem group_rect {p g j : ℕ} {off : Fin 3 → ℕ} {inb} (hoff : off = ![p, j, 16 * g]) :
    (Rect.unit (s := S2x49x256) off S1x1x16.size inb).set ⊆ slotO p :=
  fun y hy => mem_slotO.mpr ((mem_rectO hoff y).mp hy).1

theorem group_loadO (d : Dev nD) (i : grid0.Coords) {p g j : ℕ} {js : List ℕ} {a : ℕ → ℕ → F .f32} {off : Fin 3 → ℕ} {inb hl}
    {k : (S1x1x16.Idx → Elt F .f32) → Prog (TpuEff nD τ sig (Elt F) Λ₀ (.scVector (cV i) (jV i))) α} [h : ClosedOff off]
    (hoff : h.form = ![p, j, 16 * g]) (hk : ∀ v, midGroup d i p a g js ⊢ twp d i (k v) Q) :
    midGroup d i p a g js ⊢ twp d i (.op (.load bufO (Rect.unit (s := S2x49x256) off S1x1x16.size inb).toLoadRect hl) k) Q :=
  step_loadO d i (group_rect (h.eq.trans hoff)) hk

theorem group_storeO (d : Dev nD) (i : grid0.Coords) {p g j : ℕ} {js : List ℕ} {a : ℕ → ℕ → F .f32} {off : Fin 3 → ℕ} {inb hx hm}
    {w : S1x1x16.Idx → Elt F .f32} {k : PUnit → Prog (TpuEff nD τ sig (Elt F) Λ₀ (.scVector (cV i) (jV i))) α} [h : ClosedOff off]
    (hoff : h.form = ![p, j, 16 * g]) (hw : w = poolVec shapeCasts_S1x1x16_S16 shapeCasts_S16_S1x1x16 (lanes a g) j)
    (hk : midGroup d i p a g (j :: js) ⊢ twp d i (k ⟨⟩) Q) :
    midGroup d i p a g js ⊢ twp d i (.op (.store bufO (Rect.unit (s := S2x49x256) off S1x1x16.size inb) w Finset.univ hx hm) k) Q := by
  have ho := h.eq.trans hoff
  refine step_storeO d i (group_rect ho) (fun x => ?_) (fun y hy hd => ?_) hk
  · obtain ⟨-, h1, h2⟩ := rectO_idx (inb := inb) ho x
    rw [hw, poolVec_lanes]
    show _ = outBlk a _ _
    rw [← h2, ← h1]
  · rw [mem_rectO ho]
    have h0 := mem_slotO.mp hy
    unfold groupDone at hd ⊢
    rcases hd with hd | hd | ⟨hd, hlt⟩
    · exact .inl (.inl hd)
    · exact .inl (.inr (.inl hd))
    · rcases List.mem_cons.mp hd with hd | hd
      · by_cases hc : (y 2).val < 16 * g
        · exact .inl (.inr (.inl hc))
        · exact .inr ⟨h0, hd, by omega, hlt⟩
      · exact .inl (.inr (.inr ⟨hd, hlt⟩))

theorem group_end (d : Dev nD) (i : grid0.Coords) {p g : ℕ} {a : ℕ → ℕ → F .f32} (js : List ℕ) (x : Unit)
    (hjs : ∀ j : Fin 49, taps j = [] ∨ j.val ∈ js) :
    midGroup d i p a g js ⊢ twp d i (.ret x) fun _ => midGroup d i p a (g + 1) [] := by
  rw [twp, wp_ret]
  iintro H
  imodintro
  iapply midGroup_next d i p a g js hjs
  iexact H

attribute [local irreducible] wp in
set_option maxRecDepth 100000 in
set_option maxHeartbeats 4000000 in
/-- A trip of the loop over slot 0 finishes its group. -/
theorem t2_body (d : Dev nD) (i : grid0.Coords) (a : ℕ → ℕ → F .f32) (v1 : BitVec 32) (t1 : Fin k0_t1_loop.trips)
    (x8 x9 x10 : BitVec 32) (t : Fin k0_t2_loop.trips) (u : Unit) :
    midGroup d i 0 a t.val [] ⊢ twp d i (k0_t2_body i inM (Memref.isWhole_whole _) outM (Memref.isWhole_whole _)
      bufI (Memref.isWhole_whole _) bufO (Memref.isWhole_whole _) cc0_scratch2 cc0_scratch3 v1 t1 x8 x9 x10 t u)
      fun _ => midGroup d i 0 a (t.val + 1) [] := by
  unfold k0_t2_body
  repeat first
    | refine group_loadI d i rfl ?_
    | refine group_loadO d i rfl fun _ => ?_
    | refine group_storeO d i rfl rfl ?_
  exact group_end d i _ _ (by decide)

attribute [local irreducible] wp in
set_option maxRecDepth 100000 in
set_option maxHeartbeats 4000000 in
/-- A trip of the loop over slot 1 finishes its group. -/
theorem t3_body (d : Dev nD) (i : grid0.Coords) (a : ℕ → ℕ → F .f32) (v1 x1 x2 : BitVec 32) (x3 : BitVec 1) (x4 : BitVec 32)
    (t : Fin k0_t3_loop.trips) (u : Unit) :
    midGroup d i 1 a t.val [] ⊢ twp d i (k0_t3_body i inM (Memref.isWhole_whole _) outM (Memref.isWhole_whole _)
      bufI (Memref.isWhole_whole _) bufO (Memref.isWhole_whole _) cc0_scratch2 cc0_scratch3 v1 x1 x2 x3 x4 t u)
      fun _ => midGroup d i 1 a (t.val + 1) [] := by
  unfold k0_t3_body
  repeat first
    | refine group_loadI d i rfl ?_
    | refine group_loadO d i rfl fun _ => ?_
    | refine group_storeO d i rfl rfl ?_
  exact group_end d i _ _ (by decide)

end Cert.Proof.Pool
-- ==== Proof.Zero.lean ====
/-
  The start of a task: zeros stored in the rows of both slots that have nothing to average.
-/
module

public import proofs.«01_k».proof.Proof.Setup

@[expose] public section

noncomputable section

namespace Cert.Proof.Pool

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows with nothing to average. -/
def emptyRows : List ℕ := [0, 2, 3, 4, 5, 6, 11, 12, 13, 20, 40, 41, 45, 46, 47, 48]

theorem mem_emptyRows : ∀ j : Fin 49, taps j = [] → ∃ r : Fin 16, emptyRows.getD r 0 = j := by decide

/-- Slot, row and first column of the store after which `n` of the 512 zero stores remain. -/
def zSlot (n : ℕ) : ℕ := (511 - n) / 256
def zRow (n : ℕ) : ℕ := emptyRows.getD ((511 - n) / 16 % 16) 0
def zCol (n : ℕ) : ℕ := 16 * ((511 - n) % 16)

/-- What the stores done so far cover, when `n` remain. -/
def zeroDone (n : ℕ) (y : S2x49x256.Idx) : Prop :=
  ∃ k, n ≤ k ∧ k < 512 ∧ (y 0).val = zSlot k ∧ (y 1).val = zRow k ∧ zCol k ≤ (y 2).val ∧ (y 2).val < zCol k + 16

/-- The result scratch when `n` zero stores remain. -/
def zeroing (d : Dev nD) (i : grid0.Coords) (R : Asrt F) (n : ℕ) : Asrt F :=
  iprop(R ∗ heldO d i Finset.univ (fun _ => zero32) (zeroDone n))

/-- The rows with nothing to average are all covered at the end. -/
theorem zeroDone_all (y : S2x49x256.Idx) (h : taps (y 1).val = []) : zeroDone 0 y := by
  have h0 : (y 0).val < 2 := (y 0).isLt
  have h1 : (y 1).val < 49 := (y 1).isLt
  have h2 : (y 2).val < 256 := (y 2).isLt
  obtain ⟨r, hr⟩ := mem_emptyRows ⟨_, h1⟩ h
  have hr16 := r.isLt
  refine ⟨511 - ((y 0).val * 256 + r.val * 16 + (y 2).val / 16), by omega, by omega, ?_, ?_, ?_, ?_⟩
  · unfold zSlot; omega
  · unfold zRow
    rw [show (511 - (511 - ((y 0).val * 256 + r.val * 16 + (y 2).val / 16))) / 16 % 16 = r.val by omega]
    exact hr.symm
  · unfold zCol; omega
  · unfold zCol; omega

variable {α : Type} {Q : α → Asrt F}

theorem zero_load (d : Dev nD) (i : grid0.Coords) {n : ℕ} {R : Asrt F} {off : Fin 3 → ℕ} {inb hl}
    {k : (S1x1x16.Idx → Elt F .f32) → Prog (TpuEff nD τ sig (Elt F) Λ₀ (.scVector (cV i) (jV i))) α}
    (hk : ∀ v, zeroing d i R n ⊢ twp d i (k v) Q) :
    zeroing d i R n ⊢ twp d i (.op (.load bufO (Rect.unit (s := S2x49x256) off S1x1x16.size inb).toLoadRect hl) k) Q :=
  step_loadO d i (Finset.subset_univ _) hk

theorem zero_store (d : Dev nD) (i : grid0.Coords) {n : ℕ} {R : Asrt F} {off : Fin 3 → ℕ} {inb hx hm} {w : S1x1x16.Idx → Elt F .f32}
    {k : PUnit → Prog (TpuEff nD τ sig (Elt F) Λ₀ (.scVector (cV i) (jV i))) α}
    (hoff : off = ![zSlot n, zRow n, zCol n]) (hw : w = fun _ => zero32) (hk : zeroing d i R n ⊢ twp d i (k ⟨⟩) Q) :
    zeroing d i R (n + 1) ⊢ twp d i (.op (.store bufO (Rect.unit (s := S2x49x256) off S1x1x16.size inb) w Finset.univ hx hm) k) Q := by
  refine step_storeO d i (Finset.subset_univ _) (fun x => congrFun hw x) (fun y _ hd => ?_) hk
  rw [mem_rectO hoff]
  obtain ⟨k, hk, hk', h⟩ := hd
  by_cases e : k = n
  · subst e; exact .inr h
  · exact .inl ⟨k, by omega, hk', h⟩

/-- What the body does once the empty rows of both slots are zero: the first copy in, the loop over the blocks, the last two waits. -/
noncomputable def tailProg (i : grid0.Coords) (v1 x1 x2 : BitVec 32) (x3 : BitVec 1) (x4 : BitVec 32) :
    Prog (TpuEff nD τ sig (Elt F) Λ₀ (.scVector (cV i) (jV i))) PUnit := do
  let ⟨y1, y2, y3, y4⟩ : Σ' (_ : BitVec 32) (_ : BitVec 32) (_ : BitVec 1), BitVec 32 ←
    k0_part127 i inM (Memref.isWhole_whole _) outM (Memref.isWhole_whole _) bufI (Memref.isWhole_whole _) bufO (Memref.isWhole_whole _)
      cc0_scratch2 cc0_scratch3 v1 x1 x2 x3 x4
  let _ ← k0_part128 i inM (Memref.isWhole_whole _) outM (Memref.isWhole_whole _) bufI (Memref.isWhole_whole _) bufO (Memref.isWhole_whole _)
      cc0_scratch2 cc0_scratch3 v1 y1 y2 y3 y4
  Prog.lift (.waitDma2
    ((cc0_scratch3.slice (Rect.unit (s := S2) ![1] S1.size inb_S2_S1_1)).squeeze S_ squeezes_S1_S_).sem
    ((bufO.slice (Rect.unit (s := S2x49x256) ![1, 0, 0] S1x49x256.size inb_S2x49x256_S1x49x256_1_0_0) (fun _ => rfl)).squeeze S49x256
      squeezes_S1x49x256_S49x256)
    ((outM.slice (Rect.unit (s := S49x1024x768) (k0_off340 i 24320#32) S49x1x256.size (k0_off340_inb i 1)) (fun _ => rfl)).squeeze S49x256
      squeezes_S49x1x256_S49x256)
    ((View.wordExact_bits rfl).reshape _ _) ((View.wordExact_bits rfl).reshape _ _))
  pure ⟨⟩

attribute [local irreducible] wp in
set_option maxRecDepth 100000 in
set_option maxHeartbeats 4000000 in
/-- The body from its start: the 512 loads and stores that put zero in the rows with nothing to average, then the rest. -/
theorem body_zero (d : Dev nD) (i : grid0.Coords) {R : Asrt F} {Q : PUnit → Asrt F}
    (hk : ∀ v1 x1 x2 x3 x4, zeroing d i R 0 ⊢ twp d i (tailProg i v1 x1 x2 x3 x4) Q) :
    zeroing d i R 512 ⊢ twp d i (cc0__sc_pool_body i inM (Memref.isWhole_whole _) outM (Memref.isWhole_whole _)
      bufI (Memref.isWhole_whole _) bufO (Memref.isWhole_whole _) cc0_scratch2 cc0_scratch3) Q := by
  repeat first
    | refine zero_load d i fun _ => ?_
    | refine zero_store d i rfl rfl ?_
  exact hk _ _ _ _ _

end Cert.Proof.Pool
-- ==== Proof.Copy.lean ====
/-
  The copies of a task: which elements each one moves and what lands, the states of the two slots on either side, and
  one lemma per copy started and per copy waited for.
-/
module

public import proofs.«01_k».proof.Proof.Setup
public import Idealize.ShloMosaic.Lib.ValueIdxCore

@[expose] public section

noncomputable section

namespace Cert.Proof.Pool

open Cert.KernelIdeal Cert.KernelIdeal.Gen

open Idealize.ShloMosaic Idealize.ShloMosaic.Transfers
open Idealize.ShloMosaic.SparseCore.Cfg (HIx)
open Idealize.ShloMosaic.ValueIdx (ix3)
open Idealize.SL Idealize.SL.RA Idealize.SL.BI
open scoped Idealize.SL.BI
open Idealize.SL.BI.BIBase Idealize.SL.BI.Laws Idealize.SL.ProofMode Idealize.SL.Sem

variable {F : FTy → Type}

/-! ## The blocks -/

/-- The number of a task among the 32: it owns rows `32 · wid …` of the 1024. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- Row and first column of block `n` (of 96) of a task: three blocks of 256 columns per row. -/
def bRow (i : grid0.Coords) (n : ℕ) : ℕ := 32 * wid i + n / 3
def bCol (n : ℕ) : ℕ := 256 * (n % 3)

/-- Where block `n` starts in the input and in the result. -/
abbrev bOff (i : grid0.Coords) (n : ℕ) : Fin 3 → ℕ := ![0, bRow i n, bCol n]

/-- The elements of the result that lie in the task's rows and in blocks satisfying `P`. -/
def blocks (i : grid0.Coords) (P : ℕ → Prop) [DecidablePred P] : Finset S49x1024x768.Idx :=
  Finset.univ.filter fun y => (y 1).val / 32 = wid i ∧ P (3 * ((y 1).val - 32 * wid i) + (y 2).val / 256)

theorem mem_blocks {i : grid0.Coords} {P : ℕ → Prop} [DecidablePred P] {y : S49x1024x768.Idx} :
    y ∈ blocks i P ↔ (y 1).val / 32 = wid i ∧ P (3 * ((y 1).val - 32 * wid i) + (y 2).val / 256) := by simp [blocks]

/-- The elements of the input in block `n`. -/
def blockI (i : grid0.Coords) (n : ℕ) : Finset S169x1024x768.Idx :=
  Finset.univ.filter fun y => (y 1).val = bRow i n ∧ bCol n ≤ (y 2).val ∧ (y 2).val < bCol n + 256

variable [FloatOps F]

/-- What block `n` of the input `X` holds. -/
def inBlk (X : S169x1024x768.Idx → F .f32) (i : grid0.Coords) (n : ℕ) (t c : ℕ) : F .f32 := at3 X t (bRow i n) (bCol n + c)

/-! ## The views the copies go through -/

abbrev slotIM {off : Fin 3 → ℕ} (h : ∀ a, off a + S1x169x256.size a ≤ S2x169x256.size a) : Memref sig .scVector .vmem S169x256 .f32 :=
  (bufI.slice (Rect.unit (s := S2x169x256) off S1x169x256.size h) (fun _ => rfl)).squeeze S169x256 squeezes_S1x169x256_S169x256
abbrev slotOM {off : Fin 3 → ℕ} (h : ∀ a, off a + S1x49x256.size a ≤ S2x49x256.size a) : Memref sig .scVector .vmem S49x256 .f32 :=
  (bufO.slice (Rect.unit (s := S2x49x256) off S1x49x256.size h) (fun _ => rfl)).squeeze S49x256 squeezes_S1x49x256_S49x256
abbrev blkIM {off : Fin 3 → ℕ} (h : ∀ a, off a + S169x1x256.size a ≤ S169x1024x768.size a) : Memref sig .scVector .hbm S169x256 .f32 :=
  (inM.slice (Rect.unit (s := S169x1024x768) off S169x1x256.size h) (fun _ => rfl)).squeeze S169x256 squeezes_S169x1x256_S169x256
abbrev blkOM {off : Fin 3 → ℕ} (h : ∀ a, off a + S49x1x256.size a ≤ S49x1024x768.size a) : Memref sig .scVector .hbm S49x256 .f32 :=
  (outM.slice (Rect.unit (s := S49x1024x768) off S49x1x256.size h) (fun _ => rfl)).squeeze S49x256 squeezes_S49x1x256_S49x256

/-- The semaphore of a slot. -/
abbrev semAt (m : DmaSems sig S2) {off : Fin 1 → ℕ} (h : ∀ a, off a + S1.size a ≤ S2.size a) : DmaSem sig :=
  ((m.slice (Rect.unit (s := S2) off S1.size h)).squeeze S_ squeezes_S1_S_).sem

/-- A matrix with a unit axis put in front, or between its two, has the same elements in the same order. -/
theorem reshape_front {a b : ℕ} (h : (⟨2, ![a, b]⟩ : Shape).numel = (⟨3, ![1, a, b]⟩ : Shape).numel) (x : (⟨2, ![a, b]⟩ : Shape).Idx) :
    Shape.reshapeEquiv h x = ix3 (n0 := 1) (n1 := a) (n2 := b) (0 : Fin 1) (x 0) (x 1) :=
  Shape.reshapeEquiv_eq_of_rowMajor h (by
    rw [Shape.rowMajor_val_three, Shape.rowMajor_val_two]
    show (0 * a + (x 0).val) * b + (x 1).val = (x 0).val * b + (x 1).val
    rw [Nat.zero_mul, Nat.zero_add])
theorem reshape_mid {a b : ℕ} (h : (⟨2, ![a, b]⟩ : Shape).numel = (⟨3, ![a, 1, b]⟩ : Shape).numel) (x : (⟨2, ![a, b]⟩ : Shape).Idx) :
    Shape.reshapeEquiv h x = ix3 (n0 := a) (n1 := 1) (n2 := b) (x 0) (0 : Fin 1) (x 1) :=
  Shape.reshapeEquiv_eq_of_rowMajor h (by
    rw [Shape.rowMajor_val_three, Shape.rowMajor_val_two]
    show ((x 0).val * 1 + 0) * b + (x 1).val = (x 0).val * b + (x 1).val
    rw [Nat.mul_one, Nat.add_zero])

/-- Where the views' elements lie. -/
theorem slotIM_emb {p : ℕ} (h : ∀ a, (![p, 0, 0] : Fin 3 → ℕ) a + S1x169x256.size a ≤ S2x169x256.size a) (x : S169x256.Idx) :
    (((slotIM h).view.emb x : S2x169x256.Idx) 0).val = p ∧ (((slotIM h).view.emb x : S2x169x256.Idx) 1).val = (x 0).val
      ∧ (((slotIM h).view.emb x : S2x169x256.Idx) 2).val = (x 1).val := by
  have e : (slotIM h).view.emb x = (Rect.unit (s := S2x169x256) ![p, 0, 0] S1x169x256.size h).emb (ix3 (0 : Fin 1) (x 0) (x 1)) :=
    congrArg (Rect.unit (s := S2x169x256) ![p, 0, 0] S1x169x256.size h).emb (reshape_front _ x)
  rw [e]
  refine ⟨?_, ?_, ?_⟩
  · show p + 1 * 0 = p; omega
  · show 0 + 1 * (x 0).val = _; omega
  · show 0 + 1 * (x 1).val = _; omega
theorem slotOM_emb {p : ℕ} (h : ∀ a, (![p, 0, 0] : Fin 3 → ℕ) a + S1x49x256.size a ≤ S2x49x256.size a) (x : S49x256.Idx) :
    (((slotOM h).view.emb x : S2x49x256.Idx) 0).val = p ∧ (((slotOM h).view.emb x : S2x49x256.Idx) 1).val = (x 0).val
      ∧ (((slotOM h).view.emb x : S2x49x256.Idx) 2).val = (x 1).val := by
  have e : (slotOM h).view.emb x = (Rect.unit (s := S2x49x256) ![p, 0, 0] S1x49x256.size h).emb (ix3 (0 : Fin 1) (x 0) (x 1)) :=
    congrArg (Rect.unit (s := S2x49x256) ![p, 0, 0] S1x49x256.size h).emb (reshape_front _ x)
  rw [e]
  refine ⟨?_, ?_, ?_⟩
  · show p + 1 * 0 = p; omega
  · show 0 + 1 * (x 0).val = _; omega
  · show 0 + 1 * (x 1).val = _; omega
theorem blkIM_emb {b c : ℕ} (h : ∀ a, (![0, b, c] : Fin 3 → ℕ) a + S169x1x256.size a ≤ S169x1024x768.size a) (x : S169x256.Idx) :
    (((blkIM h).view.emb x : S169x1024x768.Idx) 0).val = (x 0).val ∧ (((blkIM h).view.emb x : S169x1024x768.Idx) 1).val = b
      ∧ (((blkIM h).view.emb x : S169x1024x768.Idx) 2).val = c + (x 1).val := by
  have e : (blkIM h).view.emb x = (Rect.unit (s := S169x1024x768) ![0, b, c] S169x1x256.size h).emb (ix3 (x 0) (0 : Fin 1) (x 1)) :=
    congrArg (Rect.unit (s := S169x1024x768) ![0, b, c] S169x1x256.size h).emb (reshape_mid _ x)
  rw [e]
  refine ⟨?_, ?_, ?_⟩
  · show 0 + 1 * (x 0).val = _; omega
  · show b + 1 * 0 = b; omega
  · show c + 1 * (x 1).val = _; omega
theorem blkOM_emb {b c : ℕ} (h : ∀ a, (![0, b, c] : Fin 3 → ℕ) a + S49x1x256.size a ≤ S49x1024x768.size a) (x : S49x256.Idx) :
    (((blkOM h).view.emb x : S49x1024x768.Idx) 0).val = (x 0).val ∧ (((blkOM h).view.emb x : S49x1024x768.Idx) 1).val = b
      ∧ (((blkOM h).view.emb x : S49x1024x768.Idx) 2).val = c + (x 1).val := by
  have e : (blkOM h).view.emb x = (Rect.unit (s := S49x1024x768) ![0, b, c] S49x1x256.size h).emb (ix3 (x 0) (0 : Fin 1) (x 1)) :=
    congrArg (Rect.unit (s := S49x1024x768) ![0, b, c] S49x1x256.size h).emb (reshape_mid _ x)
  rw [e]
  refine ⟨?_, ?_, ?_⟩
  · show 0 + 1 * (x 0).val = _; omega
  · show b + 1 * 0 = b; omega
  · show c + 1 * (x 1).val = _; omega

/-- The elements the views cover. -/
theorem set_slotIM {p : ℕ} (h : ∀ a, (![p, 0, 0] : Fin 3 → ℕ) a + S1x169x256.size a ≤ S2x169x256.size a) :
    (slotIM h).view.set = slotI p := by
  have e : (slotIM h).view.set = (Rect.unit (s := S2x169x256) ![p, 0, 0] S1x169x256.size h).set := by
    rw [Memref.set_view_squeeze]; exact Rect.map_emb_univ _
  rw [e]; ext y
  rw [Rect.mem_set_unit, mem_slotI]
  have h1 : (y 1).val < 169 := (y 1).isLt
  have h2 : (y 2).val < 256 := (y 2).isLt
  constructor
  · intro hy; have h0 := hy 0; simp at h0; omega
  · intro hy a; fin_cases a <;> simp <;> omega
theorem set_slotOM {p : ℕ} (h : ∀ a, (![p, 0, 0] : Fin 3 → ℕ) a + S1x49x256.size a ≤ S2x49x256.size a) :
    (slotOM h).view.set = slotO p := by
  have e : (slotOM h).view.set = (Rect.unit (s := S2x49x256) ![p, 0, 0] S1x49x256.size h).set := by
    rw [Memref.set_view_squeeze]; exact Rect.map_emb_univ _
  rw [e]; ext y
  rw [Rect.mem_set_unit, mem_slotO]
  have h1 : (y 1).val < 49 := (y 1).isLt
  have h2 : (y 2).val < 256 := (y 2).isLt
  constructor
  · intro hy; have h0 := hy 0; simp at h0; omega
  · intro hy a; fin_cases a <;> simp <;> omega
theorem set_blkIM {i : grid0.Coords} {n : ℕ} (h : ∀ a, bOff i n a + S169x1x256.size a ≤ S169x1024x768.size a) :
    (blkIM h).view.set = blockI i n := by
  have e : (blkIM h).view.set = (Rect.unit (s := S169x1024x768) (bOff i n) S169x1x256.size h).set := by
    rw [Memref.set_view_squeeze]; exact Rect.map_emb_univ _
  rw [e]; ext y
  rw [Rect.mem_set_unit]
  simp only [blockI, Finset.mem_filter, Finset.mem_univ, _root_.true_and]
  have h0 : (y 0).val < 169 := (y 0).isLt
  constructor
  · intro hy; have h1 := hy 1; have h2 := hy 2; simp at h1 h2; omega
  · intro hy a
    match a with
    | ⟨0, _⟩ => show 0 ≤ (y 0).val ∧ (y 0).val < 0 + 169; omega
    | ⟨1, _⟩ => show bRow i n ≤ (y 1).val ∧ (y 1).val < bRow i n + 1; omega
    | ⟨2, _⟩ => show bCol n ≤ (y 2).val ∧ (y 2).val < bCol n + 256; omega
theorem set_blkOM {i : grid0.Coords} {n : ℕ} (hn : n < 96) (h : ∀ a, bOff i n a + S49x1x256.size a ≤ S49x1024x768.size a) :
    (blkOM h).view.set = blocks i (· = n) := by
  have e : (blkOM h).view.set = (Rect.unit (s := S49x1024x768) (bOff i n) S49x1x256.size h).set := by
    rw [Memref.set_view_squeeze]; exact Rect.map_emb_univ _
  rw [e]; ext y
  rw [Rect.mem_set_unit, mem_blocks]
  have h0 : (y 0).val < 49 := (y 0).isLt
  have h2 : (y 2).val < 768 := (y 2).isLt
  constructor
  · intro hy; have h1 := hy 1; have h2 := hy 2; simp [bRow, bCol] at h1 h2; omega
  · intro hy a; fin_cases a <;> simp [bRow, bCol] <;> omega

/-! ## What lands -/

/-- A copy of block `n` into slot `p` leaves the block there. -/
theorem in_lands {i : grid0.Coords} {n p : ℕ} (h : ∀ a, (![p, 0, 0] : Fin 3 → ℕ) a + S1x169x256.size a ≤ S2x169x256.size a)
    (h' : ∀ a, bOff i n a + S169x1x256.size a ≤ S169x1024x768.size a) (X : S169x1024x768.Idx → F .f32) (fd : S2x169x256.Idx → F .f32) :
    ∀ y ∈ slotI p, (slotIM h).view.write (Elt F) fd ((blkIM h').view.read (Elt F) X) Finset.univ y = blkI (inBlk X i n) y := by
  intro y hy
  rw [← set_slotIM h] at hy
  obtain ⟨x, -, rfl⟩ := Finset.mem_map.mp hy
  refine (View.write_emb_of_mem (Val := Elt F) (v := (slotIM h).view) fd _ (Finset.mem_univ x)).trans ?_
  obtain ⟨-, e1, e2⟩ := slotIM_emb h x
  obtain ⟨c0, c1, c2⟩ := blkIM_emb h' x
  show X ((blkIM h').view.emb x) = inBlk X i n _ _
  rw [← at3_idx X, c0, c1, c2]
  unfold inBlk
  rw [e1, e2]

/-- A copy of a slot's averages into block `n` leaves the kernel's result there. -/
theorem out_lands {i : grid0.Coords} {n p : ℕ} (hn : n < 96) (h : ∀ a, (![p, 0, 0] : Fin 3 → ℕ) a + S1x49x256.size a ≤ S2x49x256.size a)
    (h' : ∀ a, bOff i n a + S49x1x256.size a ≤ S49x1024x768.size a) (X : S169x1024x768.Idx → F .f32) (fd : S49x1024x768.Idx → F .f32) :
    ∀ y ∈ blocks i (· = n), (blkOM h').view.write (Elt F) fd ((slotOM h).view.read (Elt F) (blkO (inBlk X i n))) Finset.univ y = outOf X y := by
  intro y hy
  rw [← set_blkOM hn h'] at hy
  obtain ⟨x, -, rfl⟩ := Finset.mem_map.mp hy
  refine (View.write_emb_of_mem (Val := Elt F) (v := (blkOM h').view) fd _ (Finset.mem_univ x)).trans ?_
  obtain ⟨-, e1, e2⟩ := slotOM_emb h x
  obtain ⟨c0, c1, c2⟩ := blkOM_emb h' x
  show outBlk (inBlk X i n) (((slotOM h).view.emb x : S2x49x256.Idx) 1).val (((slotOM h).view.emb x : S2x49x256.Idx) 2).val = outOf X _
  unfold outOf
  rw [e1, e2, c0, c1, c2]
  rfl

/-! ## The states of a slot -/

/-- The cells of the rows with nothing to average. -/
def emptyDone (y : S2x49x256.Idx) : Prop := taps (y 1).val = []

section States

variable (d : Dev nD) (i : grid0.Coords)

/-- The input array at the share `q`, and slot `p` of the input scratch with its semaphore: no copy outstanding. -/
def inIdle {off : Fin 1 → ℕ} (hs : ∀ a, off a + S1.size a ≤ S2.size a) (q : PosShare TreeShare) (X : S169x1024x768.Idx → F .f32) (p : ℕ) : Asrt F :=
  iprop((inM.view.loc (thr d i) ↦[Finset.univ]{q} X) ∗ semVal (thr d i, .dma (semAt cc0_scratch2 hs)) 0
    ∗ ∃ f : S2x169x256.Idx → F .f32, bufI.view.loc (thr d i) ↦[slotI p]{fullShare} f)

/-- The credit of a copy into a slot of the input scratch, and into a block of the result. -/
abbrev NI : ℕ := (slotIM inb_S2x169x256_S1x169x256_0_0_0).view.dmaCredit
theorem inb_first : ∀ a, (![0, 0, 0] : Fin 3 → ℕ) a + S49x1x256.size a ≤ S49x1024x768.size a := by decide
abbrev NO : ℕ := (blkOM inb_first).view.dmaCredit

/-- The copy of block `n` into slot `p` is outstanding: its end brings the block, and the block's part of the input back. -/
def inFly {off : Fin 1 → ℕ} (hs : ∀ a, off a + S1.size a ≤ S2.size a) (q : PosShare TreeShare) (X : S169x1024x768.Idx → F .f32) (p n : ℕ) : Asrt F :=
  iprop(Flight EC (thr d i) (.dma (semAt cc0_scratch2 hs)) none NI
      iprop(heldI d i p (inBlk X i n) ∗ inM.view.loc (thr d i) ↦[blockI i n]{q} X)
    ∗ inM.view.loc (thr d i) ↦[Finset.univ \ blockI i n]{q} X)

/-- Slot `p` of the input scratch holds block `n`; no copy outstanding. -/
def inHeld {off : Fin 1 → ℕ} (hs : ∀ a, off a + S1.size a ≤ S2.size a) (q : PosShare TreeShare) (X : S169x1024x768.Idx → F .f32) (p n : ℕ) : Asrt F :=
  iprop(heldI d i p (inBlk X i n) ∗ (inM.view.loc (thr d i) ↦[Finset.univ]{q} X) ∗ semVal (thr d i, .dma (semAt cc0_scratch2 hs)) 0)

theorem inHeld_idle {off : Fin 1 → ℕ} (hs : ∀ a, off a + S1.size a ≤ S2.size a) (q : PosShare TreeShare) (X : S169x1024x768.Idx → F .f32) (p n : ℕ) :
    inHeld d i hs q X p n ⊢ inIdle d i hs q X p := by
  unfold inHeld inIdle heldI
  iintro ⟨Hb, Hx, Hs⟩
  isplitl [Hx]; · iassumption
  isplitl [Hs]; · iassumption
  iexists _
  iexact Hb

/-- What a tile owes, and the waits it has made: of those before the task, or for its own copies. -/
def tick (O : CellTallies nD τ sig (HIx 1)) (W : Waits sig (HIx 1)) : Asrt F :=
  iprop(MayWaits (thr d i) none O ∗ ∃ W', ⌜∀ p ∈ W', p ∈ W ∨ p.2 = none⌝ ∗ owes (thr d i) O W')

variable {α : Type} {Q : α → Asrt F}

/-- Starting the copy of block `n` into slot `p`. -/
theorem in_start {p n : ℕ} {q : PosShare TreeShare} {X : S169x1024x768.Idx → F .f32} {R : Asrt F} {offs : Fin 1 → ℕ}
    {hs : ∀ a, offs a + S1.size a ≤ S2.size a} {off : Fin 3 → ℕ} {h : ∀ a, off a + S169x1x256.size a ≤ S169x1024x768.size a}
    {h' : ∀ a, (![p, 0, 0] : Fin 3 → ℕ) a + S1x169x256.size a ≤ S2x169x256.size a} {h1 h2 h3}
    {k : PUnit → Prog (TpuEff nD τ sig (Elt F) Λ₀ (.scVector (cV i) (jV i))) α}
    (hoff : off = bOff i n) (hk : iprop(R ∗ inFly d i hs q X p n) ⊢ twp d i (k ⟨⟩) Q) :
    iprop(R ∗ inIdle d i hs q X p)
      ⊢ twp d i (.op (.enqueueDma (blkIM h) (.here (slotIM h')) (.dma (semAt cc0_scratch2 hs)) h1 h2 h3) k) Q := by
  subst hoff
  unfold inIdle
  iintro ⟨HR, Hx, Hs, ⟨%f, Hb⟩⟩
  ihave Hx' := (pointsTo_split_subset (Finset.subset_univ (blockI i n))).1 $$ Hx
  icases Hx' with ⟨Hx, Hrest⟩
  ihave Hx2 := (Entails.of_eq (by rw [set_blkIM h]) :
    (inM.view.loc (thr d i) ↦[blockI i n]{q} X : Asrt F) ⊢ (blkIM h).view.loc (thr d i) ↦[(blkIM h).view.set]{q} X) $$ Hx
  iapply (wp_dmaLocal EC 𝒱₀ (thr d i) none (hsrc := h1) (hdst := h2) (hsem := h3) (src := blkIM h) (dst := slotIM h') (via := .same) (q := q) (fs := X)
    (Sd := slotI p) (fd := f) none NI rfl (View.dmaCredit_pos _ (by decide : 0 < S169x256.numel)) (set_slotIM h').subset) $$ [Hx2 Hb Hs]
  · isplitl [Hx2]; · iassumption
    isplitl [Hb] <;> iassumption
  iintro Hf
  iapply hk
  isplitl [HR]; · iassumption
  unfold inFly
  isplitl [Hf]
  · iapply (Flight_mono EC (thr d i) (sep_mono (Entails.of_eq ?_) (Entails.of_eq ?_))) $$ Hf
    · exact pointsTo_congr (in_lands h' h X f)
    · rw [set_blkIM h]
  · iassumption

/-- Waiting for it. -/
theorem in_wait {p n : ℕ} {q : PosShare TreeShare} {X : S169x1024x768.Idx → F .f32} {R : Asrt F} {O : CellTallies nD τ sig (HIx 1)} {W : Waits sig (HIx 1)}
    {offs : Fin 1 → ℕ} {hs : ∀ a, offs a + S1.size a ≤ S2.size a} {off off' : Fin 3 → ℕ} {h : ∀ a, off a + S169x1x256.size a ≤ S169x1024x768.size a}
    {h' : ∀ a, off' a + S1x169x256.size a ≤ S2x169x256.size a} {h1 h2}
    {k : PUnit → Prog (TpuEff nD τ sig (Elt F) Λ₀ (.scVector (cV i) (jV i))) α}
    (hk : iprop(R ∗ tick d i O W ∗ inHeld d i hs q X p n) ⊢ twp d i (k ⟨⟩) Q) :
    iprop(R ∗ tick d i O W ∗ inFly d i hs q X p n)
      ⊢ twp d i (.op (.waitDma2 (semAt cc0_scratch2 hs) (blkIM h) (slotIM h') h1 h2) k) Q := by
  unfold tick inFly
  iintro ⟨HR, ⟨#HM, ⟨%W', %hW, HO⟩⟩, Hf, Hrest⟩
  ihave #Hm := (MayWaits.elim (.dma (semAt cc0_scratch2 hs))) $$ HM
  iapply (wp_waitLocalO EC 𝒱₀ (thr d i) none (sem := semAt cc0_scratch2 hs) (srcw := blkIM h) (dstw := slotIM h') (hsrc := h1) (hdst := h2) none (N := NI) rfl) $$ [Hf HO]
  · isplitl [Hf]; · iassumption
    isplitl [HO] <;> iassumption
  iintro ⟨⟨Hb, Hx⟩, Hs, HO⟩
  iapply hk
  isplitl [HR]; · iassumption
  isplitl [HO]
  · unfold tick
    isplitr; · iexact HM
    iexists _
    isplitr
    rotate_left
    · iexact HO
    · ipureintro
      intro x hx
      rcases Finset.mem_insert.mp hx with rfl | hx
      · exact .inr rfl
      · exact hW x hx
  unfold inHeld
  isplitl [Hb]; · iassumption
  isplitr [Hs]
  · iapply (pointsTo_split_subset (Finset.subset_univ (blockI i n))).2
    isplitl [Hx] <;> iassumption
  · iassumption

/-- Slot `p` of the result scratch, zero in the rows with nothing to average, and its semaphore: no copy outstanding. -/
def outIdle {off : Fin 1 → ℕ} (hs : ∀ a, off a + S1.size a ≤ S2.size a) (p : ℕ) : Asrt F :=
  iprop(heldO d i (slotO p) (fun _ => zero32) emptyDone ∗ semVal (thr d i, .dma (semAt cc0_scratch3 hs)) 0)

/-- The copy of slot `p` into block `n` is outstanding: its end brings the block at the kernel's result, and the slot back. -/
def outFly {off : Fin 1 → ℕ} (hs : ∀ a, off a + S1.size a ≤ S2.size a) (X : S169x1024x768.Idx → F .f32) (p n : ℕ) : Asrt F :=
  iprop(Flight EC (thr d i) (.dma (semAt cc0_scratch3 hs)) none NO
      iprop((outM.view.loc (thr d i) ↦[blocks i (· = n)]{fullShare} outOf X) ∗ heldO d i (slotO p) (fun _ => zero32) emptyDone))

/-- Starting the copy of slot `p`, full of block `n`'s averages, into block `n` of the result. -/
theorem out_start {p n : ℕ} {X : S169x1024x768.Idx → F .f32} {R : Asrt F} {Dn : S2x49x256.Idx → Prop} {f₀ : S49x1024x768.Idx → F .f32}
    {offs : Fin 1 → ℕ} {hs : ∀ a, offs a + S1.size a ≤ S2.size a} {off : Fin 3 → ℕ} {h : ∀ a, off a + S49x1x256.size a ≤ S49x1024x768.size a}
    {h' : ∀ a, (![p, 0, 0] : Fin 3 → ℕ) a + S1x49x256.size a ≤ S2x49x256.size a} {h1 h2 h3}
    {k : PUnit → Prog (TpuEff nD τ sig (Elt F) Λ₀ (.scVector (cV i) (jV i))) α}
    (hoff : off = bOff i n) (hn : n < 96) (hDn : ∀ y, Dn y) (hk : iprop(R ∗ outFly d i hs X p n) ⊢ twp d i (k ⟨⟩) Q) :
    iprop(R ∗ heldO d i (slotO p) (blkO (inBlk X i n)) Dn ∗ semVal (thr d i, .dma (semAt cc0_scratch3 hs)) 0
        ∗ outM.view.loc (thr d i) ↦[blocks i (· = n)]{fullShare} f₀)
      ⊢ twp d i (.op (.enqueueDma (slotOM h') (.here (blkOM h)) (.dma (semAt cc0_scratch3 hs)) h1 h2 h3) k) Q := by
  subst hoff
  unfold heldO
  iintro ⟨HR, ⟨%f, %hf, Hb⟩, Hs, Ho⟩
  ihave Hb2 := (Entails.of_eq ((pointsTo_congr fun y hy => hf y hy (hDn y)).trans (by rw [set_slotOM h'])) :
    (bufO.view.loc (thr d i) ↦[slotO p]{fullShare} f : Asrt F)
      ⊢ (slotOM h').view.loc (thr d i) ↦[(slotOM h').view.set]{fullShare} blkO (inBlk X i n)) $$ Hb
  iapply (wp_dmaLocal EC 𝒱₀ (thr d i) none (hsrc := h1) (hdst := h2) (hsem := h3) (src := slotOM h') (dst := blkOM h) (via := .same) (q := fullShare)
    (fs := blkO (inBlk X i n)) (Sd := blocks i (· = n)) (fd := f₀) none NO rfl (View.dmaCredit_pos _ (by decide : 0 < S49x256.numel))
    (set_blkOM hn h).subset) $$ [Hb2 Ho Hs]
  · isplitl [Hb2]; · iassumption
    isplitl [Ho] <;> iassumption
  iintro Hf
  iapply hk
  isplitl [HR]; · iassumption
  unfold outFly
  iapply (Flight_mono EC (thr d i) (sep_mono (Entails.of_eq ?_) ?_)) $$ Hf
  · exact pointsTo_congr (out_lands hn h' h X f₀)
  · unfold heldO
    iintro Hb
    iexists blkO (inBlk X i n)
    isplitr
    · ipureintro
      intro y _ hy
      exact outBlk_empty _ hy _
    · rw [set_slotOM h']
      iexact Hb

/-- Waiting for it. -/
theorem out_wait {p n : ℕ} {X : S169x1024x768.Idx → F .f32} {R : Asrt F} {O : CellTallies nD τ sig (HIx 1)} {W : Waits sig (HIx 1)}
    {offs : Fin 1 → ℕ} {hs : ∀ a, offs a + S1.size a ≤ S2.size a} {off off' : Fin 3 → ℕ} {h : ∀ a, off a + S49x1x256.size a ≤ S49x1024x768.size a}
    {h' : ∀ a, off' a + S1x49x256.size a ≤ S2x49x256.size a} {h1 h2}
    {k : PUnit → Prog (TpuEff nD τ sig (Elt F) Λ₀ (.scVector (cV i) (jV i))) α}
    (hk : iprop(R ∗ tick d i O W ∗ outIdle d i hs p ∗ outM.view.loc (thr d i) ↦[blocks i (· = n)]{fullShare} outOf X) ⊢ twp d i (k ⟨⟩) Q) :
    iprop(R ∗ tick d i O W ∗ outFly d i hs X p n)
      ⊢ twp d i (.op (.waitDma2 (semAt cc0_scratch3 hs) (slotOM h') (blkOM h) h1 h2) k) Q := by
  unfold tick outFly
  iintro ⟨HR, ⟨#HM, ⟨%W', %hW, HO⟩⟩, Hf⟩
  ihave #Hm := (MayWaits.elim (.dma (semAt cc0_scratch3 hs))) $$ HM
  iapply (wp_waitLocalO EC 𝒱₀ (thr d i) none (sem := semAt cc0_scratch3 hs) (srcw := slotOM h') (dstw := blkOM h) (hsrc := h1) (hdst := h2) none (N := NO) rfl) $$ [Hf HO]
  · isplitl [Hf]; · iassumption
    isplitl [HO] <;> iassumption
  iintro ⟨⟨Hb, Hx⟩, Hs, HO⟩
  iapply hk
  isplitl [HR]; · iassumption
  isplitl [HO]
  · unfold tick
    isplitr; · iexact HM
    iexists _
    isplitr
    rotate_left
    · iexact HO
    · ipureintro
      intro x hx
      rcases Finset.mem_insert.mp hx with rfl | hx
      · exact .inr rfl
      · exact hW x hx
  isplitr [Hb]
  · unfold outIdle
    isplitl [Hx] <;> iassumption
  · iassumption

end States

end Cert.Proof.Pool
-- ==== Proof.Offsets.lean ====
/-
  Where a task's copies go, trip by trip, and which of them a trip makes.
-/
module

public import proofs.«01_k».proof.Proof.Copy

@[expose] public section

namespace Cert.Proof.Pool

open Cert.KernelIdeal Cert.KernelIdeal.Gen Idealize.ShloMosaic

theorem off1_eq : ∀ i : grid0.Coords, k0_off1 i = bOff i 0 := by decide +kernel
theorem off2_eq : ∀ (i : grid0.Coords) (t : Fin k0_t1_loop.trips), k0_off2 i t = bOff i (2 * t.val + 1) := by decide +kernel
theorem off171_eq : ∀ (i : grid0.Coords) (t : Fin k0_t1_loop.trips) (r : Fin 2),
    k0_off171 i t (BitVec.ofNat 32 r.val) = bOff i (2 * t.val + r.val) := by decide +kernel
theorem off172_eq : ∀ (i : grid0.Coords) (t : Fin k0_t1_loop.trips), k0_cond3 t = 1#1 → k0_off172 i t = bOff i (2 * (t.val + 1)) := by
  decide +kernel
theorem cond1_iff : ∀ t : Fin k0_t1_loop.trips, k0_cond1 t = 1#1 := by decide +kernel
theorem cond2_iff : ∀ t : Fin k0_t1_loop.trips, k0_cond2 t = 1#1 ↔ t.val ≠ 0 := by decide +kernel
theorem cond3_iff : ∀ t : Fin k0_t1_loop.trips, k0_cond3 t = 1#1 ↔ t.val + 1 < 48 := by decide +kernel
theorem cond4_iff : ∀ t : Fin k0_t1_loop.trips, k0_cond4 t = 1#1 ↔ t.val ≠ 0 := by decide +kernel
theorem trips1 : k0_t1_loop.trips = 48 := by decide +kernel
theorem trips2 : k0_t2_loop.trips = 16 := by decide +kernel
theorem trips3 : k0_t3_loop.trips = 16 := by decide +kernel

end Cert.Proof.Pool
-- ==== Proof.Ring.lean ====
/-
  A task's loop over its 96 blocks: two slots on each side, each filled, averaged and sent off in turn.
-/
module

public import proofs.«01_k».proof.Proof.Group
public import proofs.«01_k».proof.Proof.Zero
public import proofs.«01_k».proof.Proof.Offsets

@[expose] public section

noncomputable section

namespace Cert.Proof.Pool

open Cert.KernelIdeal Cert.KernelIdeal.Gen

open Idealize.ShloMosaic Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

variable [FloatOps F]

section Ring

variable (d : Dev nD) (i : grid0.Coords)

/-! ## The states -/

instance sep_associative : Std.Associative (fun P Q : Asrt F => iprop(P ∗ Q)) := ⟨fun _ _ _ => equiv_iff.mp ⟨BI.sep_assoc, BI.sep_assoc'⟩⟩
instance sep_commutative : Std.Commutative (fun P Q : Asrt F => iprop(P ∗ Q)) := ⟨fun _ _ => equiv_iff.mp ⟨BI.sep_comm, BI.sep_comm⟩⟩

variable {α β : Type} {Q : α → Asrt F}

/-- The same resources in another order. -/
theorem reorder {St St' G : Asrt F} (hk : St' ⊢ G) (h : St = St') : St ⊢ G := h ▸ hk

/-- A program in two pieces: what the first ends with, the second starts from. -/
theorem twp_seq {St : Asrt F} {Q₁ : β → Asrt F} {p : Prog (TpuEff nD τ sig (Elt F) Λ₀ (.scVector (cV i) (jV i))) β}
    {k : β → Prog (TpuEff nD τ sig (Elt F) Λ₀ (.scVector (cV i) (jV i))) α}
    (h : St ⊢ twp d i p Q₁) (hk : ∀ b, Q₁ b ⊢ twp d i (k b) Q) : St ⊢ twp d i (p >>= k) Q := by
  unfold twp
  rw [wp_bind]
  exact h.trans (wp_mono _ _ _ hk)

theorem twp_ret {St : Asrt F} {a : α} (h : St ⊢ Q a) : St ⊢ twp d i (.ret a) Q := by
  unfold twp
  rw [wp_ret]
  iintro H
  imodintro
  iapply h
  iexact H

/-- The blocks of slot `p` not yet sent, then those whose copies have ended, when the slot's `t` first blocks have ended. -/
def outRows (X : S169x1024x768.Idx → F .f32) (f₀ : S49x1024x768.Idx → F .f32) (p t u : ℕ) : Asrt F :=
  iprop((outM.view.loc (thr d i) ↦[blocks i fun n => n % 2 = p ∧ u ≤ n / 2]{fullShare} f₀)
    ∗ outM.view.loc (thr d i) ↦[blocks i fun n => n % 2 = p ∧ n / 2 < t]{fullShare} outOf X)

/-- Slot `p` of the result scratch is free, and `t` of its blocks are in place. -/
def outReady {off : Fin 1 → ℕ} (hs : ∀ a, off a + S1.size a ≤ S2.size a) (X : S169x1024x768.Idx → F .f32) (f₀ : S49x1024x768.Idx → F .f32)
    (p t : ℕ) : Asrt F :=
  iprop(outIdle d i hs p ∗ outRows d i X f₀ p t t)

/-- Slot `p` between trips: its last block is on its way, if there was one. -/
def outSlot {off : Fin 1 → ℕ} (hs : ∀ a, off a + S1.size a ≤ S2.size a) (X : S169x1024x768.Idx → F .f32) (f₀ : S49x1024x768.Idx → F .f32)
    (p : ℕ) : ℕ → Asrt F
  | 0 => outReady d i hs X f₀ p 0
  | t + 1 => iprop(outFly d i hs X p (2 * t + p) ∗ outRows d i X f₀ p t (t + 1))

/-- The next block of a slot, taken out of those not yet sent. -/
theorem outRows_take {X : S169x1024x768.Idx → F .f32} {f₀ : S49x1024x768.Idx → F .f32} {p t : ℕ} (hp : p < 2) :
    outRows d i X f₀ p t t
      = iprop((outM.view.loc (thr d i) ↦[blocks i (· = 2 * t + p)]{fullShare} f₀) ∗ outRows d i X f₀ p t (t + 1)) := by
  have e : (blocks i fun n => n % 2 = p ∧ t ≤ n / 2) = blocks i (· = 2 * t + p) ∪ blocks i fun n => n % 2 = p ∧ t + 1 ≤ n / 2 := by
    ext y
    simp only [Finset.mem_union, mem_blocks, ← and_or_left]
    refine and_congr_right fun _ => ?_
    omega
  have hd : Disjoint (blocks i (· = 2 * t + p)) (blocks i fun n => n % 2 = p ∧ t + 1 ≤ n / 2) := by
    rw [Finset.disjoint_left]
    intro y h1 h2
    rw [mem_blocks] at h1 h2
    omega
  unfold outRows
  rw [e, equiv_iff.mp ⟨(pointsTo_union hd).1, (pointsTo_union hd).2⟩]
  ac_rfl

/-- A block that has arrived joins those in place. -/
theorem outRows_put {X : S169x1024x768.Idx → F .f32} {f₀ : S49x1024x768.Idx → F .f32} {p t : ℕ} (hp : p < 2) :
    iprop((outM.view.loc (thr d i) ↦[blocks i (· = 2 * t + p)]{fullShare} outOf X) ∗ outRows d i X f₀ p t (t + 1))
      = outRows d i X f₀ p (t + 1) (t + 1) := by
  have e : (blocks i fun n => n % 2 = p ∧ n / 2 < t + 1) = blocks i (· = 2 * t + p) ∪ blocks i fun n => n % 2 = p ∧ n / 2 < t := by
    ext y
    simp only [Finset.mem_union, mem_blocks, ← and_or_left]
    refine and_congr_right fun _ => ?_
    omega
  have hd : Disjoint (blocks i (· = 2 * t + p)) (blocks i fun n => n % 2 = p ∧ n / 2 < t) := by
    rw [Finset.disjoint_left]
    intro y h1 h2
    rw [mem_blocks] at h1 h2
    omega
  unfold outRows
  rw [e, equiv_iff.mp ⟨(pointsTo_union hd).1, (pointsTo_union hd).2⟩]
  ac_rfl

/-- Slot `p` of the input scratch holds block `n`, and the averages of slot `p` of the result scratch are to be made. -/
theorem group_start {p n : ℕ} {off : Fin 1 → ℕ} {hs : ∀ a, off a + S1.size a ≤ S2.size a} {X : S169x1024x768.Idx → F .f32} :
    iprop(heldI d i p (inBlk X i n) ∗ outIdle d i hs p)
      ⊢ iprop(midGroup d i p (inBlk X i n) 0 [] ∗ semVal (thr d i, .dma (semAt cc0_scratch3 hs)) 0) := by
  unfold outIdle midGroup
  iintro ⟨H1, H2, H3⟩
  isplitr [H3]
  · isplitl [H1]; · iexact H1
    iapply (heldO_mono d i fun y _ hd => ?_) $$ H2
    have ht : taps (y 1).val = [] := by
      rcases hd with h | h | h
      · exact h
      · omega
      · simp at h
    exact ⟨ht, (outBlk_empty _ ht _).symm⟩
  · iexact H3

end Ring

end Cert.Proof.Pool
-- ==== Proof.Trip.lean ====
/-
  One trip of a task's loop, and the loop: the copies in, the averages, the copies out, slot by slot.
-/
module

public import proofs.«01_k».proof.Proof.Ring

@[expose] public section

noncomputable section

namespace Cert.Proof.Pool

open Cert.KernelIdeal Cert.KernelIdeal.Gen

open Idealize.ShloMosaic Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

section Trip

variable (d : Dev nD) (i : grid0.Coords) {q : PosShare TreeShare} {X : S169x1024x768.Idx → F .f32} {f₀ : S49x1024x768.Idx → F .f32}
  {O : CellTallies nD τ sig (HIx 1)} {W : Waits sig (HIx 1)}

attribute [local irreducible] wp

/-- The first step of a trip starts the copy of the trip's second block. -/
theorem part55_run (v1 c0 c1 : BitVec 32) (t : Fin k0_t1_loop.trips) (R : Asrt F) :
    iprop(R ∗ inIdle d i inb_S2_S1_1 q X 1) ⊢ twp d i (k0_part55 i inM (Memref.isWhole_whole _) outM (Memref.isWhole_whole _)
        bufI (Memref.isWhole_whole _) bufO (Memref.isWhole_whole _) cc0_scratch2 cc0_scratch3 v1 c0 c1 t)
      fun _ => iprop(R ∗ inFly d i inb_S2_S1_1 q X 1 (2 * t.val + 1)) := by
  unfold k0_part55
  dsimp only
  rw [dif_pos (cond1_iff t)]
  refine in_start d i (off2_eq i t) ?_
  exact twp_ret d i (Entails.refl _)

/-- The 16 groups of a block, first slot. -/
theorem loop2 {α : Type} {Q : α → Asrt F} (a : ℕ → ℕ → F .f32) (v1 x8 x9 x10 : BitVec 32) (t : Fin k0_t1_loop.trips) (R : Asrt F)
    {k : PUnit → Prog (TpuEff nD τ sig (Elt F) Λ₀ (.scVector (cV i) (jV i))) α}
    (hk : iprop(R ∗ midGroup d i 0 a 16 []) ⊢ twp d i (k ⟨⟩) Q) :
    iprop(R ∗ midGroup d i 0 a 0 []) ⊢ twp d i (Scf.Loop.for k0_t2_loop k0_t2_ok ⟨⟩
      (k0_t2_body i inM (Memref.isWhole_whole _) outM (Memref.isWhole_whole _)
        bufI (Memref.isWhole_whole _) bufO (Memref.isWhole_whole _) cc0_scratch2 cc0_scratch3 v1 t x8 x9 x10) >>= k) Q := by
  refine BIBase.Entails.trans ?_ (BIClass.wand_elim (Scf.wp_for_bind frame (wpE (defs₀ (F := F)) 𝒱₀ (thr d i) none) Set.univ _ _ _ k0_t2_ok ⟨⟩ _
    (fun n _ => midGroup d i 0 a n []) fun u acc => t2_body d i a v1 t x8 x9 x10 u acc))
  iintro ⟨HR, H⟩
  isplitl [H]; · iexact H
  iintro %_ H
  iapply hk
  isplitl [HR]; · iexact HR
  rw [show Scf.trips k0_t2_loop.lb k0_t2_loop.ub k0_t2_loop.st = 16 from trips2]
  iexact H

/-- The 16 groups of a block, second slot. -/
theorem loop3 {α : Type} {Q : α → Asrt F} (a : ℕ → ℕ → F .f32) (v1 x1 x2 : BitVec 32) (x3 : BitVec 1) (x4 : BitVec 32) (R : Asrt F)
    {k : PUnit → Prog (TpuEff nD τ sig (Elt F) Λ₀ (.scVector (cV i) (jV i))) α}
    (hk : iprop(R ∗ midGroup d i 1 a 16 []) ⊢ twp d i (k ⟨⟩) Q) :
    iprop(R ∗ midGroup d i 1 a 0 []) ⊢ twp d i (Scf.Loop.for k0_t3_loop k0_t3_ok ⟨⟩
      (k0_t3_body i inM (Memref.isWhole_whole _) outM (Memref.isWhole_whole _)
        bufI (Memref.isWhole_whole _) bufO (Memref.isWhole_whole _) cc0_scratch2 cc0_scratch3 v1 x1 x2 x3 x4) >>= k) Q := by
  refine BIBase.Entails.trans ?_ (BIClass.wand_elim (Scf.wp_for_bind frame (wpE (defs₀ (F := F)) 𝒱₀ (thr d i) none) Set.univ _ _ _ k0_t3_ok ⟨⟩ _
    (fun n _ => midGroup d i 1 a n []) fun u acc => t3_body d i a v1 x1 x2 x3 x4 u acc))
  iintro ⟨HR, H⟩
  isplitl [H]; · iexact H
  iintro %_ H
  iapply hk
  isplitl [HR]; · iexact HR
  rw [show Scf.trips k0_t3_loop.lb k0_t3_loop.ub k0_t3_loop.st = 16 from trips3]
  iexact H

/-- Before the first trip a slot of the result scratch is free. -/
theorem outSlot_zero {off : Fin 1 → ℕ} (hs : ∀ a, off a + S1.size a ≤ S2.size a) (p t : ℕ) (ht : ¬ t ≠ 0) :
    outSlot d i hs X f₀ p t = outReady d i hs X f₀ p t := by
  obtain rfl : t = 0 := by omega
  rfl

/-- The block that was on its way is in place, and the slot is free. -/
theorem outSlot_landed {off : Fin 1 → ℕ} (hs : ∀ a, off a + S1.size a ≤ S2.size a) {p t : ℕ} (hp : p < 2) :
    iprop(outRows d i X f₀ p t (t + 1) ∗ outIdle d i hs p ∗ outM.view.loc (thr d i) ↦[blocks i (· = 2 * t + p)]{fullShare} outOf X)
      = outReady d i hs X f₀ p (t + 1) := by
  unfold outReady
  rw [← outRows_put d i hp]
  ac_rfl

/-- All 16 groups make the whole block's averages. -/
theorem groupDone_all (y : S2x49x256.Idx) : groupDone 16 [] y :=
  .inr (.inl (y 2).isLt)

/-- Slot `p` with its averages made is sent to its block; the block of the input is no longer needed. -/
theorem send {α : Type} {Q : α → Asrt F} {p t : ℕ} {R : Asrt F} {offs offs' : Fin 1 → ℕ} {hs : ∀ a, offs a + S1.size a ≤ S2.size a}
    {hi : ∀ a, offs' a + S1.size a ≤ S2.size a} {off : Fin 3 → ℕ} {h : ∀ a, off a + S49x1x256.size a ≤ S49x1024x768.size a}
    {h' : ∀ a, (![p, 0, 0] : Fin 3 → ℕ) a + S1x49x256.size a ≤ S2x49x256.size a} {h1 h2 h3}
    {k : PUnit → Prog (TpuEff nD τ sig (Elt F) Λ₀ (.scVector (cV i) (jV i))) α}
    (hoff : off = bOff i (2 * t + p)) (hp : p < 2) (ht : t < 48)
    (hk : iprop(R ∗ inIdle d i hi q X p ∗ outSlot d i hs X f₀ p (t + 1)) ⊢ twp d i (k ⟨⟩) Q) :
    iprop((R ∗ (inM.view.loc (thr d i) ↦[Finset.univ]{q} X) ∗ semVal (thr d i, .dma (semAt cc0_scratch2 hi)) 0
        ∗ outRows d i X f₀ p t t ∗ semVal (thr d i, .dma (semAt cc0_scratch3 hs)) 0) ∗ midGroup d i p (inBlk X i (2 * t + p)) 16 [])
      ⊢ twp d i (.op (.enqueueDma (slotOM h') (.here (blkOM h)) (.dma (semAt cc0_scratch3 hs)) h1 h2 h3) k) Q := by
  have e := outRows_take d i (X := X) (f₀ := f₀) (t := t) hp
  refine BIBase.Entails.trans ?_ (out_start d i (hs := hs) (X := X) (R := iprop(R ∗ inHeld d i hi q X p (2 * t + p) ∗ outRows d i X f₀ p t (t + 1)))
    (f₀ := f₀) hoff (by omega) groupDone_all (BIBase.Entails.trans ?_ hk))
  · rw [e]
    unfold midGroup inHeld
    iintro ⟨⟨HR, Hx, Hs, ⟨Hb, Hrows⟩, Ho⟩, ⟨Hi, Hd⟩⟩
    isplitr [Hd Ho Hb]
    · isplitl [HR]; · iexact HR
      isplitr [Hrows]
      · isplitl [Hi]; · iexact Hi
        isplitl [Hx] <;> iassumption
      · iexact Hrows
    · isplitl [Hd]; · iexact Hd
      isplitl [Ho] <;> iassumption
  · rw [show outSlot d i hs X f₀ p (t + 1) = iprop(outFly d i hs X p (2 * t + p) ∗ outRows d i X f₀ p t (t + 1)) from rfl]
    iintro ⟨⟨HR, Hi, Hrows⟩, Hf⟩
    isplitl [HR]; · iexact HR
    isplitl [Hi]
    · iapply (inHeld_idle d i hi q X p (2 * t + p)) $$ Hi
    · isplitl [Hf] <;> iassumption

/-- Slot `p` of the input scratch holds its block and slot `p` of the result scratch is free: ready for the averages. -/
theorem ready {p t : ℕ} {R : Asrt F} {offs offs' : Fin 1 → ℕ} {hs : ∀ a, offs a + S1.size a ≤ S2.size a}
    {hi : ∀ a, offs' a + S1.size a ≤ S2.size a} :
    iprop((R ∗ outReady d i hs X f₀ p t) ∗ inHeld d i hi q X p (2 * t + p))
      ⊢ iprop((R ∗ (inM.view.loc (thr d i) ↦[Finset.univ]{q} X) ∗ semVal (thr d i, .dma (semAt cc0_scratch2 hi)) 0
        ∗ outRows d i X f₀ p t t ∗ semVal (thr d i, .dma (semAt cc0_scratch3 hs)) 0) ∗ midGroup d i p (inBlk X i (2 * t + p)) 0 []) := by
  unfold outReady inHeld
  iintro ⟨⟨HR, Ho, Hrows⟩, ⟨Hi, Hx, Hs⟩⟩
  ihave Hg := (group_start d i (hs := hs) (p := p) (n := 2 * t + p) (X := X)) $$ [Hi Ho]
  · isplitl [Hi] <;> iassumption
  icases Hg with ⟨Hg, Ho⟩
  isplitr [Hg]
  · isplitl [HR]; · iexact HR
    isplitl [Hx]; · iexact Hx
    isplitl [Hs]; · iexact Hs
    isplitl [Hrows] <;> iassumption
  · iexact Hg

set_option maxRecDepth 100000 in
set_option maxHeartbeats 4000000 in
/-- The middle of a trip: the first slot's earlier copy out has ended, its block is in, its averages are made and on their way. -/
theorem part56_run (v1 x1 x2 x3 : BitVec 32) (t : Fin k0_t1_loop.trips) (R : Asrt F) :
    iprop(R ∗ tick d i O W ∗ inFly d i inb_S2_S1_0 q X 0 (2 * t.val) ∗ outSlot d i inb_S2_S1_0 X f₀ 0 t.val)
      ⊢ twp d i (k0_part56 i inM (Memref.isWhole_whole _) outM (Memref.isWhole_whole _)
        bufI (Memref.isWhole_whole _) bufO (Memref.isWhole_whole _) cc0_scratch2 cc0_scratch3 v1 t x1 x2 x3)
      fun _ => iprop((R ∗ tick d i O W) ∗ inIdle d i inb_S2_S1_0 q X 0 ∗ outSlot d i inb_S2_S1_0 X f₀ 0 (t.val + 1)) := by
  have ht : t.val < 48 := lt_of_lt_of_eq t.isLt trips1
  rw [k0_part56_eq_skeleton]
  unfold k0_part56_skel
  dsimp only
  split
  case' isTrue hc =>
    obtain ⟨n, hn⟩ := Nat.exists_eq_succ_of_ne_zero ((cond2_iff t).mp hc)
    refine reorder (St' := iprop((R ∗ inFly d i inb_S2_S1_0 q X 0 (2 * t.val) ∗ outRows d i X f₀ 0 n (n + 1)) ∗ tick d i O W
      ∗ outFly d i inb_S2_S1_0 X 0 (2 * n + 0))) (out_wait d i ?_) ?refl
    case refl =>
      rw [hn, show outSlot d i inb_S2_S1_0 X f₀ 0 (n.succ)
        = iprop(outFly d i inb_S2_S1_0 X 0 (2 * n + 0) ∗ outRows d i X f₀ 0 n (n + 1)) from rfl]
      ac_rfl
    refine BIBase.Entails.trans (Q := iprop((R ∗ outReady d i inb_S2_S1_0 X f₀ 0 t.val) ∗ tick d i O W
      ∗ inFly d i inb_S2_S1_0 q X 0 (2 * t.val + 0))) (Entails.of_eq ?refl) ?_
    case refl =>
      rw [hn, ← outSlot_landed d i _ (by decide), Nat.add_zero]
      ac_rfl
  case' isFalse hc =>
    refine BIBase.Entails.trans (Q := iprop((R ∗ outReady d i inb_S2_S1_0 X f₀ 0 t.val) ∗ tick d i O W
      ∗ inFly d i inb_S2_S1_0 q X 0 (2 * t.val + 0))) (Entails.of_eq ?refl) ?_
    case refl =>
      rw [outSlot_zero d i _ _ _ (fun h => hc ((cond2_iff t).mpr h)), Nat.add_zero]
      ac_rfl
  all_goals
    refine in_wait d i ?_
    refine reorder (St' := iprop(((R ∗ tick d i O W) ∗ outReady d i inb_S2_S1_0 X f₀ 0 t.val) ∗ inHeld d i inb_S2_S1_0 q X 0 (2 * t.val + 0)))
      ((ready d i).trans (loop2 d i _ _ _ _ _ t _ ?_)) ?refl
    case refl => ac_rfl
    refine send d i (hi := inb_S2_S1_0) (p := 0) (off171_eq i t 0) (by decide) ht ?_
    exact twp_ret d i (Entails.refl _)

/-- The first slot of the input scratch between trips: its next block is on its way, while there is one. -/
def inNext (q : PosShare TreeShare) (X : S169x1024x768.Idx → F .f32) (t : ℕ) : Asrt F :=
  if t < 48 then inFly d i inb_S2_S1_0 q X 0 (2 * t) else inIdle d i inb_S2_S1_0 q X 0

set_option maxRecDepth 100000 in
set_option maxHeartbeats 4000000 in
/-- The end of the middle: the first slot's next block is on its way, the second slot's earlier copy out has ended. -/
theorem part57_run (v1 x1 x2 x3 x4 : BitVec 32) (t : Fin k0_t1_loop.trips) (R : Asrt F) :
    iprop(R ∗ tick d i O W ∗ inIdle d i inb_S2_S1_0 q X 0 ∗ outSlot d i inb_S2_S1_1 X f₀ 1 t.val)
      ⊢ twp d i (k0_part57 i inM (Memref.isWhole_whole _) outM (Memref.isWhole_whole _)
        bufI (Memref.isWhole_whole _) bufO (Memref.isWhole_whole _) cc0_scratch2 cc0_scratch3 v1 t x1 x2 x3 x4)
      fun _ => iprop((R ∗ inNext d i q X (t.val + 1)) ∗ tick d i O W ∗ outReady d i inb_S2_S1_1 X f₀ 1 t.val) := by
  have ht : t.val < 48 := lt_of_lt_of_eq t.isLt trips1
  rw [k0_part57_eq_skeleton]
  unfold k0_part57_skel
  dsimp only
  split
  case' isTrue hc =>
    refine reorder (St' := iprop((R ∗ tick d i O W ∗ outSlot d i inb_S2_S1_1 X f₀ 1 t.val) ∗ inIdle d i inb_S2_S1_0 q X 0))
      (in_start d i (off172_eq i t hc) ?_) ?refl
    case refl => ac_rfl
    refine reorder (St' := iprop((R ∗ inNext d i q X (t.val + 1)) ∗ tick d i O W ∗ outSlot d i inb_S2_S1_1 X f₀ 1 t.val)) ?_ ?refl
    case refl =>
      unfold inNext
      rw [if_pos ((cond3_iff t).mp hc)]
      ac_rfl
  case' isFalse hc =>
    refine reorder (St' := iprop((R ∗ inNext d i q X (t.val + 1)) ∗ tick d i O W ∗ outSlot d i inb_S2_S1_1 X f₀ 1 t.val)) ?_ ?refl
    case refl =>
      unfold inNext
      rw [if_neg fun h => hc ((cond3_iff t).mpr h)]
      ac_rfl
  all_goals
    split
    · rename_i hd
      obtain ⟨n, hn⟩ := Nat.exists_eq_succ_of_ne_zero ((cond4_iff t).mp hd)
      rw [hn, show outSlot d i inb_S2_S1_1 X f₀ 1 (n.succ)
        = iprop(outFly d i inb_S2_S1_1 X 1 (2 * n + 1) ∗ outRows d i X f₀ 1 n (n + 1)) from rfl]
      refine reorder (St' := iprop(((R ∗ inNext d i q X (n.succ + 1)) ∗ outRows d i X f₀ 1 n (n + 1)) ∗ tick d i O W
        ∗ outFly d i inb_S2_S1_1 X 1 (2 * n + 1))) (out_wait d i (twp_ret d i (Entails.of_eq ?_))) (by ac_rfl)
      rw [← outSlot_landed d i _ (by decide)]
      ac_rfl
    · rename_i hd
      refine twp_ret d i (Entails.of_eq ?_)
      rw [outSlot_zero d i _ _ _ (fun h => hd ((cond4_iff t).mpr h))]

/-- What a task holds between two trips of the loop. -/
def ring (q₀ q₁ : PosShare TreeShare) (X : S169x1024x768.Idx → F .f32) (f₀ : S49x1024x768.Idx → F .f32) (O : CellTallies nD τ sig (HIx 1))
    (W : Waits sig (HIx 1)) (t : ℕ) : Asrt F :=
  iprop(tick d i O W ∗ inNext d i q₀ X t ∗ inIdle d i inb_S2_S1_1 q₁ X 1 ∗ outSlot d i inb_S2_S1_0 X f₀ 0 t
    ∗ outSlot d i inb_S2_S1_1 X f₀ 1 t)

set_option maxRecDepth 100000 in
set_option maxHeartbeats 4000000 in
/-- One trip. -/
theorem t1_body {q₀ q₁ : PosShare TreeShare} (v1 x1 x2 : BitVec 32) (x3 : BitVec 1) (x4 : BitVec 32) (t : Fin k0_t1_loop.trips) (u : PUnit) :
    ring d i q₀ q₁ X f₀ O W t.val ⊢ twp d i (k0_t1_body i inM (Memref.isWhole_whole _) outM (Memref.isWhole_whole _)
        bufI (Memref.isWhole_whole _) bufO (Memref.isWhole_whole _) cc0_scratch2 cc0_scratch3 v1 x1 x2 x3 x4 t u)
      fun _ => ring d i q₀ q₁ X f₀ O W (t.val + 1) := by
  have ht : t.val < 48 := lt_of_lt_of_eq t.isLt trips1
  unfold k0_t1_body
  refine twp_seq d i (reorder (part55_run d i (q := q₁) (X := X) v1 _ _ t iprop(tick d i O W ∗ inNext d i q₀ X t.val
    ∗ outSlot d i inb_S2_S1_0 X f₀ 0 t.val ∗ outSlot d i inb_S2_S1_1 X f₀ 1 t.val)) ?_) fun _ => ?_
  · unfold ring; ac_rfl
  refine twp_seq d i (reorder (part56_run d i (q := q₀) (X := X) (f₀ := f₀) (O := O) (W := W) v1 _ _ _ t
    iprop(inFly d i inb_S2_S1_1 q₁ X 1 (2 * t.val + 1) ∗ outSlot d i inb_S2_S1_1 X f₀ 1 t.val)) ?_) fun _ => ?_
  · unfold inNext; rw [if_pos ht]; ac_rfl
  refine twp_seq d i (reorder (part57_run d i (q := q₀) (X := X) (f₀ := f₀) (O := O) (W := W) v1 _ _ _ _ t
    iprop(inFly d i inb_S2_S1_1 q₁ X 1 (2 * t.val + 1) ∗ outSlot d i inb_S2_S1_0 X f₀ 0 (t.val + 1))) ?_) fun _ => ?_
  · ac_rfl
  refine reorder (St' := iprop((outSlot d i inb_S2_S1_0 X f₀ 0 (t.val + 1) ∗ inNext d i q₀ X (t.val + 1) ∗ outReady d i inb_S2_S1_1 X f₀ 1 t.val)
    ∗ tick d i O W ∗ inFly d i inb_S2_S1_1 q₁ X 1 (2 * t.val + 1))) (in_wait d i ?_) (by ac_rfl)
  refine reorder (St' := iprop(((outSlot d i inb_S2_S1_0 X f₀ 0 (t.val + 1) ∗ inNext d i q₀ X (t.val + 1) ∗ tick d i O W)
    ∗ outReady d i inb_S2_S1_1 X f₀ 1 t.val) ∗ inHeld d i inb_S2_S1_1 q₁ X 1 (2 * t.val + 1)))
    ((ready d i).trans (loop3 d i _ _ _ _ _ _ _ ?_)) (by ac_rfl)
  refine send d i (hi := inb_S2_S1_1) (p := 1) (off171_eq i t 1) (by decide) ht (twp_ret d i (Entails.of_eq ?_))
  unfold ring
  ac_rfl

end Trip

end Cert.Proof.Pool
-- ==== Proof.Tile.lean ====
/-
  A whole task: from its shares of the input, its rows of the result and its own scratch, to the same with its rows at the
  kernel's result.
-/
module

public import proofs.«01_k».proof.Proof.Trip

@[expose] public section

noncomputable section

namespace Cert.Proof.Pool

open Cert.KernelIdeal Cert.KernelIdeal.Gen

open Idealize.ShloMosaic Idealize.ShloMosaic.Transfers
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows of the result a task writes. -/
def tileRows (i : grid0.Coords) : Finset S49x1024x768.Idx := blocks i fun _ => True

theorem mem_tileRows {i : grid0.Coords} {y : S49x1024x768.Idx} : y ∈ tileRows i ↔ (y 1).val / 32 = wid i := by
  rw [tileRows, mem_blocks, and_true]

section Task

variable (d : Dev nD) (i : grid0.Coords) {q₀ q₁ : PosShare TreeShare} {X : S169x1024x768.Idx → F .f32} {f₀ : S49x1024x768.Idx → F .f32}
  {O : CellTallies nD τ sig (HIx 1)} {W : Waits sig (HIx 1)}

/-- The even blocks and the odd ones make up a task's rows. -/
theorem rows_slots : tileRows i = (blocks i fun n => n % 2 = 0 ∧ 0 ≤ n / 2) ∪ blocks i fun n => n % 2 = 1 ∧ 0 ≤ n / 2 := by
  ext y
  simp only [Finset.mem_union, mem_tileRows, mem_blocks]
  omega

theorem rows_slots' : tileRows i = (blocks i fun n => n % 2 = 0 ∧ n / 2 < 48) ∪ blocks i fun n => n % 2 = 1 ∧ n / 2 < 48 := by
  ext y
  have h2 : (y 2).val < 768 := (y 2).isLt
  simp only [Finset.mem_union, mem_tileRows, mem_blocks]
  omega

theorem outRows_zero (p : ℕ) : outRows d i X f₀ p 0 0
    = (outM.view.loc (thr d i) ↦[blocks i fun n => n % 2 = p ∧ 0 ≤ n / 2]{fullShare} f₀ : Asrt F) := by
  have e : (blocks i fun n => n % 2 = p ∧ n / 2 < 0) = ∅ := by
    ext y; simp [mem_blocks]
  unfold outRows
  rw [e, pointsTo_empty]
  exact equiv_iff.mp ⟨BI.sep_emp.1, BI.sep_emp.2⟩

theorem outRows_all (p : ℕ) : outRows d i X f₀ p 48 48
    = (outM.view.loc (thr d i) ↦[blocks i fun n => n % 2 = p ∧ n / 2 < 48]{fullShare} outOf X : Asrt F) := by
  have e : (blocks i fun n => n % 2 = p ∧ 48 ≤ n / 2) = ∅ := by
    ext y
    have h2 : (y 2).val < 768 := (y 2).isLt
    simp only [mem_blocks, Finset.notMem_empty, iff_false]
    omega
  unfold outRows
  rw [e, pointsTo_empty]
  exact equiv_iff.mp ⟨BI.emp_sep.1, BI.emp_sep.2⟩

/-- Before the first trip nothing is sent: a task's rows are those of its two slots. -/
theorem rows_start : (outM.view.loc (thr d i) ↦[tileRows i]{fullShare} f₀ : Asrt F)
    = iprop(outRows d i X f₀ 0 0 0 ∗ outRows d i X f₀ 1 0 0) := by
  have hd : Disjoint (blocks i fun n => n % 2 = 0 ∧ 0 ≤ n / 2) (blocks i fun n => n % 2 = 1 ∧ 0 ≤ n / 2) := by
    rw [Finset.disjoint_left]; intro y h1 h2; rw [mem_blocks] at h1 h2; omega
  rw [outRows_zero, outRows_zero, rows_slots, equiv_iff.mp ⟨(pointsTo_union hd).1, (pointsTo_union hd).2⟩]

/-- After the last everything is. -/
theorem rows_end : iprop(outRows d i X f₀ 0 48 48 ∗ outRows d i X f₀ 1 48 48)
    = (outM.view.loc (thr d i) ↦[tileRows i]{fullShare} outOf X : Asrt F) := by
  have hd : Disjoint (blocks i fun n => n % 2 = 0 ∧ n / 2 < 48) (blocks i fun n => n % 2 = 1 ∧ n / 2 < 48) := by
    rw [Finset.disjoint_left]; intro y h1 h2; rw [mem_blocks] at h1 h2; omega
  rw [outRows_all, outRows_all, rows_slots', equiv_iff.mp ⟨(pointsTo_union hd).1, (pointsTo_union hd).2⟩]

/-! ## The scratch buffers are their two slots -/

theorem slotsI : (Finset.univ : Finset S2x169x256.Idx) = slotI 0 ∪ slotI 1 := by
  ext y
  have h : (y 0).val < 2 := (y 0).isLt
  simp only [Finset.mem_univ, Finset.mem_union, mem_slotI, true_iff]
  omega

theorem slotsO : (Finset.univ : Finset S2x49x256.Idx) = slotO 0 ∪ slotO 1 := by
  ext y
  have h : (y 0).val < 2 := (y 0).isLt
  simp only [Finset.mem_univ, Finset.mem_union, mem_slotO, true_iff]
  omega

theorem slotI_disj : Disjoint (slotI 0) (slotI 1) := by
  rw [Finset.disjoint_left]; intro y h1 h2; rw [mem_slotI] at h1 h2; omega
theorem slotO_disj : Disjoint (slotO 0) (slotO 1) := by
  rw [Finset.disjoint_left]; intro y h1 h2; rw [mem_slotO] at h1 h2; omega

theorem bufI_split (f : S2x169x256.Idx → F .f32) : (bufI.view.loc (thr d i) ↦[Finset.univ]{fullShare} f : Asrt F)
    = iprop((bufI.view.loc (thr d i) ↦[slotI 0]{fullShare} f) ∗ bufI.view.loc (thr d i) ↦[slotI 1]{fullShare} f) := by
  rw [slotsI, equiv_iff.mp ⟨(pointsTo_union slotI_disj).1, (pointsTo_union slotI_disj).2⟩]

theorem bufO_split (f : S2x49x256.Idx → F .f32) : (bufO.view.loc (thr d i) ↦[Finset.univ]{fullShare} f : Asrt F)
    = iprop((bufO.view.loc (thr d i) ↦[slotO 0]{fullShare} f) ∗ bufO.view.loc (thr d i) ↦[slotO 1]{fullShare} f) := by
  rw [slotsO, equiv_iff.mp ⟨(pointsTo_union slotO_disj).1, (pointsTo_union slotO_disj).2⟩]

/-- Two slots at contents of their own are the scratch at some contents. -/
theorem bufI_join (f g : S2x169x256.Idx → F .f32) :
    iprop((bufI.view.loc (thr d i) ↦[slotI 0]{fullShare} f) ∗ bufI.view.loc (thr d i) ↦[slotI 1]{fullShare} g)
      ⊢ (iprop(∃ h : S2x169x256.Idx → F .f32, bufI.view.loc (thr d i) ↦[Finset.univ]{fullShare} h) : Asrt F) := by
  have e0 : (bufI.view.loc (thr d i) ↦[slotI 0]{fullShare} f : Asrt F)
      = bufI.view.loc (thr d i) ↦[slotI 0]{fullShare} fun y : S2x169x256.Idx => if (y 0).val = 0 then f y else g y :=
    pointsTo_congr fun y hy => (if_pos (mem_slotI.mp hy)).symm
  have e1 : (bufI.view.loc (thr d i) ↦[slotI 1]{fullShare} g : Asrt F)
      = bufI.view.loc (thr d i) ↦[slotI 1]{fullShare} fun y : S2x169x256.Idx => if (y 0).val = 0 then f y else g y :=
    pointsTo_congr fun y hy => (if_neg (by have := mem_slotI.mp hy; omega)).symm
  rw [e0, e1, ← bufI_split]
  iintro H
  iexists _
  iexact H

theorem bufO_join (f g : S2x49x256.Idx → F .f32) :
    iprop((bufO.view.loc (thr d i) ↦[slotO 0]{fullShare} f) ∗ bufO.view.loc (thr d i) ↦[slotO 1]{fullShare} g)
      ⊢ (iprop(∃ h : S2x49x256.Idx → F .f32, bufO.view.loc (thr d i) ↦[Finset.univ]{fullShare} h) : Asrt F) := by
  have e0 : (bufO.view.loc (thr d i) ↦[slotO 0]{fullShare} f : Asrt F)
      = bufO.view.loc (thr d i) ↦[slotO 0]{fullShare} fun y : S2x49x256.Idx => if (y 0).val = 0 then f y else g y :=
    pointsTo_congr fun y hy => (if_pos (mem_slotO.mp hy)).symm
  have e1 : (bufO.view.loc (thr d i) ↦[slotO 1]{fullShare} g : Asrt F)
      = bufO.view.loc (thr d i) ↦[slotO 1]{fullShare} fun y : S2x49x256.Idx => if (y 0).val = 0 then f y else g y :=
    pointsTo_congr fun y hy => (if_neg (by have := mem_slotO.mp hy; omega)).symm
  rw [e0, e1, ← bufO_split]
  iintro H
  iexists _
  iexact H

/-! ## The run -/

/-- What a task holds, besides the result scratch, while it stores the zeros. -/
def before (q₀ q₁ : PosShare TreeShare) (X : S169x1024x768.Idx → F .f32) (f₀ : S49x1024x768.Idx → F .f32)
    (O : CellTallies nD τ sig (HIx 1)) (W : Waits sig (HIx 1)) : Asrt F :=
  iprop(tick d i O W ∗ inIdle d i inb_S2_S1_0 q₀ X 0 ∗ inIdle d i inb_S2_S1_1 q₁ X 1
    ∗ semVal (thr d i, .dma (semAt cc0_scratch3 inb_S2_S1_0)) 0 ∗ semVal (thr d i, .dma (semAt cc0_scratch3 inb_S2_S1_1)) 0
    ∗ outM.view.loc (thr d i) ↦[tileRows i]{fullShare} f₀)

/-- What it holds at the end. -/
def after (q₀ q₁ : PosShare TreeShare) (X : S169x1024x768.Idx → F .f32) (f₀ : S49x1024x768.Idx → F .f32)
    (O : CellTallies nD τ sig (HIx 1)) (W : Waits sig (HIx 1)) : Asrt F :=
  iprop(tick d i O W ∗ inIdle d i inb_S2_S1_0 q₀ X 0 ∗ inIdle d i inb_S2_S1_1 q₁ X 1
    ∗ outReady d i inb_S2_S1_0 X f₀ 0 48 ∗ outReady d i inb_S2_S1_1 X f₀ 1 48)

/-- With the zeros stored, both slots of the result scratch are free. -/
theorem zeroed : zeroing d i (before d i q₀ q₁ X f₀ O W) 0
    ⊢ iprop((tick d i O W ∗ inIdle d i inb_S2_S1_1 q₁ X 1 ∗ outSlot d i inb_S2_S1_0 X f₀ 0 0 ∗ outSlot d i inb_S2_S1_1 X f₀ 1 0)
      ∗ inIdle d i inb_S2_S1_0 q₀ X 0) := by
  unfold zeroing before heldO
  rw [rows_start d i (X := X)]
  iintro ⟨⟨Ht, H0, H1, Hs0, Hs1, Hr0, Hr1⟩, ⟨%f, %hf, Hb⟩⟩
  ihave Hb' := (Entails.of_eq (bufO_split d i f)) $$ Hb
  icases Hb' with ⟨Hb0, Hb1⟩
  isplitr [H0]
  · isplitl [Ht]; · iexact Ht
    isplitl [H1]; · iexact H1
    unfold outSlot outReady outIdle heldO
    isplitl [Hs0 Hr0 Hb0]
    · isplitr [Hr0]
      · isplitl [Hb0]
        · iexists f
          isplitr
          · ipureintro; exact fun y _ hy => hf y (Finset.mem_univ y) (zeroDone_all y hy)
          · iexact Hb0
        · iexact Hs0
      · iexact Hr0
    · isplitr [Hr1]
      · isplitl [Hb1]
        · iexists f
          isplitr
          · ipureintro; exact fun y _ hy => hf y (Finset.mem_univ y) (zeroDone_all y hy)
          · iexact Hb1
        · iexact Hs1
      · iexact Hr1
  · iexact H0

/-- The 48 trips. -/
theorem loop1 {α : Type} {Q : α → Asrt F} (v1 x1 x2 : BitVec 32) (x3 : BitVec 1) (x4 : BitVec 32)
    {k : PUnit → Prog (TpuEff nD τ sig (Elt F) Λ₀ (.scVector (cV i) (jV i))) α}
    (hk : ring d i q₀ q₁ X f₀ O W 48 ⊢ twp d i (k ⟨⟩) Q) :
    ring d i q₀ q₁ X f₀ O W 0 ⊢ twp d i (Scf.Loop.for k0_t1_loop k0_t1_ok ⟨⟩
      (k0_t1_body i inM (Memref.isWhole_whole _) outM (Memref.isWhole_whole _)
        bufI (Memref.isWhole_whole _) bufO (Memref.isWhole_whole _) cc0_scratch2 cc0_scratch3 v1 x1 x2 x3 x4) >>= k) Q := by
  refine BIBase.Entails.trans ?_ (BIClass.wand_elim (Scf.wp_for_bind frame (wpE (defs₀ (F := F)) 𝒱₀ (thr d i) none) Set.univ _ _ _ k0_t1_ok ⟨⟩ _
    (fun n _ => ring d i q₀ q₁ X f₀ O W n) fun t u => t1_body d i v1 x1 x2 x3 x4 t u))
  iintro H
  isplitl [H]; · iexact H
  iintro %_ H
  iapply hk
  rw [show Scf.trips k0_t1_loop.lb k0_t1_loop.ub k0_t1_loop.st = 48 from trips1]
  iexact H

attribute [local irreducible] wp in
set_option maxRecDepth 100000 in
set_option maxHeartbeats 4000000 in
/-- The run from the first copy on. -/
theorem tail_run (v1 x1 x2 : BitVec 32) (x3 : BitVec 1) (x4 : BitVec 32) :
    zeroing d i (before d i q₀ q₁ X f₀ O W) 0 ⊢ twp d i (tailProg i v1 x1 x2 x3 x4) fun _ => after d i q₀ q₁ X f₀ O W := by
  refine (zeroed d i).trans ?_
  unfold tailProg
  rw [k0_part127_eq_skeleton, k0_part128_eq_skeleton]
  refine twp_seq d i (Q₁ := fun _ => ring d i q₀ q₁ X f₀ O W 48) ?_ fun _ => ?_
  · unfold k0_part127_skel
    refine in_start d i (off1_eq i) ?_
    refine reorder (St' := ring d i q₀ q₁ X f₀ O W 0) ?_ (by unfold ring inNext; rw [if_pos (by decide)]; ac_rfl)
    exact loop1 d i v1 _ _ _ _ (twp_ret d i (Entails.refl _))
  · have e0 : outSlot d i inb_S2_S1_0 X f₀ 0 48 = iprop(outFly d i inb_S2_S1_0 X 0 (2 * 47 + 0) ∗ outRows d i X f₀ 0 47 48) := rfl
    have e1 : outSlot d i inb_S2_S1_1 X f₀ 1 48 = iprop(outFly d i inb_S2_S1_1 X 1 (2 * 47 + 1) ∗ outRows d i X f₀ 1 47 48) := rfl
    unfold ring inNext
    rw [if_neg (by decide), e0, e1]
    refine reorder (St' := iprop((inIdle d i inb_S2_S1_0 q₀ X 0 ∗ inIdle d i inb_S2_S1_1 q₁ X 1 ∗ outRows d i X f₀ 0 47 48
      ∗ outFly d i inb_S2_S1_1 X 1 (2 * 47 + 1) ∗ outRows d i X f₀ 1 47 48) ∗ tick d i O W ∗ outFly d i inb_S2_S1_0 X 0 (2 * 47 + 0)))
      (out_wait d i ?_) (by ac_rfl)
    refine reorder (St' := iprop((inIdle d i inb_S2_S1_0 q₀ X 0 ∗ inIdle d i inb_S2_S1_1 q₁ X 1 ∗ outReady d i inb_S2_S1_0 X f₀ 0 48
      ∗ outRows d i X f₀ 1 47 48) ∗ tick d i O W ∗ outFly d i inb_S2_S1_1 X 1 (2 * 47 + 1)))
      (out_wait d i (twp_ret d i (Entails.of_eq ?_))) ?_
    · unfold after
      rw [← outSlot_landed d i (t := 47) inb_S2_S1_1 (by decide : 1 < 2)]
      ac_rfl
    · rw [← outSlot_landed d i (t := 47) inb_S2_S1_0 (by decide : 0 < 2)]
      ac_rfl

end Task

end Cert.Proof.Pool
-- ==== Proof.TileBody.lean ====
/-
  The obligation of a task under the launch: its scratch buffers and semaphores come out of what its subcore owns, and go
  back there.
-/
module

public import proofs.«01_k».proof.Proof.Tile

@[expose] public section

noncomputable section

namespace Cert.Proof.Pool

open Cert.KernelIdeal Cert.KernelIdeal.Gen

open Idealize.ShloMosaic Idealize.ShloMosaic.Transfers
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

section Task

variable (d : Dev nD) (i : grid0.Coords) {q₀ q₁ : PosShare TreeShare} {X : S169x1024x768.Idx → F .f32} {f₀ : S49x1024x768.Idx → F .f32}
  {O : CellTallies nD τ sig (HIx 1)} {W : Waits sig (HIx 1)}

attribute [local irreducible] wp in
/-- A task, from the result scratch at any contents. -/
theorem task_run : iprop(before d i q₀ q₁ X f₀ O W ∗ ∃ f : S2x49x256.Idx → F .f32, bufO.view.loc (thr d i) ↦[Finset.univ]{fullShare} f)
    ⊢ twp d i (cc0__sc_pool_body i inM (Memref.isWhole_whole _) outM (Memref.isWhole_whole _)
        bufI (Memref.isWhole_whole _) bufO (Memref.isWhole_whole _) cc0_scratch2 cc0_scratch3) fun _ => after d i q₀ q₁ X f₀ O W := by
  refine BIBase.Entails.trans ?_ (body_zero d i fun v1 x1 x2 x3 x4 => tail_run d i v1 x1 x2 x3 x4)
  unfold zeroing heldO
  iintro ⟨H, %f, Hb⟩
  isplitl [H]; · iexact H
  iexists f
  isplitr
  · ipureintro
    rintro y - hy
    exfalso
    unfold zeroDone at hy
    omega
  · iexact Hb

/-! ## What a subcore owns -/

/-- The four cells of a task's copies. -/
abbrev cell (d : Dev nD) (i : grid0.Coords) (s : DmaSem sig) : GSem nD τ sig := (thr d i, .dma s)
abbrev sIn0 : DmaSem sig := semAt cc0_scratch2 inb_S2_S1_0
abbrev sIn1 : DmaSem sig := semAt cc0_scratch2 inb_S2_S1_1
abbrev sOut0 : DmaSem sig := semAt cc0_scratch3 inb_S2_S1_0
abbrev sOut1 : DmaSem sig := semAt cc0_scratch3 inb_S2_S1_1

theorem cell_mem {s : DmaSem sig} (h : (SemLoc.dma s : SemLoc sig).isScoped .scVector = true) : cell d i s ∈ ownCells (thr d i) :=
  mem_ownCells.mpr ⟨rfl, h⟩

theorem cell_ne {s s' : DmaSem sig} (h : s ≠ s') : cell d i s ≠ cell d i s' := fun e => h (SemLoc.dma.inj (Prod.mk.inj e).2)

/-- The cells are among the subcore's own, apart from one another. -/
theorem ownSems0_V : (ownSems0 (thr d i) : Asrt F)
    = iprop(semVal (cell d i sIn0) 0 ∗ semVal (cell d i sIn1) 0 ∗ semVal (cell d i sOut0) 0 ∗ semVal (cell d i sOut1) 0
      ∗ bigSep (((((ownCells (thr d i)).erase (cell d i sIn0)).erase (cell d i sIn1)).erase (cell d i sOut0)).erase (cell d i sOut1))
          fun g => semVal g 0) := by
  unfold SparseCore.Cfg.ownSems0
  rw [SparseCore.bigSep_erase' (cell_mem d i (s := sIn0) (by decide)),
    SparseCore.bigSep_erase' (Finset.mem_erase.mpr ⟨cell_ne d i (by decide), cell_mem d i (s := sIn1) (by decide)⟩),
    SparseCore.bigSep_erase' (Finset.mem_erase.mpr ⟨cell_ne d i (by decide), Finset.mem_erase.mpr ⟨cell_ne d i (by decide),
      cell_mem d i (s := sOut0) (by decide)⟩⟩),
    SparseCore.bigSep_erase' (Finset.mem_erase.mpr ⟨cell_ne d i (by decide), Finset.mem_erase.mpr ⟨cell_ne d i (by decide),
      Finset.mem_erase.mpr ⟨cell_ne d i (by decide), cell_mem d i (s := sOut1) (by decide)⟩⟩⟩)]

/-- So are the two scratch buffers, each at some contents. -/
theorem ownBufs_V : (ownBufs (thr d i) : Asrt F)
    = iprop((∃ f : S2x169x256.Idx → F .f32, bufI.view.loc (thr d i) ↦[Finset.univ]{fullShare} f)
      ∗ (∃ f : S2x49x256.Idx → F .f32, bufO.view.loc (thr d i) ↦[Finset.univ]{fullShare} f)
      ∗ bigSep (((ownRefs (τ := τ) (.scVector (cV i) (jV i))).erase ((Proc.scVector (cV i) (jV i)).devRef cc0_scratch0)).erase
          ((Proc.scVector (cV i) (jV i)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := Proc.scVector (cV i) (jV i)) (b := (Proc.scVector (cV i) (jV i)).devRef cc0_scratch1) rfl⟩)]
  rfl

/-! ## The obligation -/

/-- A task's share of the input, in two, and its rows of the result at `f`. -/
def hands (d : Dev nD) (i : grid0.Coords) (q₀ q₁ : PosShare TreeShare) (X : S169x1024x768.Idx → F .f32) (f : S49x1024x768.Idx → F .f32) : Asrt F :=
  iprop(((inM.view.loc (thr d i) ↦[Finset.univ]{q₀} X) ∗ inM.view.loc (thr d i) ↦[Finset.univ]{q₁} X)
    ∗ outM.view.loc (thr d i) ↦[tileRows i]{fullShare} f)

theorem close_in : iprop(inIdle d i inb_S2_S1_0 q₀ X 0 ∗ inIdle d i inb_S2_S1_1 q₁ X 1)
    ⊢ iprop(((inM.view.loc (thr d i) ↦[Finset.univ]{q₀} X) ∗ inM.view.loc (thr d i) ↦[Finset.univ]{q₁} X)
      ∗ (semVal (cell d i sIn0) 0 ∗ semVal (cell d i sIn1) 0)
      ∗ ∃ f : S2x169x256.Idx → F .f32, (bufI.view.loc (thr d i) ↦[Finset.univ]{fullShare} f : Asrt F)) := by
  unfold inIdle
  iintro ⟨⟨Hx0, Hs0, %f, Hb0⟩, ⟨Hx1, Hs1, %g, Hb1⟩⟩
  isplitl [Hx0 Hx1]
  · isplitl [Hx0] <;> iassumption
  isplitl [Hs0 Hs1]
  · isplitl [Hs0] <;> iassumption
  iapply (bufI_join d i f g)
  isplitl [Hb0] <;> iassumption

theorem close_out : iprop(outReady d i inb_S2_S1_0 X f₀ 0 48 ∗ outReady d i inb_S2_S1_1 X f₀ 1 48)
    ⊢ iprop((outM.view.loc (thr d i) ↦[tileRows i]{fullShare} outOf X)
      ∗ (semVal (cell d i sOut0) 0 ∗ semVal (cell d i sOut1) 0)
      ∗ ∃ f : S2x49x256.Idx → F .f32, (bufO.view.loc (thr d i) ↦[Finset.univ]{fullShare} f : Asrt F)) := by
  unfold outReady outIdle heldO
  iintro ⟨⟨⟨⟨%f, -, Hb0⟩, Hs0⟩, Hr0⟩, ⟨⟨%g, -, Hb1⟩, Hs1⟩, Hr1⟩
  isplitl [Hr0 Hr1]
  · iapply (Entails.of_eq (rows_end d i (X := X) (f₀ := f₀)))
    isplitl [Hr0] <;> iassumption
  isplitl [Hs0 Hs1]
  · isplitl [Hs0] <;> iassumption
  iapply (bufO_join d i f g)
  isplitl [Hb0] <;> iassumption

attribute [local irreducible] wp in
/-- The task of the launch: shares and rows in, the same out with the rows at the kernel's result; the scratch and the
    semaphores, at zero, go back to the subcore. -/
theorem tile_body (hF : (K (F := F)).Facts) (hO : ∀ g, O g none = 0) :
    iprop(levAts (K (F := F)).L (K (F := F)).lev ∗ emp ∗ hands d i q₀ q₁ X f₀
        ∗ scopedBufs (thr d i) ∗ scopedSems0 (thr d i) ∗ owes (thr d i) O W)
      ⊢ twp d i (cc0__sc_pool_body i inM (Memref.isWhole_whole _) outM (Memref.isWhole_whole _)
          bufI (Memref.isWhole_whole _) bufO (Memref.isWhole_whole _) cc0_scratch2 cc0_scratch3)
          fun _ => iprop(hands d i q₀ q₁ X (outOf X) ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_V, ownBufs_V]
  generalize hB : (bigSep (((ownRefs (τ := τ) (.scVector (cV i) (jV i))).erase ((Proc.scVector (cV i) (jV i)).devRef cc0_scratch0)).erase
          ((Proc.scVector (cV i) (jV i)).devRef cc0_scratch1)) fun b => iprop(∃ f, ((d, b) : Loc nD τ sig) ↦{fullShare} f) : Asrt F) = RB
  generalize hS : (bigSep (((((ownCells (thr d i)).erase (cell d i sIn0)).erase (cell d i sIn1)).erase (cell d i sOut0)).erase (cell d i sOut1))
          fun g => semVal g 0 : Asrt F) = RS
  refine BIBase.Entails.trans ?_ (BIBase.Entails.trans (wp_frame_r _ _ _ (R := iprop(RB ∗ RS)))
    (wp_mono _ _ _ (Q := fun _ => iprop(after d i q₀ q₁ X f₀ O W ∗ RB ∗ RS)) fun _ => ?_))
  · iintro ⟨#Hlv, -, H, ⟨⟨%fi, Hbi⟩, Hbo, HB⟩, ⟨Hs0, Hs1, Hs2, Hs3, HS⟩, HO⟩
    isplitr [HB HS]
    · iapply (task_run d i (q₀ := q₀) (q₁ := q₁) (X := X) (f₀ := f₀) (O := O) (W := W))
      unfold before hands
      icases H with ⟨⟨Hx0, Hx1⟩, Hr⟩
      isplitr [Hbo]
      · isplitl [HO]
        · unfold tick
          isplitr
          · iapply ((K (F := F)).mayWaits_none (thr := thr d i) hO)
            iexact Hlv
          · iexists W
            isplitr
            · ipureintro; exact fun p hp => .inl hp
            · iexact HO
        ihave Hbi' := (Entails.of_eq (bufI_split d i fi)) $$ Hbi
        icases Hbi' with ⟨Hb0, Hb1⟩
        unfold inIdle
        isplitl [Hx0 Hs0 Hb0]
        · isplitl [Hx0]; · iexact Hx0
          isplitl [Hs0]; · iexact Hs0
          iexists fi; iexact Hb0
        isplitl [Hx1 Hs1 Hb1]
        · isplitl [Hx1]; · iexact Hx1
          isplitl [Hs1]; · iexact Hs1
          iexists fi; iexact Hb1
        isplitl [Hs2]; · iexact Hs2
        isplitl [Hs3]; · iexact Hs3
        iexact Hr
      · iexact Hbo
    · isplitl [HB] <;> iassumption
  · unfold after tick hands
    iintro ⟨⟨⟨-, HO⟩, H0, H1, Ho0, Ho1⟩, HB, HS⟩
    ihave Hi := (close_in d i (q₀ := q₀) (q₁ := q₁) (X := X)) $$ [H0 H1]
    · isplitl [H0] <;> iassumption
    ihave Ho := (close_out d i (X := X) (f₀ := f₀)) $$ [Ho0 Ho1]
    · isplitl [Ho0] <;> iassumption
    icases Hi with ⟨Hx, ⟨Hs0, Hs1⟩, Hbi⟩
    icases Ho with ⟨Hr, ⟨Hs2, Hs3⟩, Hbo⟩
    isplitl [Hx Hr]
    · isplitl [Hx] <;> iassumption
    isplitl [Hbi Hbo HB]
    · isplitl [Hbi]; · iexact Hbi
      isplitl [Hbo] <;> iassumption
    isplitl [Hs0 Hs1 Hs2 Hs3 HS]
    · isplitl [Hs0]; · iexact Hs0
      isplitl [Hs1]; · iexact Hs1
      isplitl [Hs2]; · iexact Hs2
      isplitl [Hs3] <;> iassumption
    iexact HO

end Task

end Cert.Proof.Pool
-- ==== Proof.Launch.lean ====
/-
  The launch of the kernel's one call: how the input and the result are dealt to the two SparseCores and their sixteen
  tiles each, and collected again.
-/
module

public import proofs.«01_k».proof.Proof.TileBody
public import Idealize.ShloMosaic.Lib.Pipeline.Kit

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

abbrev 𝒱 : Variants := 𝒱₀.lift
abbrev v₀ : 𝒱.V := Sum.inl none

/-- Where the rounds of the handshakes live. -/
abbrev EH : Emb UH (MT nD τ sig (HIx 1) (Elt F) ℕ UU ℕ) := embL

/-- The call's semaphores are its own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-- Task `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same, from the numbers the call counts by. -/
abbrev task (c : Fin 2) (s : Fin 16) : grid0.Coords := coordsV c s

theorem wid_task (c : Fin 2) (s : Fin 16) : wid (task c s) = 2 * s.val + c.val := rfl

/-! ## Dealing -/

/-- The kernel's input and result, as the TensorCore names them. -/
abbrev inLoc (d : Dev nD) : Loc nD τ sig := (SparseCore.T d).loc main_v1
abbrev outLoc (d : Dev nD) : Loc nD τ sig := (SparseCore.T d).loc main_v2

/-- The share of the input of a SparseCore, of a task, and of a slot of a task. -/
def shC (c : Fin 2) : PosShare TreeShare := Transfers.dealOf fullShare Finset.univ c
def shT (c : Fin 2) (s : Fin 16) : PosShare TreeShare := Transfers.dealOf (shC c) Finset.univ s
def shS (c : Fin 2) (s : Fin 16) (k : Fin 2) : PosShare TreeShare := Transfers.dealOf (shT c s) Finset.univ k

/-- The rows of a SparseCore are those of its tasks. -/
def coreRows (c : Fin 2) : Finset S49x1024x768.Idx := Finset.univ.biUnion fun s : Fin 16 => tileRows (task c s)

theorem mem_coreRows {c : Fin 2} {y : S49x1024x768.Idx} : y ∈ coreRows c ↔ (y 1).val / 32 % 2 = c.val := by
  have hy : (y 1).val < 1024 := (y 1).isLt
  have hc := c.isLt
  unfold coreRows
  simp only [Finset.mem_biUnion, Finset.mem_univ, true_and, mem_tileRows, wid_task]
  constructor
  · rintro ⟨s, hs⟩
    omega
  · intro h
    exact ⟨⟨(y 1).val / 32 / 2, by omega⟩, by show _ = 2 * ((y 1).val / 32 / 2) + c.val; omega⟩

theorem tiles_disjoint (c : Fin 2) : ∀ s ∈ (Finset.univ : Finset (Fin 16)), ∀ s' ∈ (Finset.univ : Finset (Fin 16)), s ≠ s' →
    Disjoint (tileRows (task c s)) (tileRows (task c s')) := by
  intro s _ s' _ h
  rw [Finset.disjoint_left]
  intro y h1 h2
  rw [mem_tileRows, wid_task] at h1 h2
  exact h (Fin.ext (by omega))

theorem cores_disjoint : ∀ c ∈ (Finset.univ : Finset (Fin 2)), ∀ c' ∈ (Finset.univ : Finset (Fin 2)), c ≠ c' →
    Disjoint (coreRows c) (coreRows c') := by
  intro c _ c' _ h
  rw [Finset.disjoint_left]
  intro y h1 h2
  rw [mem_coreRows] at h1 h2
  exact h (Fin.ext (by omega))

theorem cores_cover : (Finset.univ : Finset (Fin 2)).biUnion coreRows = Finset.univ := by
  ext y
  simp only [Finset.mem_biUnion, Finset.mem_univ, true_and, iff_true, mem_coreRows]
  exact ⟨⟨(y 1).val / 32 % 2, by omega⟩, rfl⟩

variable [FloatOps F]

/-- What the call gives SparseCore `c`: its share of the input at `X`, its rows of the result at `f`. -/
def coreHands (d : Dev nD) (c : Fin 2) (X : S169x1024x768.Idx → F .f32) (f : S49x1024x768.Idx → F .f32) : Asrt F :=
  iprop((inLoc d ↦{shC c} X) ∗ outLoc d ↦[coreRows c]{fullShare} f)

/-- What a SparseCore gives task `s`. -/
def taskHands (d : Dev nD) (c : Fin 2) (s : Fin 16) (X : S169x1024x768.Idx → F .f32) (f : S49x1024x768.Idx → F .f32) : Asrt F :=
  hands d (task c s) (shS c s 0) (shS c s 1) X f

theorem shares_two (d : Dev nD) (c : Fin 2) (s : Fin 16) (X : S169x1024x768.Idx → F .f32) :
    (inLoc d ↦{shT c s} X : Asrt F) = iprop((inLoc d ↦{shS c s 0} X) ∗ inLoc d ↦{shS c s 1} X) := by
  rw [Transfers.pointsTo_deal (Finset.univ : Finset (Fin 2)) ⟨0, Finset.mem_univ _⟩,
    show (Finset.univ : Finset (Fin 2)) = {0, 1} by decide, SparseCore.bigSep_insert' (by decide), bigSep_singleton]
  rfl

/-- A SparseCore's part is its sixteen tasks' parts, whatever the result holds. -/
theorem core_tasks (d : Dev nD) (c : Fin 2) (X : S169x1024x768.Idx → F .f32) (f : S49x1024x768.Idx → F .f32) :
    coreHands d c X f = bigSep Finset.univ fun s : Fin 16 => taskHands d c s X f := by
  have e : ∀ s : Fin 16, taskHands d c s X f
      = iprop((inLoc d ↦{shT c s} X) ∗ outLoc d ↦[tileRows (task c s)]{fullShare} f) := fun s => by
    rw [shares_two]; rfl
  unfold coreHands coreRows
  rw [Transfers.pointsTo_deal (Finset.univ : Finset (Fin 16)) ⟨0, Finset.mem_univ _⟩ (shC c),
    pointsTo_biUnion Finset.univ (ℓ := outLoc d) (fun s => tileRows (task c s)) (tiles_disjoint c), ← bigSep_sep']
  exact bigSep_congr fun s _ => (e s).symm

/-- The arrays whole are the two SparseCores' parts. -/
theorem arrays_cores (d : Dev nD) (X : S169x1024x768.Idx → F .f32) (f : S49x1024x768.Idx → F .f32) :
    (iprop((inLoc d ↦{fullShare} X) ∗ outLoc d ↦{fullShare} f) : Asrt F)
      = bigSep Finset.univ fun c : Fin 2 => coreHands d c X f := by
  have e : (outLoc d ↦{fullShare} f : Asrt F) = bigSep Finset.univ fun c : Fin 2 => outLoc d ↦[coreRows c]{fullShare} f := by
    rw [← pointsTo_biUnion Finset.univ (ℓ := outLoc d) coreRows cores_disjoint, cores_cover]; try rfl
  rw [e, Transfers.pointsTo_deal (Finset.univ : Finset (Fin 2)) ⟨0, Finset.mem_univ _⟩ fullShare, ← bigSep_sep']
  rfl

/-! ## The payloads -/

variable (m : (ℓ : Loc nD τ sig) → Buf (Elt F) ℓ) (ρ : Dev nD → PrngReg)

/-- The argument array, as the TensorCore names it. -/
abbrev argLoc (d : Dev nD) : Loc nD τ sig := (SparseCore.T d).loc main_arg0

/-- The kernel's input from the argument: the grid's two axes in front, and flattened. -/
def midOf (x : S1024x768x13x13.Idx → F .f32) : S169x1024x768.Idx → F .f32 :=
  shapeCast S169x1024x768 (transpose S13x13x1024x768 [2, 3, 0, 1] x transposes_S1024x768x13x13_S13x13x1024x768_2_3_0_1)
    shapeCasts_S13x13x1024x768_S169x1024x768

/-- The call's payloads: SparseCores and tasks get their parts with the result at its launch contents, and give them back
    with the result computed. -/
def P : (K (F := F)).Pay (nD := nD) (Val := Elt F) (Name := ℕ) (U := UU) where
  st := fun q d c => match q with | 0 => coreHands d (Fin.cast nCore_zero c) (midOf (m (argLoc d))) (m (outLoc d))
  dn := fun q d c => match q with | 0 => coreHands d (Fin.cast nCore_zero c) (midOf (m (argLoc d))) (outOf (midOf (m (argLoc d))))
  go := fun q d c s => match q with
    | 0 => taskHands d (Fin.cast nCore_zero c) (Fin.cast nSub_zero s) (midOf (m (argLoc d))) (m (outLoc d))
  td := fun q d c s => match q with
    | 0 => taskHands d (Fin.cast nCore_zero c) (Fin.cast nSub_zero s) (midOf (m (argLoc d))) (outOf (midOf (m (argLoc d))))
  x := fun _ _ => iprop(emp)

instance coreHands_storable (d : Dev nD) (c : Fin 2) (X : S169x1024x768.Idx → F .f32) (f : S49x1024x768.Idx → F .f32) :
    BI.Storable (upEmb : UEmb _ 𝕄) (coreHands d c X f) := by
  unfold coreHands; infer_instance
instance taskHands_storable (d : Dev nD) (c : Fin 2) (s : Fin 16) (X : S169x1024x768.Idx → F .f32) (f : S49x1024x768.Idx → F .f32) :
    BI.Storable (upEmb : UEmb _ 𝕄) (taskHands d c s X f) := by
  unfold taskHands hands; infer_instance

instance P_storable : (P (F := F) m).IsStorable where
  st q d c := match q with | 0 => by unfold P; infer_instance
  dn q d c := match q with | 0 => by unfold P; infer_instance
  go q d c s := match q with | 0 => by unfold P; infer_instance
  td q d c s := match q with | 0 => by unfold P; infer_instance

/-! ## The launch's obligations -/

theorem defs₀_vector (c : Fin τ.nSC) (s : Fin τ.nSub) :
    defs₀ (F := F) (.scVector c s) 0 ()
      = SparseCore.onTile hcore0 hsub0 (fun c s => cc0__sc_pool_body (coordsV c s)
          inM (Memref.isWhole_whole _) outM (Memref.isWhole_whole _)
          bufI (Memref.isWhole_whole _) bufO (Memref.isWhole_whole _) cc0_scratch2 cc0_scratch3) ⟨⟩ c s := rfl

theorem obl_post {thr : Thread nD τ} {A B C : Asrt F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; exact fun p hp => (hW p hp).imp_right .inl
  · iexact HO

attribute [local irreducible] wp in
set_option maxRecDepth 100000 in
/-- Every task of the call meets its obligation. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF hO).trans (wp_mono frame _ _ fun _ => obl_post)

theorem bigSep_tasks (Φ : Fin 16 → Asrt F) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → Asrt F) :
    (bigSep Finset.univ fun c : Fin ((K (F := F)).nCore 0) => Φ (Fin.cast nCore_zero c)) = bigSep Finset.univ Φ :=
  bigSep_congr fun _ _ => congrArg Φ (Fin.ext rfl)

/-- A SparseCore deals its part to its tasks and collects it. -/
theorem vecSplit : (K (F := F)).VecSplit' (P m) 0 := by
  intro d c
  show coreHands d (Fin.cast nCore_zero c) (midOf (m (argLoc d))) (m (outLoc d)) ⊢ |={Set.univ}=> iprop(
      (bigSep Finset.univ fun s : Fin ((K (F := F)).nSub 0) =>
        taskHands d (Fin.cast nCore_zero c) (Fin.cast nSub_zero s) (midOf (m (argLoc d))) (m (outLoc d)))
      ∗ ((bigSep Finset.univ fun s : Fin ((K (F := F)).nSub 0) =>
          taskHands d (Fin.cast nCore_zero c) (Fin.cast nSub_zero s) (midOf (m (argLoc d))) (outOf (midOf (m (argLoc d)))))
        -∗ coreHands d (Fin.cast nCore_zero c) (midOf (m (argLoc d))) (outOf (midOf (m (argLoc d))))))
  rw [bigSep_tasks (fun s => taskHands d (Fin.cast nCore_zero c) s (midOf (m (argLoc d))) (m (outLoc d))),
    bigSep_tasks (fun s => taskHands d (Fin.cast nCore_zero c) s (midOf (m (argLoc d))) (outOf (midOf (m (argLoc d))))),
    ← core_tasks, ← core_tasks]
  iintro H
  imodintro
  isplitl [H]; · iexact H
  iintro H
  iexact H

/-! ## The launch element -/

/-- The handshakes' rounds; no counter yet. -/
def u₀ : UU := (initOf (K (F := F)).hsCells (K (F := F)).hsToks, 1)

theorem bigSep_emp' {I : Type} (s : Finset I) : (bigSep s fun _ => iprop(emp)) = (iprop(emp) : Asrt F) := bigSep_emp_const s

theorem hu₀ : (ownU (u₀ (F := F)) : Asrt F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : (bigSep Finset.univ fun thr : Thread nD τ => bigSep Finset.univ fun q : Fin 1 => (P m).x q thr) = (iprop(emp) : Asrt F) := by
    show (bigSep Finset.univ fun _ : Thread nD τ => bigSep Finset.univ fun _ : Fin 1 => (iprop(emp) : Asrt F)) = iprop(emp)
    rw [bigSep_congr fun _ _ => bigSep_emp' _, bigSep_emp']
  rw [e, bigSep_emp']
  unfold u₀
  iintro Hu
  ihave H := (ownU_pair _ _) $$ Hu
  icases H with ⟨HH, -⟩
  imodintro
  isplitl [HH]; · iexact HH
  isplitr <;> iempintro

end Cert.Proof.Pool
-- ==== Proof.Main.lean ====
/-
  The run of the whole program: the two re-layings before the call, the call, the two after it.
-/
module

public import proofs.«01_k».proof.Proof.Launch

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The result array, as the TensorCore names it, and its value from the argument: the kernel's rows as a 7 × 7 grid,
    and the grid's two axes at the back. -/
abbrev resLoc (d : Dev nD) : Loc nD τ sig := (SparseCore.T d).loc main_v4

def resOf (x : S1024x768x13x13.Idx → F .f32) : S1024x768x7x7.Idx → F .f32 :=
  transpose S1024x768x7x7 [2, 3, 0, 1] (shapeCast S7x7x1024x768 (outOf (midOf x)) shapeCasts_S49x1024x768_S7x7x1024x768)
    transposes_S7x7x1024x768_S1024x768x7x7_2_3_0_1

/-! ## The arrays of the TensorCore -/

abbrev aRef : DevRef τ sig := Proc.devRef .tc (main_arg0 : Ref sig .tc)
abbrev bRef : DevRef τ sig := Proc.devRef .tc (main_v0 : Ref sig .tc)
abbrev iRef : DevRef τ sig := Proc.devRef .tc (main_v1 : Ref sig .tc)
abbrev oRef : DevRef τ sig := Proc.devRef .tc (main_v2 : Ref sig .tc)
abbrev gRef : DevRef τ sig := Proc.devRef .tc (main_v3 : Ref sig .tc)
abbrev rRef : DevRef τ sig := Proc.devRef .tc (main_v4 : Ref sig .tc)

abbrev SA : Finset (DevRef τ sig) := {aRef, bRef, iRef, oRef, gRef, rRef}

/-- The four host operations. -/
abbrev op1 : HloOp τ sig (Elt F) := StableHlo.unary main_arg0 main_v0 ((transpose S13x13x1024x768 [2, 3, 0, 1] · transposes_S1024x768x13x13_S13x13x1024x768_2_3_0_1) : (⟨S1024x768x13x13, .f32⟩ : BufTy).Contents (Elt F) → (⟨S13x13x1024x768, .f32⟩ : BufTy).Contents (Elt F))
abbrev op2 : HloOp τ sig (Elt F) := StableHlo.reshape main_v0 main_v1 (rfl : (.f32 : EltTy) = .f32) shapeCasts_S13x13x1024x768_S169x1024x768
abbrev op3 : HloOp τ sig (Elt F) := StableHlo.reshape main_v2 main_v3 (rfl : (.f32 : EltTy) = .f32) shapeCasts_S49x1024x768_S7x7x1024x768
abbrev op4 : HloOp τ sig (Elt F) := StableHlo.unary main_v3 main_v4 ((transpose S1024x768x7x7 [2, 3, 0, 1] · transposes_S7x7x1024x768_S1024x768x7x7_2_3_0_1) : (⟨S7x7x1024x768, .f32⟩ : BufTy).Contents (Elt F) → (⟨S1024x768x7x7, .f32⟩ : BufTy).Contents (Elt F))

/-- The arrays at the launch, before the call, after it, and at the end. -/
def V0 (d : Dev nD) : Valuation τ sig (Elt F) := fun b => m (d, b)
def V2 (d : Dev nD) : Valuation τ sig (Elt F) := (op2 (F := F)).result ((op1 (F := F)).result (V0 m d))
def V3 (d : Dev nD) : Valuation τ sig (Elt F) := Function.update (V2 m d) oRef (outOf (midOf (m (argLoc d))))
def V5 (d : Dev nD) : Valuation τ sig (Elt F) := (op4 (F := F)).result ((op3 (F := F)).result (V3 m d))

theorem V2_in (d : Dev nD) : V2 m d iRef = midOf (m (argLoc d)) := by
  unfold V2
  rw [StableHlo.reshape_result, StableHlo.unary_result]
  rfl

theorem V2_out (d : Dev nD) : V2 m d oRef = m (outLoc d) := by
  unfold V2
  rw [StableHlo.reshape_result_ne _ _ _ _ _ _ _ (by decide), StableHlo.unary_result_ne _ _ _ _ _ _ (by decide)]
  rfl

theorem V3_of_ne (d : Dev nD) {b : DevRef τ sig} (h : b ≠ oRef) : V3 m d b = V2 m d b := Function.update_of_ne h _ _
theorem V3_out (d : Dev nD) : V3 m d oRef = outOf (midOf (m (argLoc d))) := Function.update_self _ _ _

theorem V5_arg (d : Dev nD) : V5 m d aRef = m (argLoc d) := by
  unfold V5
  rw [StableHlo.unary_result_ne _ _ _ _ _ _ (by decide), StableHlo.reshape_result_ne _ _ _ _ _ _ _ (by decide), V3_of_ne m d (by decide)]
  unfold V2
  rw [StableHlo.reshape_result_ne _ _ _ _ _ _ _ (by decide), StableHlo.unary_result_ne _ _ _ _ _ _ (by decide)]
  rfl

theorem V5_res (d : Dev nD) : V5 m d rRef = resOf (m (argLoc d)) := by
  unfold V5
  rw [StableHlo.unary_result, StableHlo.reshape_result, V3_out]
  rfl

/-- Two arrays out of those held. -/
theorem held_two (d : Dev nD) (S : Finset (DevRef τ sig)) (V : Valuation τ sig (Elt F)) {b b' : DevRef τ sig} (hb : b ∈ S) (hb' : b' ∈ S) (h : b' ≠ b) :
    (held (T d) S V : Asrt F) = iprop((((d, b) : Loc nD τ sig) ↦{fullShare} V b) ∗ (((d, b') : Loc nD τ sig) ↦{fullShare} V b')
      ∗ held (T d) ((S.erase b).erase b') V) := by
  unfold held
  rw [SparseCore.bigSep_erase' hb, SparseCore.bigSep_erase' (Finset.mem_erase.mpr ⟨h, hb'⟩)]

theorem held_congr (d : Dev nD) (S : Finset (DevRef τ sig)) {V V' : Valuation τ sig (Elt F)} (h : ∀ b ∈ S, V b = V' b) :
    (held (T d) S V : Asrt F) = held (T d) S V' := by
  unfold held
  exact bigSep_congr fun b hb => by rw [h b hb]

theorem unscoped_held (d : Dev nD) : (unscopedBufs d (fun b => m ((SparseCore.T d).loc b)) : Asrt F) = held (T d) SA (V0 m d) := by
  unfold unscopedBufs held SA
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton,
    SparseCore.bigSep_insert' (by decide), SparseCore.bigSep_insert' (by decide), SparseCore.bigSep_insert' (by decide),
    SparseCore.bigSep_insert' (by decide), SparseCore.bigSep_insert' (by decide), bigSep_singleton]
  rfl

/-- Before the call: the input, at its value; the result, at its launch contents; the others. -/
theorem held_before (d : Dev nD) : (held (T d) SA (V2 m d) : Asrt F)
    = iprop((inLoc d ↦{fullShare} midOf (m (argLoc d))) ∗ (outLoc d ↦{fullShare} m (outLoc d)) ∗ held (T d) ((SA.erase iRef).erase oRef) (V2 m d)) := by
  rw [held_two d SA (V2 m d) (b := iRef) (b' := oRef) (by decide) (by decide) (by decide), V2_in, V2_out]

theorem held_after (d : Dev nD) : (held (T d) SA (V3 m d) : Asrt F)
    = iprop((inLoc d ↦{fullShare} midOf (m (argLoc d))) ∗ (outLoc d ↦{fullShare} outOf (midOf (m (argLoc d)))) ∗ held (T d) ((SA.erase iRef).erase oRef) (V2 m d)) := by
  rw [held_two d SA (V3 m d) (b := iRef) (b' := oRef) (by decide) (by decide) (by decide), V3_out, V3_of_ne m d (by decide), V2_in,
    held_congr d ((SA.erase iRef).erase oRef) (V' := V2 m d) fun b hb => V3_of_ne m d (Finset.mem_erase.mp hb).1]

/-- What the program leaves: the argument as it was, the result at its value. -/
abbrev FIN (d : Dev nD) : Asrt F := iprop((argLoc d ↦{fullShare} m (argLoc d)) ∗ resLoc d ↦{fullShare} resOf (m (argLoc d)))

theorem held_end (d : Dev nD) : (held (T d) SA (V5 m d) : Asrt F)
    = iprop((argLoc d ↦{fullShare} m (argLoc d)) ∗ (resLoc d ↦{fullShare} resOf (m (argLoc d))) ∗ held (T d) ((SA.erase aRef).erase rRef) (V5 m d)) := by
  rw [held_two d SA (V5 m d) (b := aRef) (b' := rRef) (by decide) (by decide) (by decide), V5_arg, V5_res]

theorem st_eq (d : Dev nD) : (bigSep Finset.univ fun c : Fin ((K (F := F)).nCore 0) => (P m).st 0 d c)
    = (iprop((inLoc d ↦{fullShare} midOf (m (argLoc d))) ∗ outLoc d ↦{fullShare} m (outLoc d)) : Asrt F) := by
  rw [arrays_cores, ← bigSep_cores]; rfl

theorem dn_eq (d : Dev nD) : (bigSep Finset.univ fun c : Fin ((K (F := F)).nCore 0) => (P m).dn 0 d c)
    = (iprop((inLoc d ↦{fullShare} midOf (m (argLoc d))) ∗ outLoc d ↦{fullShare} outOf (midOf (m (argLoc d)))) : Asrt F) := by
  rw [arrays_cores, ← bigSep_cores]; rfl

/-! ## The run -/

theorem sub1 : (op1 (F := F)).bufs ⊆ SA := by rw [StableHlo.unary_bufs]; decide
theorem sub2 : (op2 (F := F)).bufs ⊆ SA := by rw [StableHlo.reshape_bufs]; decide
theorem sub3 : (op3 (F := F)).bufs ⊆ SA := by rw [StableHlo.reshape_bufs]; decide
theorem sub4 : (op4 (F := F)).bufs ⊆ SA := by rw [StableHlo.unary_bufs]; decide

/-- The program on a device. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := SA) sub1 (V := V0 m d)) $$ [Hb Hheld]
  · isplitl [Hb] <;> iassumption
  iintro ⟨Hb, Hheld⟩
  rw [wp_ret]; imodintro
  iapply (wp_hlo_within 𝒱 (SparseCore.T d) none Set.univ (op := op2) (S := SA) sub2 (V := (op1 (F := F)).result (V0 m d))) $$ [Hb Hheld]
  · isplitl [Hb] <;> iassumption
  iintro ⟨Hb, Hheld⟩
  rw [wp_ret]; imodintro
  ihave Hh := (Entails.of_eq (show (held (T d) SA ((op2 (F := F)).result ((op1 (F := F)).result (V0 m d))) : Asrt F) = _ from held_before m d)) $$ Hheld
  icases Hh with ⟨Hi, Ho, Hrest⟩
  iapply ((K (F := F)).wp_run (D (F := F)) 𝒱 (EH := EH) (P := P m) κ d 0) $$ [Hst Hi Ho Hb Hrest Hts]
  isplitr; · iexact Hctx
  isplitl [Hst]; · iexact Hst
  isplitl [Hi Ho]
  · rw [st_eq]
    isplitl [Hi] <;> iassumption
  iintro ⟨Hst, Hdn⟩
  ihave Hdn' := (Entails.of_eq (dn_eq m d)) $$ Hdn
  icases Hdn' with ⟨Hi, Ho⟩
  iapply (wp_hlo_within 𝒱 (SparseCore.T d) none Set.univ (op := op3) (S := SA) sub3 (V := V3 m d)) $$ [Hb Hi Ho Hrest]
  · isplitl [Hb]; · iexact Hb
    rw [held_after]
    isplitl [Hi]; · iexact Hi
    isplitl [Ho] <;> iassumption
  iintro ⟨Hb, Hheld⟩
  rw [wp_ret]; imodintro
  iapply (wp_hlo_within 𝒱 (SparseCore.T d) none Set.univ (op := op4) (S := SA) sub4 (V := (op3 (F := F)).result (V3 m d))) $$ [Hb Hheld]
  · isplitl [Hb] <;> iassumption
  iintro ⟨Hb, Hheld⟩
  ihave Hh := (Entails.of_eq (show (held (T d) SA ((op4 (F := F)).result ((op3 (F := F)).result (V3 m d))) : Asrt F) = _ from held_end m d)) $$ Hheld
  icases Hh with ⟨Ha, Hr, -⟩
  rw [wp_ret]; imodintro; imodintro
  isplitl [Hst]; · iexact Hst
  isplitr [Hb Hts]
  · isplitl [Ha] <;> iassumption
  isplitl [Hb] <;> iassumption

/-- What a device's final memory says. -/
def fq (d : Dev nD) (s' : Phys nD τ sig (Elt F)) : Prop :=
  s'.mem.mem (argLoc d) = m (argLoc d) ∧ s'.mem.mem (resLoc d) = resOf (m (argLoc d))

theorem hfin (d : Dev nD) (s' : Phys nD τ sig (Elt F)) : iprop(FIN m d ∗ SI s') ⊢ (⌜fq m d s'⌝ : Asrt F) := by
  have h1 : iprop(FIN m d ∗ SI s') ⊢ (⌜s'.mem.mem (argLoc d) = m (argLoc d)⌝ : Asrt F) := by
    iintro ⟨⟨Ha, -⟩, HSI⟩
    ihave H := (SI_pointsTo_agree (st := s') (ℓ := argLoc d) (I := Finset.univ) (q := fullShare) (f := m (argLoc d))) $$ [HSI Ha]
    · isplitl [HSI] <;> iassumption
    icases H with %h
    ipureintro; exact funext fun i => h i (Finset.mem_univ i)
  have h2 : iprop(FIN m d ∗ SI s') ⊢ (⌜s'.mem.mem (resLoc d) = resOf (m (argLoc d))⌝ : Asrt F) := by
    iintro ⟨⟨-, Hr⟩, HSI⟩
    ihave H := (SI_pointsTo_agree (st := s') (ℓ := resLoc d) (I := Finset.univ) (q := fullShare) (f := resOf (m (argLoc d)))) $$ [HSI Hr]
    · isplitl [HSI] <;> iassumption
    icases H with %h
    ipureintro; exact funext fun i => h i (Finset.mem_univ i)
  refine (persistent_entails_right h1).trans ?_
  iintro ⟨%e1, H⟩
  ihave H2 := h2 $$ H
  icases H2 with %e2
  ipureintro
  exact ⟨e1, e2⟩

/-- What a run of the program ends in: the arguments as they were, the results at their values, the counters at zero. -/
def QC : PUnit × MemSt nD τ sig (Elt F) → Prop := fun r =>
  (∀ c : Dev nD, r.2.mem (argLoc c) = m (argLoc c) ∧ r.2.mem (resLoc c) = resOf (m (argLoc c))) ∧ r.2.sem = fun _ => 0

/-- Every weakly fair run of the program ends there. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool
-- ==== Proof.RefValue.lean ====
/-
  The reference's result is the kernel's: its seven gathers read the seven positions each non-empty cell averages, and
  its scatter writes each average into that cell of an array of zeros.
-/
module

public import proofs.«01_k».proof.Proof.Main
public import proofs.«01_k».proof.Proof.Gen.ReferenceIdeal.Run
public import Idealize.ShloMosaic.Lib.Routing.OpsSet
public import Idealize.ShloMosaic.Lib.ValueIdxCore

@[expose] public section

noncomputable section

namespace Cert.Proof.Pool

open Idealize.ShloMosaic Idealize.ShloMosaic.TcCoe Idealize.SL.Sem Idealize.ShloMosaic.Pipeline
open Cert.ReferenceIdeal Cert.ReferenceIdeal.Gen Cert.ReferenceIdeal.Value

variable {F : FTy → Type} [FloatOps F]

/-! ## The tables of indices -/

/-- A table of 33 numbers as the reference prepares it for indexing: a negative entry would have `n` added, but no
    entry is marked negative. -/
def column (l : Fin 33 → BitVec 32) (n : BitVec 32) : S33x1.Idx → BitVec 32 :=
  broadcastInDim S33x1 ![0] bcast_S33_S33x1_0
    (select (constantI S33 1 0#1) (addi (fun i => l (S33.rowMajor i)) (broadcastInDim S33 ![] bcast_S_S33 (constantI S_ 32 n)))
      (fun i => l (S33.rowMajor i)))

/-- Two such tables side by side: the pair of coordinates of each of the 33 cells. -/
def pairs (l l' : Fin 33 → BitVec 32) (n : BitVec 32) : IVec S33x2 32 :=
  concatenate S33x2 1 [⟨S33x1, column l n⟩, ⟨S33x1, column l' n⟩] concatenates_S33x1_S33x1_S33x2_d1

/-- Row `k` of a prepared table is entry `k`. -/
theorem column_apply (l : Fin 33 → BitVec 32) (n : BitVec 32) (y : S33x1.Idx) : column l n y = l (y 0) := by
  unfold column broadcastInDim select
  unfold Scalar.select
  exact (if_neg (show ¬ ((0#1 : BitVec 1) = 1) by decide)).trans
    (congrArg l (Fin.ext ((Shape.rowMajor_val_one _).trans rfl)))

/-- The index of row `k`, column `c` of the pairs. -/
abbrev pairIdx (k : Fin 33) (c : Fin 2) : S33x2.Idx := fun | ⟨0, _⟩ => k | ⟨1, _⟩ => c

/-- The first coordinate of cell `k`. -/
theorem pairs_fst (l l' : Fin 33 → BitVec 32) (n : BitVec 32) (k : Fin 33) : pairs l l' n (pairIdx k 0) = l k := by
  refine (concatenate_pair_apply_left (s₁ := S33x1) (s₂ := S33x1) (t := S33x2) 1 (column l n) (column l' n) _ _ rfl
    (fun | ⟨0, _⟩ => k | ⟨1, _⟩ => (0 : Fin 1)) (fun b => by fin_cases b <;> rfl)).trans ?_
  rw [column_apply]

/-- The second coordinate of cell `k`. -/
theorem pairs_snd (l l' : Fin 33 → BitVec 32) (n : BitVec 32) (k : Fin 33) : pairs l l' n (pairIdx k 1) = l' k := by
  refine (concatenate_pair_apply_right (s₁ := S33x1) (s₂ := S33x1) (t := S33x2) 1 (column l n) (column l' n) _ _ rfl rfl
    (fun | ⟨0, _⟩ => k | ⟨1, _⟩ => (0 : Fin 1)) (fun b => by fin_cases b <;> simp) rfl).trans ?_
  rw [column_apply]

/-! ## Reading: the gathers -/

/-- The cell of an index (batch, channel, cell). -/
def cellOf (u : S1024x768x33.Idx) : Fin 33 := u 2

/-- The gathers' dimensions, by a short name. -/
abbrev gd : GatherDims S1024x768x13x13 S33x2 S1024x768x33 := gather_S1024x768x13x13_S33x2_S1024x768x33_01_23_n_n_23_1_102476811

/-- The reference's input at batch `b`, channel `c` and row and column numbers `p`, `q` of the grid. -/
abbrev gridIdx (b : Fin 1024) (c : Fin 768) (p q : Fin 13) : S1024x768x13x13.Idx :=
  fun | ⟨0, _⟩ => b | ⟨1, _⟩ => c | ⟨2, _⟩ => p | ⟨3, _⟩ => q

/-- A gather at batch `b`, channel `c` and cell `k` reads the input there at the cell's pair of coordinates, each read
    as a signed number and kept between 0 and 12. -/
theorem gather_apply {α : Type} (x : S1024x768x13x13.Idx → α) (idx : IVec S33x2 32) (y : S1024x768x33.Idx) :
    Host.gather gd x idx y
      = x (gridIdx (y 0) (y 1) ⟨min (idx (pairIdx (cellOf y) 0)).toInt.toNat 12, by omega⟩
          ⟨min (idx (pairIdx (cellOf y) 1)).toInt.toNat 12, by omega⟩) := by
  unfold Host.gather
  congr 1
  funext a
  refine Fin.ext ?_
  show gd.start y idx a + gd.batchCoord y a + gd.offCoord y a = _
  rw [GatherDims.batchCoord_eq_zero _ _ _ (List.not_mem_nil), Nat.add_zero]
  have hsi (c : Fin 2) (hc : c.val < gd.startIndexMap.length) : gd.siIdx y ⟨c.val, hc⟩ = pairIdx (cellOf y) c := by
    funext b; refine Fin.ext ?_
    match b with
    | ⟨0, _⟩ => rfl
    | ⟨1, _⟩ => rfl
  have s0 : gd.start y idx 0 = 0 := by unfold GatherDims.start; rw [dif_neg (by decide)]
  have s1 : gd.start y idx 1 = 0 := by unfold GatherDims.start; rw [dif_neg (by decide)]
  have s2 : gd.start y idx 2 = min (idx (pairIdx (cellOf y) 0)).toInt.toNat 12 := by
    unfold GatherDims.start; rw [dif_pos (by decide)]
    exact congrArg (fun i => min (idx i).toInt.toNat 12) (hsi 0 (by decide))
  have s3 : gd.start y idx 3 = min (idx (pairIdx (cellOf y) 1)).toInt.toNat 12 := by
    unfold GatherDims.start; rw [dif_pos (by decide)]
    exact congrArg (fun i => min (idx i).toInt.toNat 12) (hsi 1 (by decide))
  have o0 : gd.offCoord y 0 = (y 0).val := by unfold GatherDims.offCoord; rw [dif_pos (by decide)]; rfl
  have o1 : gd.offCoord y 1 = (y 1).val := by unfold GatherDims.offCoord; rw [dif_pos (by decide)]; rfl
  have o2 : gd.offCoord y 2 = 0 := by unfold GatherDims.offCoord; rw [dif_neg (by decide)]
  have o3 : gd.offCoord y 3 = 0 := by unfold GatherDims.offCoord; rw [dif_neg (by decide)]
  match a with
  | ⟨0, _⟩ => show gd.start y idx 0 + gd.offCoord y 0 = (y 0).val; rw [s0, o0, Nat.zero_add]
  | ⟨1, _⟩ => show gd.start y idx 1 + gd.offCoord y 1 = (y 1).val; rw [s1, o1, Nat.zero_add]
  | ⟨2, _⟩ => show gd.start y idx 2 + gd.offCoord y 2 = min (idx (pairIdx (cellOf y) 0)).toInt.toNat 12; rw [s2, o2, Nat.add_zero]
  | ⟨3, _⟩ => show gd.start y idx 3 + gd.offCoord y 3 = min (idx (pairIdx (cellOf y) 1)).toInt.toNat 12; rw [s3, o3, Nat.add_zero]

/-! ## Writing: the scatter -/

/-- The scatter's dimensions, by a short name. -/
abbrev sd : ScatterDims S1024x768x7x7 S33x2 S1024x768x33 := scatter_S1024x768x7x7_S33x2_S1024x768x33_01_23_23_1

/-- The value of cell `k` at batch `b` and channel `c` lands at the same batch and channel and at the cell's pair of
    coordinates, and nowhere else. -/
theorem lands_iff (u : S1024x768x33.Idx) (idx : IVec S33x2 32) (y : S1024x768x7x7.Idx) :
    sd.resultIdx? u idx = some y ↔ (u 0).val = (y 0).val ∧ (u 1).val = (y 1).val
      ∧ (idx (pairIdx (cellOf u) 0)).toInt = ((y 2).val : ℤ) ∧ (idx (pairIdx (cellOf u) 1)).toInt = ((y 3).val : ℤ) := by
  rw [Idealize.ShloMosaic.Routing.resultIdx?_eq_some]
  have hsi (c : Fin 2) (hc : c.val < sd.scatterDimsToOperandDims.length) : sd.siIdx u ⟨c.val, hc⟩ = pairIdx (cellOf u) c := by
    funext b; refine Fin.ext ?_
    match b with
    | ⟨0, _⟩ => rfl
    | ⟨1, _⟩ => rfl
  have s0 : sd.start u idx 0 = 0 := by unfold ScatterDims.start; rw [dif_neg (by decide)]
  have s1 : sd.start u idx 1 = 0 := by unfold ScatterDims.start; rw [dif_neg (by decide)]
  have s2 : sd.start u idx 2 = (idx (pairIdx (cellOf u) 0)).toInt := by
    unfold ScatterDims.start; rw [dif_pos (by decide)]
    exact congrArg (fun i => (idx i).toInt) (hsi 0 (by decide))
  have s3 : sd.start u idx 3 = (idx (pairIdx (cellOf u) 1)).toInt := by
    unfold ScatterDims.start; rw [dif_pos (by decide)]
    exact congrArg (fun i => (idx i).toInt) (hsi 1 (by decide))
  have w0 : sd.window u 0 = (u 0).val := by unfold ScatterDims.window; rw [dif_pos (by decide)]; rfl
  have w1 : sd.window u 1 = (u 1).val := by unfold ScatterDims.window; rw [dif_pos (by decide)]; rfl
  have w2 : sd.window u 2 = 0 := by unfold ScatterDims.window; rw [dif_neg (by decide)]
  have w3 : sd.window u 3 = 0 := by unfold ScatterDims.window; rw [dif_neg (by decide)]
  constructor
  · intro h
    have h0 := h 0; have h1 := h 1; have h2 := h 2; have h3 := h 3
    rw [s0, w0] at h0; rw [s1, w1] at h1; rw [s2, w2] at h2; rw [s3, w3] at h3
    exact ⟨by omega, by omega, by simpa using h2, by simpa using h3⟩
  · rintro ⟨h0, h1, h2, h3⟩ a
    match a with
    | ⟨0, _⟩ => show sd.start u idx 0 + (sd.window u 0 : ℤ) = ((y 0).val : ℤ); rw [s0, w0, h0, zero_add]
    | ⟨1, _⟩ => show sd.start u idx 1 + (sd.window u 1 : ℤ) = ((y 1).val : ℤ); rw [s1, w1, h1, zero_add]
    | ⟨2, _⟩ => show sd.start u idx 2 + (sd.window u 2 : ℤ) = ((y 2).val : ℤ); rw [s2, w2, h2]; simp
    | ⟨3, _⟩ => show sd.start u idx 3 + (sd.window u 3 : ℤ) = ((y 3).val : ℤ); rw [s3, w3, h3]; simp

/-! ## The tables agree with the kernel's -/

/-- The coordinates of the seven positions cell `k` averages, in the reference's order. -/
def spots (k : Fin 33) : List (BitVec 32 × BitVec 32) :=
  [(lit0 k, lit1 k), (lit2 k, lit1 k), (lit3 k, lit1 k), (lit0 k, lit4 k), (lit0 k, lit5 k), (lit2 k, lit4 k), (lit2 k, lit5 k)]

/-- They are the positions the kernel averages into the cell the reference writes them to. -/
theorem taps_spots (k : Fin 33) :
    taps (7 * (lit6 k).toInt.toNat + (lit7 k).toInt.toNat) = (spots k).map fun p => 13 * p.1.toInt.toNat + p.2.toInt.toNat := by
  revert k; decide

/-- The coordinates lie on the 13 × 13 grid. -/
theorem spots_lt (k : Fin 33) : ∀ p ∈ spots k, p.1.toInt.toNat ≤ 12 ∧ p.2.toInt.toNat ≤ 12 := by
  revert k; decide

/-- A cell the kernel averages anything into is one of them. -/
theorem cells_all (p q : Fin 7) (h : taps (7 * p.val + q.val) ≠ []) :
    ∃ k : Fin 33, (lit6 k).toInt = (p.val : ℤ) ∧ (lit7 k).toInt = (q.val : ℤ) := by
  revert p q; decide

/-! ## The kernel's result, entry by entry -/

/-- The kernel's own copy of its input holds, at position `13 p + q`, the input's entries at row `p`, column `q`. -/
theorem at3_midOf (x : S1024x768x13x13.Idx → F .f32) (b : Fin 1024) (c : Fin 768) (p q : Fin 13) :
    at3 (midOf x) (13 * p.val + q.val) b.val c.val = x (gridIdx b c p q) := by
  rw [at3, dif_pos ⟨by omega, b.isLt, c.isLt⟩]
  unfold midOf shapeCast
  rw [Shape.reshapeEquiv_eq_of_rowMajor _ (y := (fun | ⟨0, _⟩ => p | ⟨1, _⟩ => q | ⟨2, _⟩ => b | ⟨3, _⟩ => c :
    Cert.KernelIdeal.S13x13x1024x768.Idx))]
  · refine congrArg x (funext fun a => ?_)
    fin_cases a <;> rfl
  · refine (Shape.rowMajor_val_four _).trans ((Shape.rowMajor_val_three _).trans ?_).symm
    show ((13 * p.val + q.val) * 1024 + b.val) * 768 + c.val = ((p.val * 13 + q.val) * 1024 + b.val) * 768 + c.val
    omega

/-- An array of 49 rows seen as 7 × 7: its row and column `(p, q)` is row `7 p + q`. -/
theorem cast_out {α : Type} (X : Cert.KernelIdeal.S49x1024x768.Idx → α)
    (h : Cert.KernelIdeal.S49x1024x768.ShapeCasts Cert.KernelIdeal.S7x7x1024x768) (b : Fin 1024) (c : Fin 768) (p q : Fin 7) :
    shapeCast Cert.KernelIdeal.S7x7x1024x768 X h
        (fun | ⟨0, _⟩ => p | ⟨1, _⟩ => q | ⟨2, _⟩ => b | ⟨3, _⟩ => c)
      = X (fun | ⟨0, _⟩ => (⟨7 * p.val + q.val, by omega⟩ : Fin 49) | ⟨1, _⟩ => b | ⟨2, _⟩ => c) := by
  unfold shapeCast
  refine congrArg X (Shape.reshapeEquiv_eq_of_rowMajor _ ?_)
  refine (Shape.rowMajor_val_three _).trans ((Shape.rowMajor_val_four _).trans ?_).symm
  show ((p.val * 7 + q.val) * 1024 + b.val) * 768 + c.val = ((7 * p.val + q.val) * 1024 + b.val) * 768 + c.val
  omega

/-- An index of the result from its four coordinates. -/
abbrev resIdx (b : Fin 1024) (c : Fin 768) (p q : Fin 7) : S1024x768x7x7.Idx :=
  fun | ⟨0, _⟩ => b | ⟨1, _⟩ => c | ⟨2, _⟩ => p | ⟨3, _⟩ => q

/-- Every index of the result is one. -/
theorem eq_resIdx (y : S1024x768x7x7.Idx) : ∃ b c p q, y = resIdx b c p q :=
  ⟨y 0, y 1, y 2, y 3, funext fun a => by fin_cases a <;> rfl⟩

/-- The 7 × 7 array with its batch and channel axes moved to the front. -/
theorem transpose_out {α : Type} (X : Cert.KernelIdeal.S7x7x1024x768.Idx → α)
    (h : Cert.KernelIdeal.S7x7x1024x768.Transposes [2, 3, 0, 1] S1024x768x7x7) (b : Fin 1024) (c : Fin 768) (p q : Fin 7) :
    transpose S1024x768x7x7 [2, 3, 0, 1] X h (resIdx b c p q) = X (fun | ⟨0, _⟩ => p | ⟨1, _⟩ => q | ⟨2, _⟩ => b | ⟨3, _⟩ => c) := by
  unfold transpose
  refine congrArg X (funext fun a => ?_)
  fin_cases a <;> rfl

/-- The kernel's result at batch `b`, channel `c` and cell `(p, q)`. -/
theorem resOf_apply (x : S1024x768x13x13.Idx → F .f32) (b : Fin 1024) (c : Fin 768) (p q : Fin 7) :
    resOf x (resIdx b c p q) = pooled (fun t => at3 (midOf x) t b.val c.val) (7 * p.val + q.val) := by
  unfold resOf
  refine (transpose_out _ _ b c p q).trans ((cast_out _ _ b c p q).trans ?_)
  unfold outOf
  rfl

/-! ## The two results agree -/

/-- A gather of the reference reads, at cell `k`, the entry the kernel reads at the position numbered
    `13 · (first coordinate) + (second coordinate)`. -/
theorem gather_at3 (x : S1024x768x13x13.Idx → F .f32) (l l' : Fin 33 → BitVec 32) (u : S1024x768x33.Idx)
    (h : (l (cellOf u)).toInt.toNat ≤ 12 ∧ (l' (cellOf u)).toInt.toNat ≤ 12) :
    Host.gather gd x (pairs l l' 13#32) u
      = at3 (midOf x) (13 * (l (cellOf u)).toInt.toNat + (l' (cellOf u)).toInt.toNat) (u 0).val (u 1).val := by
  rw [gather_apply]
  refine Eq.trans ?_ (at3_midOf x (u 0) (u 1) ⟨(l (cellOf u)).toInt.toNat, by omega⟩ ⟨(l' (cellOf u)).toInt.toNat, by omega⟩).symm
  congr 1
  funext a
  refine Fin.ext ?_
  match a with
  | ⟨0, _⟩ => rfl
  | ⟨1, _⟩ => rfl
  | ⟨2, _⟩ =>
    show min (pairs l l' 13#32 (pairIdx (cellOf u) 0)).toInt.toNat 12 = _
    rw [pairs_fst]; exact Nat.min_eq_left h.1
  | ⟨3, _⟩ =>
    show min (pairs l l' 13#32 (pairIdx (cellOf u) 1)).toInt.toNat 12 = _
    rw [pairs_snd]; exact Nat.min_eq_left h.2

/-- The reference's averages, one for each batch, channel and one of the 33 cells. -/
def averages (x : S1024x768x13x13.Idx → Ideal .f32) : S1024x768x33.Idx → Ideal .f32 :=
  mulf (broadcastInDim S1024x768x33 ![] bcast_S_S1024x768x33 (constant S_ .f32 0x3E124925#32))
    (addf (addf (addf (addf (addf (addf (Host.gather gd x (pairs lit0 lit1 13#32)) (Host.gather gd x (pairs lit2 lit1 13#32)))
      (Host.gather gd x (pairs lit3 lit1 13#32))) (Host.gather gd x (pairs lit0 lit4 13#32)))
      (Host.gather gd x (pairs lit0 lit5 13#32))) (Host.gather gd x (pairs lit2 lit4 13#32)))
      (Host.gather gd x (pairs lit2 lit5 13#32)))

/-- The reference's result in those names: the averages scattered over zeros. -/
theorem res_eq (m : (ℓ : Loc nD τ sig) → Buf (Elt Ideal) ℓ) (c : Dev nD) :
    res_main_v88 m c = Host.scatter sd (fun _ b => b)
      (broadcastInDim S1024x768x7x7 ![] bcast_S_S1024x768x7x7 (constant S_ .f32 0x00000000#32)) (pairs lit6 lit7 7#32)
      (averages (m ((c.tc : Thread nD τ).loc main_arg0))) := rfl

/-- The average of cell `k` is the kernel's value of the cell it is written to. -/
theorem averages_apply (x : S1024x768x13x13.Idx → Ideal .f32) (u : S1024x768x33.Idx) :
    averages x u = pooled (fun t => at3 (midOf x) t (u 0).val (u 1).val)
      (7 * (lit6 (cellOf u)).toInt.toNat + (lit7 (cellOf u)).toInt.toNat) := by
  have hl := spots_lt (cellOf u)
  unfold pooled
  rw [taps_spots]
  unfold averages
  show (seventh : Ideal .f32) * (Host.gather gd x (pairs lit0 lit1 13#32) u + Host.gather gd x (pairs lit2 lit1 13#32) u
    + Host.gather gd x (pairs lit3 lit1 13#32) u + Host.gather gd x (pairs lit0 lit4 13#32) u
    + Host.gather gd x (pairs lit0 lit5 13#32) u + Host.gather gd x (pairs lit2 lit4 13#32) u
    + Host.gather gd x (pairs lit2 lit5 13#32) u) = _
  rw [gather_at3 x lit0 lit1 u (hl (_, _) (by simp [spots])), gather_at3 x lit2 lit1 u (hl (_, _) (by simp [spots])),
    gather_at3 x lit3 lit1 u (hl (_, _) (by simp [spots])), gather_at3 x lit0 lit4 u (hl (_, _) (by simp [spots])),
    gather_at3 x lit0 lit5 u (hl (_, _) (by simp [spots])), gather_at3 x lit2 lit4 u (hl (_, _) (by simp [spots])),
    gather_at3 x lit2 lit5 u (hl (_, _) (by simp [spots])), mul_comm]
  rfl

/-- Over the extended reals the reference's result is the kernel's. -/
theorem reference_value (m : (ℓ : Loc nD τ sig) → Buf (Elt Ideal) ℓ) (c : Dev nD) :
    res_main_v88 m c = resOf (F := Ideal) (m ((c.tc : Thread nD τ).loc main_arg0)) := by
  rw [res_eq]
  funext y
  obtain ⟨b, ch, p, q, rfl⟩ := eq_resIdx y
  rw [resOf_apply]
  by_cases h : taps (7 * p.val + q.val) = []
  · refine (Idealize.ShloMosaic.Routing.scatter_set_miss sd _ _ _ _ fun u hu => ?_).trans ?_
    · obtain ⟨-, -, h2, h3⟩ := (lands_iff u _ _).1 hu
      rw [pairs_fst] at h2; rw [pairs_snd] at h3
      have := taps_spots (cellOf u)
      rw [h2, h3, Int.toNat_natCast, Int.toNat_natCast] at this
      exact absurd (h.symm.trans this) (by simp [spots])
    · unfold pooled; rw [h]; rfl
  · obtain ⟨k, h2, h3⟩ := cells_all p q h
    refine Idealize.ShloMosaic.Routing.scatter_set_hit sd _ _ _ _ _ (fun u hu => ?_)
      (fun | ⟨0, _⟩ => b | ⟨1, _⟩ => ch | ⟨2, _⟩ => k) ?_
    · obtain ⟨e0, e1, e2, e3⟩ := (lands_iff u _ _).1 hu
      rw [pairs_fst] at e2; rw [pairs_snd] at e3
      rw [averages_apply, e0, e1, e2, e3, Int.toNat_natCast, Int.toNat_natCast]
    · rw [lands_iff, pairs_fst, pairs_snd]
      exact ⟨rfl, rfl, h2, h3⟩

end Cert.Proof.Pool

end
-- ==== Proof.lean ====
/-
  The certificate: the pooling kernel and the gather-and-add reference both run without fault, leave their argument and
  every semaphore counter as they were, and compute the same array over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Main
public import proofs.«01_k».proof.Proof.RefValue

@[expose] public section

noncomputable section

namespace Cert.Proof

open Idealize.ShloMosaic Idealize.SL.Sem

/-- The kernel, with floats as bit patterns, runs, leaves its argument as it was and every counter at zero: the two
    kernel programs have one text, so this is the run of the ideal one read at those floats. -/
theorem frame_kernel : Cert.quiescent_Kernel := fun m ρ _ =>
  (θ_run Cert.KernelIdeal.defs _ _).mono (fun _ h => ⟨fun c => (h.1 c).1, h.2⟩) (Pool.run_main (F := Bits) m ρ)

/-- The kernel over the extended reals runs, leaves its argument as it was and every counter at zero. -/
theorem frame_kernelIdeal : Cert.quiescent_KernelIdeal := fun m ρ _ =>
  (θ_run Cert.KernelIdeal.defs _ _).mono (fun _ h => ⟨fun c => (h.1 c).1, h.2⟩) (Pool.run_main (F := Ideal) m ρ)

/-- The reference over the extended reals runs and leaves its argument as it was; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From one input the kernel and the reference end with one result: at each batch, channel and cell, the average of the
    cell's seven positions, or zero. -/
theorem algebraic : Cert.algebraic_KernelIdeal_ReferenceIdeal := fun m ρ m' ρ' _ hagree =>
  ⟨fun c => Pool.resOf (F := Ideal) (m (Pool.argLoc c)),
    (θ_run Cert.KernelIdeal.defs _ _).mono (fun _ h c => ⟨(h.1 c).2, (h.1 c).1⟩) (Pool.run_main (F := Ideal) m ρ),
    (θ_run Cert.ReferenceIdeal.defs _ _).mono
      (fun _ h c => ⟨(h c).1.trans ((Pool.reference_value m' c).trans (congrArg (Pool.resOf (F := Ideal)) (hagree c))), (h c).2⟩)
      (Cert.ReferenceIdeal.Value.run (F := Ideal) m' ρ')⟩

/-- Everything the certificate claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
